-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.bf16_pair.PackStatement Cert.KernelIdeal.S128x128
  ∧ IdealRules.bf16_pair.Statement Cert.KernelIdeal.S128x2x128 Cert.KernelIdeal.S128x1x128
  ∧ IdealRules.bf16_pair.Statement Cert.KernelIdeal.S77x2x128 Cert.KernelIdeal.S77x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1869x20x64 : Shape := ⟨4, ![24, 1869, 20, 64]⟩
abbrev S24x20 : Shape := ⟨2, ![24, 20]⟩
abbrev S20 : Shape := ⟨1, ![20]⟩
abbrev S24x20x64x1869 : Shape := ⟨4, ![24, 20, 64, 1869]⟩
abbrev S1869x24x1280 : Shape := ⟨3, ![1869, 24, 1280]⟩
abbrev S8x2x64x1920 : Shape := ⟨4, ![8, 2, 64, 1920]⟩
abbrev S1869x8x128 : Shape := ⟨3, ![1869, 8, 128]⟩
abbrev S1920x128 : Shape := ⟨2, ![1920, 128]⟩
abbrev S2x80x1920 : Shape := ⟨3, ![2, 80, 1920]⟩
abbrev S2x128x1920 : Shape := ⟨3, ![2, 128, 1920]⟩
abbrev S64x128 : Shape := ⟨2, ![64, 128]⟩
abbrev S16x1920 : Shape := ⟨2, ![16, 1920]⟩
abbrev S1x16x1920 : Shape := ⟨3, ![1, 16, 1920]⟩
abbrev S1 : Shape := ⟨1, ![1]⟩
abbrev S1x1 : Shape := ⟨2, ![1, 1]⟩
abbrev S1x1x64x128 : Shape := ⟨4, ![1, 1, 64, 128]⟩
abbrev S1x64x128 : Shape := ⟨3, ![1, 64, 128]⟩
abbrev S128x128 : Shape := ⟨2, ![128, 128]⟩
abbrev S64x256 : Shape := ⟨2, ![64, 256]⟩
abbrev S1x1x64x256 : Shape := ⟨4, ![1, 1, 64, 256]⟩
abbrev S128x256 : Shape := ⟨2, ![128, 256]⟩
abbrev S80x128 : Shape := ⟨2, ![80, 128]⟩
abbrev S80x256 : Shape := ⟨2, ![80, 256]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S1x80x80 : Shape := ⟨3, ![1, 80, 80]⟩
abbrev S80x80 : Shape := ⟨2, ![80, 80]⟩
abbrev S1x80x256 : Shape := ⟨3, ![1, 80, 256]⟩
abbrev S1x64x256 : Shape := ⟨3, ![1, 64, 256]⟩
abbrev S128x64 : Shape := ⟨2, ![128, 64]⟩
abbrev S80x64 : Shape := ⟨2, ![80, 64]⟩
abbrev S1x1x64x1792 : Shape := ⟨4, ![1, 1, 64, 1792]⟩
abbrev S64x1792 : Shape := ⟨2, ![64, 1792]⟩
abbrev S80x1792 : Shape := ⟨2, ![80, 1792]⟩
abbrev S80 : Shape := ⟨1, ![80]⟩
abbrev S80x1 : Shape := ⟨2, ![80, 1]⟩
abbrev S1x80x1792 : Shape := ⟨3, ![1, 80, 1792]⟩
abbrev S1x80x128 : Shape := ⟨3, ![1, 80, 128]⟩
abbrev S1x80 : Shape := ⟨2, ![1, 80]⟩
abbrev S64x80 : Shape := ⟨2, ![64, 80]⟩
abbrev S1x64x80 : Shape := ⟨3, ![1, 64, 80]⟩
abbrev S1x128x128 : Shape := ⟨3, ![1, 128, 128]⟩
abbrev S1869x4x128 : Shape := ⟨3, ![1869, 4, 128]⟩
abbrev S128x1x128 : Shape := ⟨3, ![128, 1, 128]⟩
abbrev S128x2x128 : Shape := ⟨3, ![128, 2, 128]⟩
abbrev S77x128 : Shape := ⟨2, ![77, 128]⟩
abbrev S77x1x128 : Shape := ⟨3, ![77, 1, 128]⟩
abbrev S77x2x128 : Shape := ⟨3, ![77, 2, 128]⟩
abbrev S24x1869x1280 : Shape := ⟨3, ![24, 1869, 1280]⟩

abbrev nBuf : Space → Nat
  | .hbm => 12
  | .vmem => 11
  | .smem => 4
  | _ => 0

abbrev bufTy : (tb : Table) → Fin (tcTables nBuf tb) → BufTy
  | .hbm, ⟨0, _⟩ => ⟨S24x1869x20x64, .fp8e4m3⟩
  | .hbm, ⟨1, _⟩ => ⟨S24x1869x20x64, .fp8e4m3⟩
  | .hbm, ⟨2, _⟩ => ⟨S24x1869x20x64, .fp8e4m3⟩
  | .hbm, ⟨3, _⟩ => ⟨S24x20, .f32⟩
  | .hbm, ⟨4, _⟩ => ⟨S24x20, .f32⟩
  | .hbm, ⟨5, _⟩ => ⟨S24x20, .f32⟩
  | .hbm, ⟨6, _⟩ => ⟨S20, .i32⟩
  | .hbm, ⟨7, _⟩ => ⟨S24x20x64x1869, .fp8e4m3⟩
  | .hbm, ⟨8, _⟩ => ⟨S24x20x64x1869, .fp8e4m3⟩
  | .hbm, ⟨9, _⟩ => ⟨S24x20x64x1869, .fp8e4m3⟩
  | .hbm, ⟨10, _⟩ => ⟨S1869x24x1280, .bf16⟩
  | .hbm, ⟨11, _⟩ => ⟨S24x1869x1280, .bf16⟩
  | .local _ .vmem, ⟨0, _⟩ => ⟨S8x2x64x1920, .fp8e4m3⟩
  | .local _ .vmem, ⟨1, _⟩ => ⟨S8x2x64x1920, .fp8e4m3⟩
  | .local _ .vmem, ⟨2, _⟩ => ⟨S8x2x64x1920, .fp8e4m3⟩
  | .local _ .vmem, ⟨3, _⟩ => ⟨S8x2x64x1920, .fp8e4m3⟩
  | .local _ .vmem, ⟨4, _⟩ => ⟨S8x2x64x1920, .fp8e4m3⟩
  | .local _ .vmem, ⟨5, _⟩ => ⟨S8x2x64x1920, .fp8e4m3⟩
  | .local _ .vmem, ⟨6, _⟩ => ⟨S1869x8x128, .bf16⟩
  | .local _ .vmem, ⟨7, _⟩ => ⟨S1869x8x128, .bf16⟩
  | .local _ .vmem, ⟨8, _⟩ => ⟨S1920x128, .fp8e4m3⟩
  | .local _ .vmem, ⟨9, _⟩ => ⟨S2x80x1920, .bf16⟩
  | .local _ .vmem, ⟨10, _⟩ => ⟨S2x128x1920, .f32⟩
  | .local _ .smem, ⟨0, _⟩ => ⟨S24x20, .f32⟩
  | .local _ .smem, ⟨1, _⟩ => ⟨S24x20, .f32⟩
  | .local _ .smem, ⟨2, _⟩ => ⟨S24x20, .f32⟩
  | .local _ .smem, ⟨3, _⟩ => ⟨S20, .i32⟩
  | _, _ => ⟨S24x1869x20x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [BitOps F]

abbrev grid0 : Pipeline.Grid := ⟨2, ![3, 10], ![false, false]⟩

@[reducible] def k0_t1_loop : Scf.Loop 32 :=
  let c0_i32_4 : BitVec 32 := 0#32
  let c4_i32 : BitVec 32 := 4#32
  let v16 : BitVec 32 := Scalar.addi c0_i32_4 c4_i32
  let c1_i32 : BitVec 32 := 1#32
  ⟨c0_i32_4, v16, c1_i32⟩
def k0_off1 (i : grid0.Coords) (k0_t1 : Fin k0_t1_loop.trips) (c0_i32_10 : BitVec 32) : Fin 2 → Nat :=
  let arg0 : BitVec 32 := BitVec.ofNat 32 (i 0).val
  let c8_i32 : BitVec 32 := 8#32
  let v52 : BitVec 32 := Scalar.muli arg0 c8_i32
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v53 : BitVec 32 := Scalar.addi v52 v51
  let v54 : BitVec 32 := Scalar.addi v53 c0_i32_10
  let v55 : Index := Scalar.indexCast v54
  let arg1 : BitVec 32 := BitVec.ofNat 32 (i 1).val
  let c2_i32 : BitVec 32 := 2#32
  let v17 : BitVec 32 := Scalar.muli arg1 c2_i32
  let c0_i32_6 : BitVec 32 := 0#32
  let v18 : BitVec 32 := Scalar.addi v17 c0_i32_6
  let v56 : Index := Scalar.indexCast v18
  ![v55.toNat, v56.toNat]
def k0_off2 (k0_t1 : Fin k0_t1_loop.trips) (c0_i32_17 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v82 : BitVec 32 := Scalar.addi v51 c0_i32_17
  let v83 : Index := Scalar.indexCast v82
  let c0_18 : Index := 0#32
  let c0_19 : Index := 0#32
  let c0_20 : Index := 0#32
  ![v83.toNat, 0, 0, 0]
def k0_off3 (k0_t1 : Fin k0_t1_loop.trips) (c0_i32_41 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v114 : BitVec 32 := Scalar.addi v51 c0_i32_41
  let v115 : Index := Scalar.indexCast v114
  let c0_42 : Index := 0#32
  let c0_43 : Index := 0#32
  let c128 : Index := 128#32
  ![v115.toNat, 0, 0, 128]
def k0_off4 (k0_t1 : Fin k0_t1_loop.trips) (c0_i32_64 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v146 : BitVec 32 := Scalar.addi v51 c0_i32_64
  let v147 : Index := Scalar.indexCast v146
  let c0_65 : Index := 0#32
  let c0_66 : Index := 0#32
  let c256 : Index := 256#32
  ![v147.toNat, 0, 0, 256]
def k0_off5 (k0_t1 : Fin k0_t1_loop.trips) (c0_i32_87 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v178 : BitVec 32 := Scalar.addi v51 c0_i32_87
  let v179 : Index := Scalar.indexCast v178
  let c0_88 : Index := 0#32
  let c0_89 : Index := 0#32
  let c384 : Index := 384#32
  ![v179.toNat, 0, 0, 384]
def k0_off6 (k0_t1 : Fin k0_t1_loop.trips) (c0_i32_110 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v210 : BitVec 32 := Scalar.addi v51 c0_i32_110
  let v211 : Index := Scalar.indexCast v210
  let c0_111 : Index := 0#32
  let c0_112 : Index := 0#32
  let c512 : Index := 512#32
  ![v211.toNat, 0, 0, 512]
def k0_off7 (k0_t1 : Fin k0_t1_loop.trips) (c0_i32_133 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v242 : BitVec 32 := Scalar.addi v51 c0_i32_133
  let v243 : Index := Scalar.indexCast v242
  let c0_134 : Index := 0#32
  let c0_135 : Index := 0#32
  let c640 : Index := 640#32
  ![v243.toNat, 0, 0, 640]
def k0_off8 (k0_t1 : Fin k0_t1_loop.trips) (c0_i32_156 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v274 : BitVec 32 := Scalar.addi v51 c0_i32_156
  let v275 : Index := Scalar.indexCast v274
  let c0_157 : Index := 0#32
  let c0_158 : Index := 0#32
  let c768 : Index := 768#32
  ![v275.toNat, 0, 0, 768]
def k0_off9 (k0_t1 : Fin k0_t1_loop.trips) (c0_i32_179 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v306 : BitVec 32 := Scalar.addi v51 c0_i32_179
  let v307 : Index := Scalar.indexCast v306
  let c0_180 : Index := 0#32
  let c0_181 : Index := 0#32
  let c896 : Index := 896#32
  ![v307.toNat, 0, 0, 896]
def k0_off10 (k0_t1 : Fin k0_t1_loop.trips) (c0_i32_202 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v338 : BitVec 32 := Scalar.addi v51 c0_i32_202
  let v339 : Index := Scalar.indexCast v338
  let c0_203 : Index := 0#32
  let c0_204 : Index := 0#32
  let c1024 : Index := 1024#32
  ![v339.toNat, 0, 0, 1024]
def k0_off11 (k0_t1 : Fin k0_t1_loop.trips) (c0_i32_225 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v370 : BitVec 32 := Scalar.addi v51 c0_i32_225
  let v371 : Index := Scalar.indexCast v370
  let c0_226 : Index := 0#32
  let c0_227 : Index := 0#32
  let c1152 : Index := 1152#32
  ![v371.toNat, 0, 0, 1152]
def k0_off12 (k0_t1 : Fin k0_t1_loop.trips) (c0_i32_248 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v402 : BitVec 32 := Scalar.addi v51 c0_i32_248
  let v403 : Index := Scalar.indexCast v402
  let c0_249 : Index := 0#32
  let c0_250 : Index := 0#32
  let c1280 : Index := 1280#32
  ![v403.toNat, 0, 0, 1280]
def k0_off13 (k0_t1 : Fin k0_t1_loop.trips) (c0_i32_271 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v434 : BitVec 32 := Scalar.addi v51 c0_i32_271
  let v435 : Index := Scalar.indexCast v434
  let c0_272 : Index := 0#32
  let c0_273 : Index := 0#32
  let c1408 : Index := 1408#32
  ![v435.toNat, 0, 0, 1408]
def k0_off14 (k0_t1 : Fin k0_t1_loop.trips) (c0_i32_294 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v466 : BitVec 32 := Scalar.addi v51 c0_i32_294
  let v467 : Index := Scalar.indexCast v466
  let c0_295 : Index := 0#32
  let c0_296 : Index := 0#32
  let c1536 : Index := 1536#32
  ![v467.toNat, 0, 0, 1536]
def k0_off15 (k0_t1 : Fin k0_t1_loop.trips) (c0_i32_317 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v498 : BitVec 32 := Scalar.addi v51 c0_i32_317
  let v499 : Index := Scalar.indexCast v498
  let c0_318 : Index := 0#32
  let c0_319 : Index := 0#32
  let c1664 : Index := 1664#32
  ![v499.toNat, 0, 0, 1664]
def k0_off16 (k0_t1 : Fin k0_t1_loop.trips) (c0_i32_340 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v530 : BitVec 32 := Scalar.addi v51 c0_i32_340
  let v531 : Index := Scalar.indexCast v530
  let c0_341 : Index := 0#32
  let c0_342 : Index := 0#32
  let c1792 : Index := 1792#32
  ![v531.toNat, 0, 0, 1792]
def k0_off17 (k0_t1 : Fin k0_t1_loop.trips) (c0_i32_880 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1316 : BitVec 32 := Scalar.addi v51 c0_i32_880
  let v1317 : Index := Scalar.indexCast v1316
  let c0_881 : Index := 0#32
  let c0_882 : Index := 0#32
  let c0_883 : Index := 0#32
  ![v1317.toNat, 0, 0, 0]
def k0_off18 (k0_t1 : Fin k0_t1_loop.trips) (c0_i32_905 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1363 : BitVec 32 := Scalar.addi v51 c0_i32_905
  let v1364 : Index := Scalar.indexCast v1363
  let c0_906 : Index := 0#32
  let c0_907 : Index := 0#32
  let c1792_908 : Index := 1792#32
  ![v1364.toNat, 0, 0, 1792]
def k0_off19 (k0_t1 : Fin k0_t1_loop.trips) (c0_i32_910 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1373 : BitVec 32 := Scalar.addi v51 c0_i32_910
  let v1374 : Index := Scalar.indexCast v1373
  let c0_911 : Index := 0#32
  let c0_912 : Index := 0#32
  let c0_913 : Index := 0#32
  ![v1374.toNat, 0, 0, 0]
def k0_off20 (k0_t1 : Fin k0_t1_loop.trips) (c0_i32_990 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1526 : BitVec 32 := Scalar.addi v51 c0_i32_990
  let v1527 : Index := Scalar.indexCast v1526
  let c0_991 : Index := 0#32
  let c0_992 : Index := 0#32
  let c256_993 : Index := 256#32
  ![v1527.toNat, 0, 0, 256]
def k0_off21 (k0_t1 : Fin k0_t1_loop.trips) (c0_i32_1056 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1650 : BitVec 32 := Scalar.addi v51 c0_i32_1056
  let v1651 : Index := Scalar.indexCast v1650
  let c0_1057 : Index := 0#32
  let c0_1058 : Index := 0#32
  let c512_1059 : Index := 512#32
  ![v1651.toNat, 0, 0, 512]
def k0_off22 (k0_t1 : Fin k0_t1_loop.trips) (c0_i32_1122 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1774 : BitVec 32 := Scalar.addi v51 c0_i32_1122
  let v1775 : Index := Scalar.indexCast v1774
  let c0_1123 : Index := 0#32
  let c0_1124 : Index := 0#32
  let c768_1125 : Index := 768#32
  ![v1775.toNat, 0, 0, 768]
def k0_off23 (k0_t1 : Fin k0_t1_loop.trips) (c0_i32_1188 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1898 : BitVec 32 := Scalar.addi v51 c0_i32_1188
  let v1899 : Index := Scalar.indexCast v1898
  let c0_1189 : Index := 0#32
  let c0_1190 : Index := 0#32
  let c1024_1191 : Index := 1024#32
  ![v1899.toNat, 0, 0, 1024]
def k0_off24 (k0_t1 : Fin k0_t1_loop.trips) (c0_i32_1254 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v2022 : BitVec 32 := Scalar.addi v51 c0_i32_1254
  let v2023 : Index := Scalar.indexCast v2022
  let c0_1255 : Index := 0#32
  let c0_1256 : Index := 0#32
  let c1280_1257 : Index := 1280#32
  ![v2023.toNat, 0, 0, 1280]
def k0_off25 (k0_t1 : Fin k0_t1_loop.trips) (c0_i32_1320 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v2146 : BitVec 32 := Scalar.addi v51 c0_i32_1320
  let v2147 : Index := Scalar.indexCast v2146
  let c0_1321 : Index := 0#32
  let c0_1322 : Index := 0#32
  let c1536_1323 : Index := 1536#32
  ![v2147.toNat, 0, 0, 1536]
def k0_off26 (k0_t1 : Fin k0_t1_loop.trips) (c0_i32_880 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1316 : BitVec 32 := Scalar.addi v51 c0_i32_880
  let v1317 : Index := Scalar.indexCast v1316
  let c0_881 : Index := 0#32
  let c0_882 : Index := 0#32
  let c0_883 : Index := 0#32
  ![v1317.toNat, 0, 0, 0]
def k0_off27 (k0_t1 : Fin k0_t1_loop.trips) (c0_i32_898 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1345 : BitVec 32 := Scalar.addi v51 c0_i32_898
  let v1346 : Index := Scalar.indexCast v1345
  let c0_899 : Index := 0#32
  let c0_900 : Index := 0#32
  let c256_901 : Index := 256#32
  ![v1346.toNat, 0, 0, 256]
def k0_off28 (k0_t1 : Fin k0_t1_loop.trips) (c0_i32_903 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1355 : BitVec 32 := Scalar.addi v51 c0_i32_903
  let v1356 : Index := Scalar.indexCast v1355
  let c0_904 : Index := 0#32
  let c0_905 : Index := 0#32
  let c512_906 : Index := 512#32
  ![v1356.toNat, 0, 0, 512]
def k0_off29 (k0_t1 : Fin k0_t1_loop.trips) (c0_i32_908 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1365 : BitVec 32 := Scalar.addi v51 c0_i32_908
  let v1366 : Index := Scalar.indexCast v1365
  let c0_909 : Index := 0#32
  let c0_910 : Index := 0#32
  let c768_911 : Index := 768#32
  ![v1366.toNat, 0, 0, 768]
def k0_off30 (k0_t1 : Fin k0_t1_loop.trips) (c0_i32_913 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1375 : BitVec 32 := Scalar.addi v51 c0_i32_913
  let v1376 : Index := Scalar.indexCast v1375
  let c0_914 : Index := 0#32
  let c0_915 : Index := 0#32
  let c1024_916 : Index := 1024#32
  ![v1376.toNat, 0, 0, 1024]
def k0_off31 (k0_t1 : Fin k0_t1_loop.trips) (c0_i32_918 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1385 : BitVec 32 := Scalar.addi v51 c0_i32_918
  let v1386 : Index := Scalar.indexCast v1385
  let c0_919 : Index := 0#32
  let c0_920 : Index := 0#32
  let c1280_921 : Index := 1280#32
  ![v1386.toNat, 0, 0, 1280]
def k0_off32 (k0_t1 : Fin k0_t1_loop.trips) (c0_i32_923 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v1395 : BitVec 32 := Scalar.addi v51 c0_i32_923
  let v1396 : Index := Scalar.indexCast v1395
  let c0_924 : Index := 0#32
  let c0_925 : Index := 0#32
  let c1536_926 : Index := 1536#32
  ![v1396.toNat, 0, 0, 1536]
def k0_off33 (k0_t1 : Fin k0_t1_loop.trips) (c0_i32_1468 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v2751 : BitVec 32 := Scalar.addi v51 c0_i32_1468
  let v2752 : Index := Scalar.indexCast v2751
  let c0_1469 : Index := 0#32
  let c0_1470 : Index := 0#32
  let c1792_1471 : Index := 1792#32
  ![v2752.toNat, 0, 0, 1792]
def k0_off34 (k0_t1 : Fin k0_t1_loop.trips) (c0_i32_1473 : BitVec 32) : Fin 4 → Nat :=
  let c0_i32_4 : BitVec 32 := 0#32
  let c1_i32 : BitVec 32 := 1#32
  let arg13 : BitVec 32 := Scf.iv c0_i32_4 c1_i32 k0_t1
  let c2_i32_9 : BitVec 32 := 2#32
  let v51 : BitVec 32 := Scalar.muli arg13 c2_i32_9
  let v2761 : BitVec 32 := Scalar.addi v51 c0_i32_1473
  let v2762 : Index := Scalar.indexCast v2761
  let c0_1474 : Index := 0#32
  let c0_1475 : Index := 0#32
  let c0_1476 : Index := 0#32
  ![v2762.toNat, 0, 0, 0]
def k0_off35 (i : grid0.Coords) (k0_t1 : Fin k0_t1_loop.trips) (c0_i32_385 : BitVec 32) : Fin 2 → Nat :=
  let arg0 : BitVec 32 := BitVec.ofNat 32 (i 0).val
  let c8_i32_384 : BitVec 32 := 8#32
  let v611 : BitVec 32 := Scalar.muli arg0 c8_i32_384
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v612 : BitVec 32 := Scalar.addi v611 v610
  let v613 : BitVec 32 := Scalar.addi v612 c0_i32_385
  let v614 : Index := Scalar.indexCast v613
  let arg1 : BitVec 32 := BitVec.ofNat 32 (i 1).val
  let c2_i32_370 : BitVec 32 := 2#32
  let v576 : BitVec 32 := Scalar.muli arg1 c2_i32_370
  let c1_i32_371 : BitVec 32 := 1#32
  let v577 : BitVec 32 := Scalar.addi v576 c1_i32_371
  let v615 : Index := Scalar.indexCast v577
  ![v614.toNat, v615.toNat]
def k0_off36 (k0_t1 : Fin k0_t1_loop.trips) (c0_i32_392 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v641 : BitVec 32 := Scalar.addi v610 c0_i32_392
  let v642 : Index := Scalar.indexCast v641
  let c1_393 : Index := 1#32
  let c0_394 : Index := 0#32
  let c0_395 : Index := 0#32
  ![v642.toNat, 1, 0, 0]
def k0_off37 (k0_t1 : Fin k0_t1_loop.trips) (c0_i32_416 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v673 : BitVec 32 := Scalar.addi v610 c0_i32_416
  let v674 : Index := Scalar.indexCast v673
  let c1_417 : Index := 1#32
  let c0_418 : Index := 0#32
  let c128_419 : Index := 128#32
  ![v674.toNat, 1, 0, 128]
def k0_off38 (k0_t1 : Fin k0_t1_loop.trips) (c0_i32_440 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v705 : BitVec 32 := Scalar.addi v610 c0_i32_440
  let v706 : Index := Scalar.indexCast v705
  let c1_441 : Index := 1#32
  let c0_442 : Index := 0#32
  let c256_443 : Index := 256#32
  ![v706.toNat, 1, 0, 256]
def k0_off39 (k0_t1 : Fin k0_t1_loop.trips) (c0_i32_464 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v737 : BitVec 32 := Scalar.addi v610 c0_i32_464
  let v738 : Index := Scalar.indexCast v737
  let c1_465 : Index := 1#32
  let c0_466 : Index := 0#32
  let c384_467 : Index := 384#32
  ![v738.toNat, 1, 0, 384]
def k0_off40 (k0_t1 : Fin k0_t1_loop.trips) (c0_i32_488 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v769 : BitVec 32 := Scalar.addi v610 c0_i32_488
  let v770 : Index := Scalar.indexCast v769
  let c1_489 : Index := 1#32
  let c0_490 : Index := 0#32
  let c512_491 : Index := 512#32
  ![v770.toNat, 1, 0, 512]
def k0_off41 (k0_t1 : Fin k0_t1_loop.trips) (c0_i32_512 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v801 : BitVec 32 := Scalar.addi v610 c0_i32_512
  let v802 : Index := Scalar.indexCast v801
  let c1_513 : Index := 1#32
  let c0_514 : Index := 0#32
  let c640_515 : Index := 640#32
  ![v802.toNat, 1, 0, 640]
def k0_off42 (k0_t1 : Fin k0_t1_loop.trips) (c0_i32_536 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v833 : BitVec 32 := Scalar.addi v610 c0_i32_536
  let v834 : Index := Scalar.indexCast v833
  let c1_537 : Index := 1#32
  let c0_538 : Index := 0#32
  let c768_539 : Index := 768#32
  ![v834.toNat, 1, 0, 768]
def k0_off43 (k0_t1 : Fin k0_t1_loop.trips) (c0_i32_560 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v865 : BitVec 32 := Scalar.addi v610 c0_i32_560
  let v866 : Index := Scalar.indexCast v865
  let c1_561 : Index := 1#32
  let c0_562 : Index := 0#32
  let c896_563 : Index := 896#32
  ![v866.toNat, 1, 0, 896]
def k0_off44 (k0_t1 : Fin k0_t1_loop.trips) (c0_i32_584 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v897 : BitVec 32 := Scalar.addi v610 c0_i32_584
  let v898 : Index := Scalar.indexCast v897
  let c1_585 : Index := 1#32
  let c0_586 : Index := 0#32
  let c1024_587 : Index := 1024#32
  ![v898.toNat, 1, 0, 1024]
def k0_off45 (k0_t1 : Fin k0_t1_loop.trips) (c0_i32_608 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v929 : BitVec 32 := Scalar.addi v610 c0_i32_608
  let v930 : Index := Scalar.indexCast v929
  let c1_609 : Index := 1#32
  let c0_610 : Index := 0#32
  let c1152_611 : Index := 1152#32
  ![v930.toNat, 1, 0, 1152]
def k0_off46 (k0_t1 : Fin k0_t1_loop.trips) (c0_i32_632 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v961 : BitVec 32 := Scalar.addi v610 c0_i32_632
  let v962 : Index := Scalar.indexCast v961
  let c1_633 : Index := 1#32
  let c0_634 : Index := 0#32
  let c1280_635 : Index := 1280#32
  ![v962.toNat, 1, 0, 1280]
def k0_off47 (k0_t1 : Fin k0_t1_loop.trips) (c0_i32_656 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v993 : BitVec 32 := Scalar.addi v610 c0_i32_656
  let v994 : Index := Scalar.indexCast v993
  let c1_657 : Index := 1#32
  let c0_658 : Index := 0#32
  let c1408_659 : Index := 1408#32
  ![v994.toNat, 1, 0, 1408]
def k0_off48 (k0_t1 : Fin k0_t1_loop.trips) (c0_i32_680 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1025 : BitVec 32 := Scalar.addi v610 c0_i32_680
  let v1026 : Index := Scalar.indexCast v1025
  let c1_681 : Index := 1#32
  let c0_682 : Index := 0#32
  let c1536_683 : Index := 1536#32
  ![v1026.toNat, 1, 0, 1536]
def k0_off49 (k0_t1 : Fin k0_t1_loop.trips) (c0_i32_704 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1057 : BitVec 32 := Scalar.addi v610 c0_i32_704
  let v1058 : Index := Scalar.indexCast v1057
  let c1_705 : Index := 1#32
  let c0_706 : Index := 0#32
  let c1664_707 : Index := 1664#32
  ![v1058.toNat, 1, 0, 1664]
def k0_off50 (k0_t1 : Fin k0_t1_loop.trips) (c0_i32_728 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1089 : BitVec 32 := Scalar.addi v610 c0_i32_728
  let v1090 : Index := Scalar.indexCast v1089
  let c1_729 : Index := 1#32
  let c0_730 : Index := 0#32
  let c1792_731 : Index := 1792#32
  ![v1090.toNat, 1, 0, 1792]
def k0_off51 (k0_t1 : Fin k0_t1_loop.trips) (c0_i32_880 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1316 : BitVec 32 := Scalar.addi v610 c0_i32_880
  let v1317 : Index := Scalar.indexCast v1316
  let c1_881 : Index := 1#32
  let c0_882 : Index := 0#32
  let c0_883 : Index := 0#32
  ![v1317.toNat, 1, 0, 0]
def k0_off52 (k0_t1 : Fin k0_t1_loop.trips) (c0_i32_905 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1363 : BitVec 32 := Scalar.addi v610 c0_i32_905
  let v1364 : Index := Scalar.indexCast v1363
  let c1_906 : Index := 1#32
  let c0_907 : Index := 0#32
  let c1792_908 : Index := 1792#32
  ![v1364.toNat, 1, 0, 1792]
def k0_off53 (k0_t1 : Fin k0_t1_loop.trips) (c0_i32_910 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1373 : BitVec 32 := Scalar.addi v610 c0_i32_910
  let v1374 : Index := Scalar.indexCast v1373
  let c1_911 : Index := 1#32
  let c0_912 : Index := 0#32
  let c0_913 : Index := 0#32
  ![v1374.toNat, 1, 0, 0]
def k0_off54 (k0_t1 : Fin k0_t1_loop.trips) (c0_i32_990 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1526 : BitVec 32 := Scalar.addi v610 c0_i32_990
  let v1527 : Index := Scalar.indexCast v1526
  let c1_991 : Index := 1#32
  let c0_992 : Index := 0#32
  let c256_993 : Index := 256#32
  ![v1527.toNat, 1, 0, 256]
def k0_off55 (k0_t1 : Fin k0_t1_loop.trips) (c0_i32_1056 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1650 : BitVec 32 := Scalar.addi v610 c0_i32_1056
  let v1651 : Index := Scalar.indexCast v1650
  let c1_1057 : Index := 1#32
  let c0_1058 : Index := 0#32
  let c512_1059 : Index := 512#32
  ![v1651.toNat, 1, 0, 512]
def k0_off56 (k0_t1 : Fin k0_t1_loop.trips) (c0_i32_1122 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1774 : BitVec 32 := Scalar.addi v610 c0_i32_1122
  let v1775 : Index := Scalar.indexCast v1774
  let c1_1123 : Index := 1#32
  let c0_1124 : Index := 0#32
  let c768_1125 : Index := 768#32
  ![v1775.toNat, 1, 0, 768]
def k0_off57 (k0_t1 : Fin k0_t1_loop.trips) (c0_i32_1188 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1898 : BitVec 32 := Scalar.addi v610 c0_i32_1188
  let v1899 : Index := Scalar.indexCast v1898
  let c1_1189 : Index := 1#32
  let c0_1190 : Index := 0#32
  let c1024_1191 : Index := 1024#32
  ![v1899.toNat, 1, 0, 1024]
def k0_off58 (k0_t1 : Fin k0_t1_loop.trips) (c0_i32_1254 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v2022 : BitVec 32 := Scalar.addi v610 c0_i32_1254
  let v2023 : Index := Scalar.indexCast v2022
  let c1_1255 : Index := 1#32
  let c0_1256 : Index := 0#32
  let c1280_1257 : Index := 1280#32
  ![v2023.toNat, 1, 0, 1280]
def k0_off59 (k0_t1 : Fin k0_t1_loop.trips) (c0_i32_1320 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v2146 : BitVec 32 := Scalar.addi v610 c0_i32_1320
  let v2147 : Index := Scalar.indexCast v2146
  let c1_1321 : Index := 1#32
  let c0_1322 : Index := 0#32
  let c1536_1323 : Index := 1536#32
  ![v2147.toNat, 1, 0, 1536]
def k0_off60 (k0_t1 : Fin k0_t1_loop.trips) (c0_i32_880 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1316 : BitVec 32 := Scalar.addi v610 c0_i32_880
  let v1317 : Index := Scalar.indexCast v1316
  let c1_881 : Index := 1#32
  let c0_882 : Index := 0#32
  let c0_883 : Index := 0#32
  ![v1317.toNat, 1, 0, 0]
def k0_off61 (k0_t1 : Fin k0_t1_loop.trips) (c0_i32_898 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1345 : BitVec 32 := Scalar.addi v610 c0_i32_898
  let v1346 : Index := Scalar.indexCast v1345
  let c1_899 : Index := 1#32
  let c0_900 : Index := 0#32
  let c256_901 : Index := 256#32
  ![v1346.toNat, 1, 0, 256]
def k0_off62 (k0_t1 : Fin k0_t1_loop.trips) (c0_i32_903 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1355 : BitVec 32 := Scalar.addi v610 c0_i32_903
  let v1356 : Index := Scalar.indexCast v1355
  let c1_904 : Index := 1#32
  let c0_905 : Index := 0#32
  let c512_906 : Index := 512#32
  ![v1356.toNat, 1, 0, 512]
def k0_off63 (k0_t1 : Fin k0_t1_loop.trips) (c0_i32_908 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1365 : BitVec 32 := Scalar.addi v610 c0_i32_908
  let v1366 : Index := Scalar.indexCast v1365
  let c1_909 : Index := 1#32
  let c0_910 : Index := 0#32
  let c768_911 : Index := 768#32
  ![v1366.toNat, 1, 0, 768]
def k0_off64 (k0_t1 : Fin k0_t1_loop.trips) (c0_i32_913 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1375 : BitVec 32 := Scalar.addi v610 c0_i32_913
  let v1376 : Index := Scalar.indexCast v1375
  let c1_914 : Index := 1#32
  let c0_915 : Index := 0#32
  let c1024_916 : Index := 1024#32
  ![v1376.toNat, 1, 0, 1024]
def k0_off65 (k0_t1 : Fin k0_t1_loop.trips) (c0_i32_918 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1385 : BitVec 32 := Scalar.addi v610 c0_i32_918
  let v1386 : Index := Scalar.indexCast v1385
  let c1_919 : Index := 1#32
  let c0_920 : Index := 0#32
  let c1280_921 : Index := 1280#32
  ![v1386.toNat, 1, 0, 1280]
def k0_off66 (k0_t1 : Fin k0_t1_loop.trips) (c0_i32_923 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v1395 : BitVec 32 := Scalar.addi v610 c0_i32_923
  let v1396 : Index := Scalar.indexCast v1395
  let c1_924 : Index := 1#32
  let c0_925 : Index := 0#32
  let c1536_926 : Index := 1536#32
  ![v1396.toNat, 1, 0, 1536]
def k0_off67 (k0_t1 : Fin k0_t1_loop.trips) (c0_i32_1468 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v2751 : BitVec 32 := Scalar.addi v610 c0_i32_1468
  let v2752 : Index := Scalar.indexCast v2751
  let c1_1469 : Index := 1#32
  let c0_1470 : Index := 0#32
  let c1792_1471 : Index := 1792#32
  ![v2752.toNat, 1, 0, 1792]
def k0_off68 (k0_t1 : Fin k0_t1_loop.trips) (c0_i32_1473 : BitVec 32) : Fin 4 → Nat :=
  let c0_i32_4 : BitVec 32 := 0#32
  let c1_i32 : BitVec 32 := 1#32
  let arg13 : BitVec 32 := Scf.iv c0_i32_4 c1_i32 k0_t1
  let c2_i32_383 : BitVec 32 := 2#32
  let v610 : BitVec 32 := Scalar.muli arg13 c2_i32_383
  let v2761 : BitVec 32 := Scalar.addi v610 c0_i32_1473
  let v2762 : Index := Scalar.indexCast v2761
  let c1_1474 : Index := 1#32
  let c0_1475 : Index := 0#32
  let c0_1476 : Index := 0#32
  ![v2762.toNat, 1, 0, 0]
def k0_off69 (k0_t1 : Fin k0_t1_loop.trips) : Fin 3 → Nat :=
  let c0_766 : Index := 0#32
  let c0_i32_4 : BitVec 32 := 0#32
  let c1_i32 : BitVec 32 := 1#32
  let arg13 : BitVec 32 := Scf.iv c0_i32_4 c1_i32 k0_t1
  let v1143 : Index := Scalar.indexCast arg13
  let c0_767 : Index := 0#32
  ![0, Nat.mul 2 v1143.toNat, 0]
def k0_off70 (k0_t1 : Fin k0_t1_loop.trips) : Fin 3 → Nat :=
  let c128_774 : Index := 128#32
  let c0_i32_4 : BitVec 32 := 0#32
  let c1_i32 : BitVec 32 := 1#32
  let arg13 : BitVec 32 := Scf.iv c0_i32_4 c1_i32 k0_t1
  let v1155 : Index := Scalar.indexCast arg13
  let c0_775 : Index := 0#32
  ![128, Nat.mul 2 v1155.toNat, 0]
def k0_off71 (k0_t1 : Fin k0_t1_loop.trips) : Fin 3 → Nat :=
  let c256_782 : Index := 256#32
  let c0_i32_4 : BitVec 32 := 0#32
  let c1_i32 : BitVec 32 := 1#32
  let arg13 : BitVec 32 := Scf.iv c0_i32_4 c1_i32 k0_t1
  let v1167 : Index := Scalar.indexCast arg13
  let c0_783 : Index := 0#32
  ![256, Nat.mul 2 v1167.toNat, 0]
def k0_off72 (k0_t1 : Fin k0_t1_loop.trips) : Fin 3 → Nat :=
  let c384_790 : Index := 384#32
  let c0_i32_4 : BitVec 32 := 0#32
  let c1_i32 : BitVec 32 := 1#32
  let arg13 : BitVec 32 := Scf.iv c0_i32_4 c1_i32 k0_t1
  let v1179 : Index := Scalar.indexCast arg13
  let c0_791 : Index := 0#32
  ![384, Nat.mul 2 v1179.toNat, 0]
def k0_off73 (k0_t1 : Fin k0_t1_loop.trips) : Fin 3 → Nat :=
  let c512_798 : Index := 512#32
  let c0_i32_4 : BitVec 32 := 0#32
  let c1_i32 : BitVec 32 := 1#32
  let arg13 : BitVec 32 := Scf.iv c0_i32_4 c1_i32 k0_t1
  let v1191 : Index := Scalar.indexCast arg13
  let c0_799 : Index := 0#32
  ![512, Nat.mul 2 v1191.toNat, 0]
def k0_off74 (k0_t1 : Fin k0_t1_loop.trips) : Fin 3 → Nat :=
  let c640_806 : Index := 640#32
  let c0_i32_4 : BitVec 32 := 0#32
  let c1_i32 : BitVec 32 := 1#32
  let arg13 : BitVec 32 := Scf.iv c0_i32_4 c1_i32 k0_t1
  let v1203 : Index := Scalar.indexCast arg13
  let c0_807 : Index := 0#32
  ![640, Nat.mul 2 v1203.toNat, 0]
def k0_off75 (k0_t1 : Fin k0_t1_loop.trips) : Fin 3 → Nat :=
  let c768_814 : Index := 768#32
  let c0_i32_4 : BitVec 32 := 0#32
  let c1_i32 : BitVec 32 := 1#32
  let arg13 : BitVec 32 := Scf.iv c0_i32_4 c1_i32 k0_t1
  let v1215 : Index := Scalar.indexCast arg13
  let c0_815 : Index := 0#32
  ![768, Nat.mul 2 v1215.toNat, 0]
def k0_off76 (k0_t1 : Fin k0_t1_loop.trips) : Fin 3 → Nat :=
  let c896_822 : Index := 896#32
  let c0_i32_4 : BitVec 32 := 0#32
  let c1_i32 : BitVec 32 := 1#32
  let arg13 : BitVec 32 := Scf.iv c0_i32_4 c1_i32 k0_t1
  let v1227 : Index := Scalar.indexCast arg13
  let c0_823 : Index := 0#32
  ![896, Nat.mul 2 v1227.toNat, 0]
def k0_off77 (k0_t1 : Fin k0_t1_loop.trips) : Fin 3 → Nat :=
  let c1024_830 : Index := 1024#32
  let c0_i32_4 : BitVec 32 := 0#32
  let c1_i32 : BitVec 32 := 1#32
  let arg13 : BitVec 32 := Scf.iv c0_i32_4 c1_i32 k0_t1
  let v1239 : Index := Scalar.indexCast arg13
  let c0_831 : Index := 0#32
  ![1024, Nat.mul 2 v1239.toNat, 0]
def k0_off78 (k0_t1 : Fin k0_t1_loop.trips) : Fin 3 → Nat :=
  let c1152_838 : Index := 1152#32
  let c0_i32_4 : BitVec 32 := 0#32
  let c1_i32 : BitVec 32 := 1#32
  let arg13 : BitVec 32 := Scf.iv c0_i32_4 c1_i32 k0_t1
  let v1251 : Index := Scalar.indexCast arg13
  let c0_839 : Index := 0#32
  ![1152, Nat.mul 2 v1251.toNat, 0]
def k0_off79 (k0_t1 : Fin k0_t1_loop.trips) : Fin 3 → Nat :=
  let c1280_846 : Index := 1280#32
  let c0_i32_4 : BitVec 32 := 0#32
  let c1_i32 : BitVec 32 := 1#32
  let arg13 : BitVec 32 := Scf.iv c0_i32_4 c1_i32 k0_t1
  let v1263 : Index := Scalar.indexCast arg13
  let c0_847 : Index := 0#32
  ![1280, Nat.mul 2 v1263.toNat, 0]
def k0_off80 (k0_t1 : Fin k0_t1_loop.trips) : Fin 3 → Nat :=
  let c1408_854 : Index := 1408#32
  let c0_i32_4 : BitVec 32 := 0#32
  let c1_i32 : BitVec 32 := 1#32
  let arg13 : BitVec 32 := Scf.iv c0_i32_4 c1_i32 k0_t1
  let v1275 : Index := Scalar.indexCast arg13
  let c0_855 : Index := 0#32
  ![1408, Nat.mul 2 v1275.toNat, 0]
def k0_off81 (k0_t1 : Fin k0_t1_loop.trips) : Fin 3 → Nat :=
  let c1536_862 : Index := 1536#32
  let c0_i32_4 : BitVec 32 := 0#32
  let c1_i32 : BitVec 32 := 1#32
  let arg13 : BitVec 32 := Scf.iv c0_i32_4 c1_i32 k0_t1
  let v1287 : Index := Scalar.indexCast arg13
  let c0_863 : Index := 0#32
  ![1536, Nat.mul 2 v1287.toNat, 0]
def k0_off82 (k0_t1 : Fin k0_t1_loop.trips) : Fin 3 → Nat :=
  let c1664_870 : Index := 1664#32
  let c0_i32_4 : BitVec 32 := 0#32
  let c1_i32 : BitVec 32 := 1#32
  let arg13 : BitVec 32 := Scf.iv c0_i32_4 c1_i32 k0_t1
  let v1299 : Index := Scalar.indexCast arg13
  let c0_871 : Index := 0#32
  ![1664, Nat.mul 2 v1299.toNat, 0]
def k0_off83 (k0_t1 : Fin k0_t1_loop.trips) : Fin 3 → Nat :=
  let c1792_878 : Index := 1792#32
  let c0_i32_4 : BitVec 32 := 0#32
  let c1_i32 : BitVec 32 := 1#32
  let arg13 : BitVec 32 := Scf.iv c0_i32_4 c1_i32 k0_t1
  let v1312 : Index := Scalar.indexCast arg13
  let c0_879 : Index := 0#32
  ![1792, Nat.mul 2 v1312.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .smem S24x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S24x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S24x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S20 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x2x64x1920 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2x64x1920 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x2x64x1920 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1869x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S24x1869x20x64 : Shape := ⟨4, ![24, 1869, 20, 64]⟩
abbrev S24x20 : Shape := ⟨2, ![24, 20]⟩
abbrev S20 : Shape := ⟨1, ![20]⟩
abbrev S1869 : Shape := ⟨1, ![1869]⟩
abbrev S_ : Shape := ⟨0, ![]⟩
abbrev S1869x1 : Shape := ⟨2, ![1869, 1]⟩
abbrev S1x1869 : Shape := ⟨2, ![1, 1869]⟩
abbrev S1869x1869 : Shape := ⟨2, ![1869, 1869]⟩
abbrev S11 : Shape := ⟨1, ![11]⟩
abbrev S11x1 : Shape := ⟨2, ![11, 1]⟩
abbrev S1x20 : Shape := ⟨2, ![1, 20]⟩
abbrev S11x20 : Shape := ⟨2, ![11, 20]⟩
abbrev S20x1x1 : Shape := ⟨3, ![20, 1, 1]⟩
abbrev S1x1869x1869 : Shape := ⟨3, ![1, 1869, 1869]⟩
abbrev S20x1869x1869 : Shape := ⟨3, ![20, 1869, 1869]⟩
abbrev S24x20x1869x1869 : Shape := ⟨4, ![24, 20, 1869, 1869]⟩
abbrev S24x20x1x1 : Shape := ⟨4, ![24, 20, 1, 1]⟩
abbrev S1x20x1869x1869 : Shape := ⟨4, ![1, 20, 1869, 1869]⟩
abbrev S24x20x1869 : Shape := ⟨3, ![24, 20, 1869]⟩
abbrev S24x20x1869x1 : Shape := ⟨4, ![24, 20, 1869, 1]⟩
abbrev S24x20x64x1869 : Shape := ⟨4, ![24, 20, 64, 1869]⟩
abbrev S24x1x20x1 : Shape := ⟨4, ![24, 1, 20, 1]⟩
abbrev S24x1869x1280 : Shape := ⟨3, ![24, 1869, 1280]⟩

abbrev nBuf : Space → Nat
  | .hbm => 96
  | .vmem => 6
  | .smem => 0
  | _ => 0

abbrev bufTy : (tb : Table) → Fin (tcTables nBuf tb) → BufTy
  | .hbm, ⟨0, _⟩ => ⟨S24x1869x20x64, .fp8e4m3⟩
  | .hbm, ⟨1, _⟩ => ⟨S24x1869x20x64, .fp8e4m3⟩
  | .hbm, ⟨2, _⟩ => ⟨S24x1869x20x64, .fp8e4m3⟩
  | .hbm, ⟨3, _⟩ => ⟨S24x20, .f32⟩
  | .hbm, ⟨4, _⟩ => ⟨S24x20, .f32⟩
  | .hbm, ⟨5, _⟩ => ⟨S24x20, .f32⟩
  | .hbm, ⟨6, _⟩ => ⟨S20, .i32⟩
  | .hbm, ⟨7, _⟩ => ⟨S24x1869x20x64, .f32⟩
  | .hbm, ⟨8, _⟩ => ⟨S24x1869x20x64, .f32⟩
  | .hbm, ⟨9, _⟩ => ⟨S24x1869x20x64, .f32⟩
  | .hbm, ⟨10, _⟩ => ⟨S1869, .i32⟩
  | .hbm, ⟨11, _⟩ => ⟨S_, .i32⟩
  | .hbm, ⟨12, _⟩ => ⟨S1869, .i32⟩
  | .hbm, ⟨13, _⟩ => ⟨S1869, .i32⟩
  | .hbm, ⟨14, _⟩ => ⟨S_, .i32⟩
  | .hbm, ⟨15, _⟩ => ⟨S1869, .i32⟩
  | .hbm, ⟨16, _⟩ => ⟨S1869, .i32⟩
  | .hbm, ⟨17, _⟩ => ⟨S_, .i32⟩
  | .hbm, ⟨18, _⟩ => ⟨S1869, .i32⟩
  | .hbm, ⟨19, _⟩ => ⟨S1869, .i1⟩
  | .hbm, ⟨20, _⟩ => ⟨S1869x1, .i1⟩
  | .hbm, ⟨21, _⟩ => ⟨S1x1869, .i1⟩
  | .hbm, ⟨22, _⟩ => ⟨S1869x1869, .i1⟩
  | .hbm, ⟨23, _⟩ => ⟨S1869x1869, .i1⟩
  | .hbm, ⟨24, _⟩ => ⟨S1869x1869, .i1⟩
  | .hbm, ⟨25, _⟩ => ⟨S1869x1, .i32⟩
  | .hbm, ⟨26, _⟩ => ⟨S1x1869, .i32⟩
  | .hbm, ⟨27, _⟩ => ⟨S1869x1869, .i32⟩
  | .hbm, ⟨28, _⟩ => ⟨S1869x1869, .i32⟩
  | .hbm, ⟨29, _⟩ => ⟨S1869x1869, .i1⟩
  | .hbm, ⟨30, _⟩ => ⟨S1869x1869, .i1⟩
  | .hbm, ⟨31, _⟩ => ⟨S1x1869, .i32⟩
  | .hbm, ⟨32, _⟩ => ⟨S_, .i32⟩
  | .hbm, ⟨33, _⟩ => ⟨S1x1869, .i32⟩
  | .hbm, ⟨34, _⟩ => ⟨S1x1869, .i1⟩
  | .hbm, ⟨35, _⟩ => ⟨S1869x1869, .i1⟩
  | .hbm, ⟨36, _⟩ => ⟨S1869x1869, .i1⟩
  | .hbm, ⟨37, _⟩ => ⟨S1869x1, .i32⟩
  | .hbm, ⟨38, _⟩ => ⟨S1x1869, .i32⟩
  | .hbm, ⟨39, _⟩ => ⟨S1869x1869, .i32⟩
  | .hbm, ⟨40, _⟩ => ⟨S1869x1869, .i32⟩
  | .hbm, ⟨41, _⟩ => ⟨S1869x1869, .i1⟩
  | .hbm, ⟨42, _⟩ => ⟨S1869x1869, .i1⟩
  | .hbm, ⟨43, _⟩ => ⟨S11, .i32⟩
  | .hbm, ⟨44, _⟩ => ⟨S11x1, .i32⟩
  | .hbm, ⟨45, _⟩ => ⟨S20, .i32⟩
  | .hbm, ⟨46, _⟩ => ⟨S1x20, .i32⟩
  | .hbm, ⟨47, _⟩ => ⟨S11x20, .i32⟩
  | .hbm, ⟨48, _⟩ => ⟨S11x20, .i32⟩
  | .hbm, ⟨49, _⟩ => ⟨S11x20, .i1⟩
  | .hbm, ⟨50, _⟩ => ⟨S_, .i1⟩
  | .hbm, ⟨51, _⟩ => ⟨S20, .i1⟩
  | .hbm, ⟨52, _⟩ => ⟨S20x1x1, .i1⟩
  | .hbm, ⟨53, _⟩ => ⟨S1x1869x1869, .i1⟩
  | .hbm, ⟨54, _⟩ => ⟨S1x1869x1869, .i1⟩
  | .hbm, ⟨55, _⟩ => ⟨S20x1869x1869, .i1⟩
  | .hbm, ⟨56, _⟩ => ⟨S20x1869x1869, .i1⟩
  | .hbm, ⟨57, _⟩ => ⟨S20x1869x1869, .i1⟩
  | .hbm, ⟨58, _⟩ => ⟨S20x1869x1869, .i1⟩
  | .hbm, ⟨59, _⟩ => ⟨S24x20, .f32⟩
  | .hbm, ⟨60, _⟩ => ⟨S_, .f32⟩
  | .hbm, ⟨61, _⟩ => ⟨S24x20, .f32⟩
  | .hbm, ⟨62, _⟩ => ⟨S24x20, .f32⟩
  | .hbm, ⟨63, _⟩ => ⟨S24x20x1869x1869, .f32⟩
  | .hbm, ⟨64, _⟩ => ⟨S24x20x1x1, .f32⟩
  | .hbm, ⟨65, _⟩ => ⟨S24x20x1869x1869, .f32⟩
  | .hbm, ⟨66, _⟩ => ⟨S24x20x1869x1869, .f32⟩
  | .hbm, ⟨67, _⟩ => ⟨S1x20x1869x1869, .i1⟩
  | .hbm, ⟨68, _⟩ => ⟨S_, .f32⟩
  | .hbm, ⟨69, _⟩ => ⟨S_, .f32⟩
  | .hbm, ⟨70, _⟩ => ⟨S24x20x1869x1869, .i1⟩
  | .hbm, ⟨71, _⟩ => ⟨S24x20x1869x1869, .f32⟩
  | .hbm, ⟨72, _⟩ => ⟨S24x20x1869x1869, .f32⟩
  | .hbm, ⟨73, _⟩ => ⟨S_, .f32⟩
  | .hbm, ⟨74, _⟩ => ⟨S24x20x1869, .f32⟩
  | .hbm, ⟨75, _⟩ => ⟨S24x20x1869x1, .f32⟩
  | .hbm, ⟨76, _⟩ => ⟨S24x20x1869x1869, .f32⟩
  | .hbm, ⟨77, _⟩ => ⟨S24x20x1869x1869, .f32⟩
  | .hbm, ⟨78, _⟩ => ⟨S24x20x1869x1869, .f32⟩
  | .hbm, ⟨79, _⟩ => ⟨S_, .f32⟩
  | .hbm, ⟨80, _⟩ => ⟨S24x20x1869, .f32⟩
  | .hbm, ⟨81, _⟩ => ⟨S24x20x1869x1, .f32⟩
  | .hbm, ⟨82, _⟩ => ⟨S_, .f32⟩
  | .hbm, ⟨83, _⟩ => ⟨S24x20x1869x1, .f32⟩
  | .hbm, ⟨84, _⟩ => ⟨S24x20x1869x1, .f32⟩
  | .hbm, ⟨85, _⟩ => ⟨S24x20x1869x1869, .f32⟩
  | .hbm, ⟨86, _⟩ => ⟨S24x20x1869x1869, .f32⟩
  | .hbm, ⟨87, _⟩ => ⟨S24x20x1869x1869, .bf16⟩
  | .hbm, ⟨88, _⟩ => ⟨S24x1869x20x64, .bf16⟩
  | .hbm, ⟨89, _⟩ => ⟨S24x20x64x1869, .f32⟩
  | .hbm, ⟨90, _⟩ => ⟨S24x1869x20x64, .f32⟩
  | .hbm, ⟨91, _⟩ => ⟨S24x1x20x1, .f32⟩
  | .hbm, ⟨92, _⟩ => ⟨S24x1869x20x64, .f32⟩
  | .hbm, ⟨93, _⟩ => ⟨S24x1869x20x64, .f32⟩
  | .hbm, ⟨94, _⟩ => ⟨S24x1869x1280, .f32⟩
  | .hbm, ⟨95, _⟩ => ⟨S24x1869x1280, .bf16⟩
  | .local _ .vmem, ⟨0, _⟩ => ⟨S24x1869x20x64, .fp8e4m3⟩
  | .local _ .vmem, ⟨1, _⟩ => ⟨S24x1869x20x64, .fp8e4m3⟩
  | .local _ .vmem, ⟨2, _⟩ => ⟨S24x1869x20x64, .fp8e4m3⟩
  | .local _ .vmem, ⟨3, _⟩ => ⟨S24x1869x20x64, .f32⟩
  | .local _ .vmem, ⟨4, _⟩ => ⟨S24x1869x20x64, .f32⟩
  | .local _ .vmem, ⟨5, _⟩ => ⟨S24x1869x20x64, .f32⟩
  | _, _ => ⟨S24x1869x20x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v41 : Ref sig .tc := ⟨.hbm, 58, rfl⟩
abbrev main_v42 : Ref sig .tc := ⟨.hbm, 59, rfl⟩
abbrev main_cst : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_4 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_6 : Ref sig .tc := ⟨.hbm, 79, rfl⟩
abbrev main_v56 : Ref sig .tc := ⟨.hbm, 80, rfl⟩
abbrev main_v57 : Ref sig .tc := ⟨.hbm, 81, rfl⟩
abbrev main_cst_7 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24x1869x20x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1869x20x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1869x20x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1869x20x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1869x20x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1869x20x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KB.Body.lean ====
/- The body of one trip of the kernel's loop over batch pairs, cut at its two calls that hold the branches. -/
module

public import proofs.«01_k».proof.Proof.Gen.Kernel.Loops
public import proofs.«01_k».proof.Proof.Gen.Kernel
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The frame kit's resource algebra. -/
abbrev UU (nD : Nat) (τ : Topo) : Type := UR sig nD τ
abbrev 𝒱₀ : Variants := Variants.none

local notation "𝕄" => MT nD τ sig Unit (Elt F) ℕ (UU nD τ) ℕ

/-- Memref `M`'s buffer on core `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The part that holds the two branches of head 0 of the pair: whichever branch is taken, it runs to its return and leaves the
    inputs as they were. -/
theorem part209 (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (k0_t1 : Fin k0_t1_loop.trips)
    (f5 : Bf F c arg5) (f6 : Bf F c arg6) (f7 : Bf F c arg7) (f8 : Bf F c arg8) (f9 : Bf F c arg9) (f10 : Bf F c arg10) (f11 : Bf F c arg11) (f12 : Bf F c arg12)
    (arg1 : BitVec 32) (v2 : IVec S64x128 1) (v50 : BitVec 1) (v51 : BitVec 32) (v63 : F .f32) (v66 : Elt F .f32) (v78 : F .f32) (v81 : Elt F .f32) (v541 : FVec F S64x128 .bf16) (v551 : FVec F S64x128 .bf16) :
    iprop(pt c arg5 f5 ∗ pt c arg6 f6 ∗ pt c arg7 f7 ∗ pt c arg8 f8 ∗ pt c arg9 f9 ∗ pt c arg10 f10 ∗ pt c arg11 f11 ∗ pt c arg12 f12)
    ⊢ wp frame (wpE (defs₀ (F := F)) 𝒱₀ (c : Thread nD τ) none) Set.univ
        (k0_part209 (F := F) i arg2 harg2 arg3 harg3 arg4 harg4 arg5 harg5 arg6 harg6 arg7 harg7 arg8 harg8 arg9 harg9 arg10 harg10 arg11 harg11 arg12 harg12 arg1 v2 k0_t1 v50 v51 v63 v66 v78 v81 v541 v551)
        (fun _ => iprop(pt c arg5 f5 ∗ pt c arg6 f6 ∗ pt c arg7 f7 ∗ pt c arg8 f8 ∗ (∃ f, pt (F := F) c arg9 f) ∗ (∃ f, pt (F := F) c arg10 f) ∗ (∃ f, pt (F := F) c arg11 f) ∗ (∃ f, pt (F := F) c arg12 f))) := by
  obtain rfl | rfl : v50 = 1#1 ∨ v50 = 0#1 := by
    generalize v50 = b; revert b; decide
  all_goals
    iintro ⟨H5, H6, H7, H8, H9, H10, H11, H12⟩
    sl_exec_parts
    sl_step
    sl_close

/-- The part that holds the two branches of head 1 of the pair: whichever branch is taken, it runs to its return and leaves the
    inputs as they were. -/
theorem part226 (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (k0_t1 : Fin k0_t1_loop.trips)
    (f5 : Bf F c arg5) (f6 : Bf F c arg6) (f7 : Bf F c arg7) (f8 : Bf F c arg8) (f9 : Bf F c arg9) (f10 : Bf F c arg10) (f11 : Bf F c arg11) (f12 : Bf F c arg12)
    (v2 : IVec S64x128 1) (arg13 : BitVec 32) (v609 : BitVec 1) (v610 : BitVec 32) (v622 : F .f32) (v625 : Elt F .f32) (v637 : F .f32) (v640 : Elt F .f32) (v1128 : FVec F S128x128 .fp8e4m3) :
    iprop(pt c arg5 f5 ∗ pt c arg6 f6 ∗ pt c arg7 f7 ∗ pt c arg8 f8 ∗ pt c arg9 f9 ∗ pt c arg10 f10 ∗ pt c arg11 f11 ∗ pt c arg12 f12)
    ⊢ wp frame (wpE (defs₀ (F := F)) 𝒱₀ (c : Thread nD τ) none) Set.univ
        (k0_part226 (F := F) i arg2 harg2 arg3 harg3 arg4 harg4 arg5 harg5 arg6 harg6 arg7 harg7 arg8 harg8 arg9 harg9 arg10 harg10 arg11 harg11 arg12 harg12 v2 k0_t1 arg13 v609 v610 v622 v625 v637 v640 v1128)
        (fun _ => iprop(pt c arg5 f5 ∗ pt c arg6 f6 ∗ pt c arg7 f7 ∗ pt c arg8 f8 ∗ (∃ f, pt (F := F) c arg9 f) ∗ (∃ f, pt (F := F) c arg10 f) ∗ (∃ f, pt (F := F) c arg11 f) ∗ (∃ f, pt (F := F) c arg12 f))) := by
  obtain rfl | rfl : v609 = 1#1 ∨ v609 = 0#1 := by
    generalize v609 = b; revert b; decide
  all_goals
    iintro ⟨H5, H6, H7, H8, H9, H10, H11, H12⟩
    sl_exec_parts
    sl_step
    sl_close

/-- The loop's invariant: the inputs held as they were, the result's block and the scratch buffers at something. -/
@[sl_loop] noncomputable def loopInv_k0_t1 (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (arg0 arg1 : BitVec 32)
    (f2 : Bf F c arg2) (f3 : Bf F c arg3) (f4 : Bf F c arg4) (f5 : Bf F c arg5) (f6 : Bf F c arg6) (f7 : Bf F c arg7) (f8 : Bf F c arg8) :
    Cert.Kernel.Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg0 arg1 where
  inv := fun _ _ => iprop(pt c arg2 f2 ∗ pt c arg3 f3 ∗ pt c arg4 f4 ∗ pt c arg5 f5 ∗ pt c arg6 f6 ∗ pt c arg7 f7 ∗ pt c arg8 f8 ∗ (∃ f, pt (F := F) c arg9 f) ∗ (∃ f, pt (F := F) c arg10 f) ∗ (∃ f, pt (F := F) c arg11 f) ∗ (∃ f, pt (F := F) c arg12 f))
  step := fun k0_t1 _ => by
    have h209 := fun f5 f6 f7 f8 f9 f10 f11 f12 => part209 (F := F) c i arg2 harg2 arg3 harg3 arg4 harg4 arg5 harg5 arg6 harg6 arg7 harg7 arg8 harg8 arg9 harg9 arg10 harg10 arg11 harg11 arg12 harg12 k0_t1 f5 f6 f7 f8 f9 f10 f11 f12
    have h226 := fun f5 f6 f7 f8 f9 f10 f11 f12 => part226 (F := F) c i arg2 harg2 arg3 harg3 arg4 harg4 arg5 harg5 arg6 harg6 arg7 harg7 arg8 harg8 arg9 harg9 arg10 harg10 arg11 harg11 arg12 harg12 k0_t1 f5 f6 f7 f8 f9 f10 f11 f12
    iintro ⟨H2, H3, H4, H5, H6, H7, H8, ⟨%f9, H9⟩, ⟨%f10, H10⟩, ⟨%f11, H11⟩, ⟨%f12, H12⟩⟩
    unfold k0_t1_body
    sl_exec_parts
    sl_step
    sl_close

/-- The body of the kernel at one grid point. -/
theorem kernelRun (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (f2 : Bf F c arg2) (f3 : Bf F c arg3) (f4 : Bf F c arg4) (f5 : Bf F c arg5) (f6 : Bf F c arg6) (f7 : Bf F c arg7) (f8 : Bf F c arg8) (f9 : Bf F c arg9) (f10 : Bf F c arg10) (f11 : Bf F c arg11) (f12 : Bf F c arg12) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ (iprop(pt c arg2 f2 ∗ pt c arg3 f3 ∗ pt c arg4 f4 ∗ pt c arg5 f5 ∗ pt c arg6 f6 ∗ pt c arg7 f7 ∗ pt c arg8 f8 ∗ (∃ f, pt (F := F) c arg9 f) ∗ (∃ f, pt (F := F) c arg10 f) ∗ (∃ f, pt (F := F) c arg11 f) ∗ (∃ f, pt (F := F) c arg12 f)) -∗ Q ⟨⟩))
    ⊢ wp frame (wpE (defs₀ (F := F)) 𝒱₀ (c : Thread nD τ) none) Set.univ
        (cc0_sparse_videogen_attention (F := F) i arg2 harg2 arg3 harg3 arg4 harg4 arg5 harg5 arg6 harg6 arg7 harg7 arg8 harg8 arg9 harg9 arg10 harg10 arg11 harg11 arg12 harg12) Q := by
  iintro ⟨H2, H3, H4, H5, H6, H7, H8, H9, H10, H11, H12, Hk⟩
  sl_exec
  sl_step
  iapply Hk
  sl_close

end Cert.Proof.Kernel

end
-- ==== Proof.KB.Run.lean ====
/- The run of `Kernel`: every execution of @main terminates, the argument arrays end as they began and every semaphore
   counter ends at zero. No window's contents are followed: each staging buffer is handed to the body at arbitrary contents. -/
module

public import proofs.«01_k».proof.Proof.KB.Body
public import proofs.«01_k».proof.Proof.Gen.Kernel.Frame

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UU nD τ) ℕ

variable (m : (ℓ : Loc nD τ sig) → Buf (Elt F) ℓ) (ρ : Dev nD → PrngReg)

/-- The pipeline's data: the arrays as the region finds them; nothing is said of what the body leaves. -/
def dats (_ : Fin 1) (c : Dev nD) : Dat τ (Elt F) Unit ℕ (UR sig nD τ) ℕ cfg0 c where
  A w := V m c (Pipeline.arrRef spec0 w)
  after _ _ := Classical.arbitrary _
  Φ _ := Pipeline.ΦA spec0 c
  q _ := fullShare
  owed _ := 0

/-- Every window is followed at no contents. -/
abbrev fgt (w : Fin cfg0.W) : Bool := true

/-- The body table's row at point `t`'s slots is the kernel on the point's staging memrefs. -/
theorem defs₀_row (t : Fin cfg0.N) :
    defs₀ (F := F) .tc cfg0.body (cfg0.bodyArgs t (cfg0.slots t)) = bodyAt0 t := by
  unfold defs₀; rw [Defs.onTc_tc]

/-- The staging buffers and the invariant, as the body takes and leaves them at a point. -/
def bodySt (c : Dev nD) (t : Fin cfg0.N) : sProp 𝕄 :=
  iprop((dats m 0 c).Φ t.castSucc ∗ (dats m 0 c).owesAt () t.castSucc
    ∗ (∃ X, owns (c : Thread nD τ) (st0_0 t) fullShare X) ∗ (∃ X, owns (c : Thread nD τ) (st0_1 t) fullShare X)
    ∗ (∃ X, owns (c : Thread nD τ) (st0_2 t) fullShare X) ∗ (∃ X, owns (c : Thread nD τ) (st0_3 t) fullShare X)
    ∗ (∃ X, owns (c : Thread nD τ) (st0_4 t) fullShare X) ∗ (∃ X, owns (c : Thread nD τ) (st0_5 t) fullShare X)
    ∗ (∃ X, owns (c : Thread nD τ) (st0_6 t) fullShare X) ∗ (∃ X, owns (c : Thread nD τ) (st0_7 t) fullShare X))

set_option maxHeartbeats 2000000 in
theorem sound_body (c : Dev nD) (t : Fin cfg0.N) :
    bodySt m c t ⊢ wp frame (wpE (defs₀ (F := F)) 𝒱₀ c none) Set.univ (bodyAt0 t) (fun _ => bodySt m c t) := by
  unfold bodySt bodyAt0
  rw [(hstage0_0 ((cfg0.slots t 0).cast nbuf0_0)).exists_owns_eq, (hstage0_1 ((cfg0.slots t 1).cast nbuf0_1)).exists_owns_eq,
    (hstage0_2 ((cfg0.slots t 2).cast nbuf0_2)).exists_owns_eq, (hstage0_3 ((cfg0.slots t 3).cast nbuf0_3)).exists_owns_eq,
    (hstage0_4 ((cfg0.slots t 4).cast nbuf0_4)).exists_owns_eq, (hstage0_5 ((cfg0.slots t 5).cast nbuf0_5)).exists_owns_eq,
    (hstage0_6 ((cfg0.slots t 6).cast nbuf0_6)).exists_owns_eq, (hstage0_7 ((cfg0.slots t 7).cast nbuf0_7)).exists_owns_eq]
  rw [show (dats m 0 c).Φ t.castSucc = Pipeline.ΦA spec0 c from rfl]
  unfold Pipeline.ΦA
  rw [scopedRest0_eq]
  iintro ⟨⟨⟨⟨%g0, G0⟩, ⟨%g1, G1⟩, ⟨%g2, G2⟩⟩, Hp⟩, Ho, ⟨%f0, H0⟩, ⟨%f1, H1⟩, ⟨%f2, H2⟩, ⟨%f3, H3⟩, ⟨%f4, H4⟩, ⟨%f5, H5⟩, ⟨%f6, H6⟩, ⟨%f7, H7⟩⟩
  iapply (kernelRun c (grid0.coords t) _ _ _ _ _ _ _ _ _ _ _ _ _ _ _ _ _ _ _ _ _ _ f0 f1 f2 f3 f4 f5 f6 f7 g0 g1 g2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  iintro ⟨H0, H1, H2, H3, H4, H5, H6, H7, G0, G1, G2⟩
  isplitl [Hp G0 G1 G2]
  · isplitl [G0 G1 G2]
    · isplitl [G0]; · iexact G0
      isplitl [G1]; · iexact G1
      iexact G2
    iexact Hp
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexact H7

theorem body_obligation (c : Dev nD) : BodyObligationLoose (dats (F := F) m 0 c) (defs₀ (F := F)) 𝒱₀ () Set.univ fgt := fun t => by
  rw [bigSep_W0]
  simp only [fgt]
  rw [defs₀_row]
  exact triple_restated (sound_body m c t) rfl .rfl fun _ => .rfl

/-- The buffers the lines after the region write. -/
abbrev tailT : Finset (Ref sig .tc) := {main_v4}

theorem tailT_writes : ∀ ops ∈ ([hostOps1] : List (List (HloOp τ sig (Elt F)))), ∀ op ∈ ops,
    ∀ b : Ref sig .tc, Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  by_contra hne
  exact StableHlo.devRef_ne_of_ne (fun e => hne (by rw [e]; exact Finset.mem_singleton_self _)) hb

set_option backward.isDefEq.respectTransparency.types false in
/-- Every execution of @main terminates, the arguments unchanged, every counter at zero. -/
theorem frame_all : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_around_T_forget (Q' := _) cfgs (dats m) (0 : Fin 1) launch0 defs₀ 𝒱₀ fgt tailT m ρ main
    (hbody := body_obligation m) (hshare := fun c => (dats m 0 c).share_full fun _ => rfl)
    (howed := fun _ _ => rfl) (V₀ := V0 m) (opss := [hostOps1]) sfx_sub sfx_fresh sfx_keeps tailT_writes
    (hmain := hmain m 𝒱₀) (hA := fun _ _ => rfl) (hΦ := fun _ _ => rfl)
    (hQ' := fun r hr => ⟨fun c => by
      have h := hr.1
      exact ⟨((h c).2 main_arg0 (by decide)).trans (V_main_arg0 m c),
        ((h c).2 main_arg1 (by decide)).trans (V_main_arg1 m c),
        ((h c).2 main_arg2 (by decide)).trans (V_main_arg2 m c),
        (h.arr_in c 0 rfl).trans (V_main_arg3 m c),
        (h.arr_in c 1 rfl).trans (V_main_arg4 m c),
        (h.arr_in c 2 rfl).trans (V_main_arg5 m c),
        (h.arr_in c 3 rfl).trans (V_main_arg6 m c)⟩, hr.2⟩)

end Cert.Proof.Kernel

end
-- ==== Proof.KI.Body.lean ====
/- The body of one trip of the kernel's loop over batch pairs, cut at its two calls that hold the branches. -/
module

public import proofs.«01_k».proof.Proof.Gen.KernelIdeal.Loops
public import proofs.«01_k».proof.Proof.Gen.KernelIdeal
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The frame kit's resource algebra. -/
abbrev UU (nD : Nat) (τ : Topo) : Type := UR sig nD τ
abbrev 𝒱₀ : Variants := Variants.none

local notation "𝕄" => MT nD τ sig Unit (Elt F) ℕ (UU nD τ) ℕ

/-- Memref `M`'s buffer on core `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The part that holds the two branches of head 0 of the pair: whichever branch is taken, it runs to its return and leaves the
    inputs as they were. -/
theorem part209 (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (k0_t1 : Fin k0_t1_loop.trips)
    (f5 : Bf F c arg5) (f6 : Bf F c arg6) (f7 : Bf F c arg7) (f8 : Bf F c arg8) (f9 : Bf F c arg9) (f10 : Bf F c arg10) (f11 : Bf F c arg11) (f12 : Bf F c arg12)
    (arg1 : BitVec 32) (v2 : IVec S64x128 1) (v50 : BitVec 1) (v51 : BitVec 32) (v63 : F .f32) (v66 : Elt F .f32) (v78 : F .f32) (v81 : Elt F .f32) (v541 : FVec F S64x128 .bf16) (v551 : FVec F S64x128 .bf16) :
    iprop(pt c arg5 f5 ∗ pt c arg6 f6 ∗ pt c arg7 f7 ∗ pt c arg8 f8 ∗ pt c arg9 f9 ∗ pt c arg10 f10 ∗ pt c arg11 f11 ∗ pt c arg12 f12)
    ⊢ wp frame (wpE (defs₀ (F := F)) 𝒱₀ (c : Thread nD τ) none) Set.univ
        (k0_part209 (F := F) i arg2 harg2 arg3 harg3 arg4 harg4 arg5 harg5 arg6 harg6 arg7 harg7 arg8 harg8 arg9 harg9 arg10 harg10 arg11 harg11 arg12 harg12 arg1 v2 k0_t1 v50 v51 v63 v66 v78 v81 v541 v551)
        (fun _ => iprop(pt c arg5 f5 ∗ pt c arg6 f6 ∗ pt c arg7 f7 ∗ pt c arg8 f8 ∗ (∃ f, pt (F := F) c arg9 f) ∗ (∃ f, pt (F := F) c arg10 f) ∗ (∃ f, pt (F := F) c arg11 f) ∗ (∃ f, pt (F := F) c arg12 f))) := by
  obtain rfl | rfl : v50 = 1#1 ∨ v50 = 0#1 := by
    generalize v50 = b; revert b; decide
  all_goals
    iintro ⟨H5, H6, H7, H8, H9, H10, H11, H12⟩
    sl_exec_parts
    sl_step
    sl_close

/-- The part that holds the two branches of head 1 of the pair: whichever branch is taken, it runs to its return and leaves the
    inputs as they were. -/
theorem part226 (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (k0_t1 : Fin k0_t1_loop.trips)
    (f5 : Bf F c arg5) (f6 : Bf F c arg6) (f7 : Bf F c arg7) (f8 : Bf F c arg8) (f9 : Bf F c arg9) (f10 : Bf F c arg10) (f11 : Bf F c arg11) (f12 : Bf F c arg12)
    (v2 : IVec S64x128 1) (arg13 : BitVec 32) (v609 : BitVec 1) (v610 : BitVec 32) (v622 : F .f32) (v625 : Elt F .f32) (v637 : F .f32) (v640 : Elt F .f32) (v1128 : FVec F S128x128 .fp8e4m3) :
    iprop(pt c arg5 f5 ∗ pt c arg6 f6 ∗ pt c arg7 f7 ∗ pt c arg8 f8 ∗ pt c arg9 f9 ∗ pt c arg10 f10 ∗ pt c arg11 f11 ∗ pt c arg12 f12)
    ⊢ wp frame (wpE (defs₀ (F := F)) 𝒱₀ (c : Thread nD τ) none) Set.univ
        (k0_part226 (F := F) i arg2 harg2 arg3 harg3 arg4 harg4 arg5 harg5 arg6 harg6 arg7 harg7 arg8 harg8 arg9 harg9 arg10 harg10 arg11 harg11 arg12 harg12 v2 k0_t1 arg13 v609 v610 v622 v625 v637 v640 v1128)
        (fun _ => iprop(pt c arg5 f5 ∗ pt c arg6 f6 ∗ pt c arg7 f7 ∗ pt c arg8 f8 ∗ (∃ f, pt (F := F) c arg9 f) ∗ (∃ f, pt (F := F) c arg10 f) ∗ (∃ f, pt (F := F) c arg11 f) ∗ (∃ f, pt (F := F) c arg12 f))) := by
  obtain rfl | rfl : v609 = 1#1 ∨ v609 = 0#1 := by
    generalize v609 = b; revert b; decide
  all_goals
    iintro ⟨H5, H6, H7, H8, H9, H10, H11, H12⟩
    sl_exec_parts
    sl_step
    sl_close

/-- The loop's invariant: the inputs held as they were, the result's block and the scratch buffers at something. -/
@[sl_loop] noncomputable def loopInv_k0_t1 (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (arg0 arg1 : BitVec 32)
    (f2 : Bf F c arg2) (f3 : Bf F c arg3) (f4 : Bf F c arg4) (f5 : Bf F c arg5) (f6 : Bf F c arg6) (f7 : Bf F c arg7) (f8 : Bf F c arg8) :
    Cert.KernelIdeal.Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg0 arg1 where
  inv := fun _ _ => iprop(pt c arg2 f2 ∗ pt c arg3 f3 ∗ pt c arg4 f4 ∗ pt c arg5 f5 ∗ pt c arg6 f6 ∗ pt c arg7 f7 ∗ pt c arg8 f8 ∗ (∃ f, pt (F := F) c arg9 f) ∗ (∃ f, pt (F := F) c arg10 f) ∗ (∃ f, pt (F := F) c arg11 f) ∗ (∃ f, pt (F := F) c arg12 f))
  step := fun k0_t1 _ => by
    have h209 := fun f5 f6 f7 f8 f9 f10 f11 f12 => part209 (F := F) c i arg2 harg2 arg3 harg3 arg4 harg4 arg5 harg5 arg6 harg6 arg7 harg7 arg8 harg8 arg9 harg9 arg10 harg10 arg11 harg11 arg12 harg12 k0_t1 f5 f6 f7 f8 f9 f10 f11 f12
    have h226 := fun f5 f6 f7 f8 f9 f10 f11 f12 => part226 (F := F) c i arg2 harg2 arg3 harg3 arg4 harg4 arg5 harg5 arg6 harg6 arg7 harg7 arg8 harg8 arg9 harg9 arg10 harg10 arg11 harg11 arg12 harg12 k0_t1 f5 f6 f7 f8 f9 f10 f11 f12
    iintro ⟨H2, H3, H4, H5, H6, H7, H8, ⟨%f9, H9⟩, ⟨%f10, H10⟩, ⟨%f11, H11⟩, ⟨%f12, H12⟩⟩
    unfold k0_t1_body
    sl_exec_parts
    sl_step
    sl_close

/-- The body of the kernel at one grid point. -/
theorem kernelRun (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (f2 : Bf F c arg2) (f3 : Bf F c arg3) (f4 : Bf F c arg4) (f5 : Bf F c arg5) (f6 : Bf F c arg6) (f7 : Bf F c arg7) (f8 : Bf F c arg8) (f9 : Bf F c arg9) (f10 : Bf F c arg10) (f11 : Bf F c arg11) (f12 : Bf F c arg12) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ (iprop(pt c arg2 f2 ∗ pt c arg3 f3 ∗ pt c arg4 f4 ∗ pt c arg5 f5 ∗ pt c arg6 f6 ∗ pt c arg7 f7 ∗ pt c arg8 f8 ∗ (∃ f, pt (F := F) c arg9 f) ∗ (∃ f, pt (F := F) c arg10 f) ∗ (∃ f, pt (F := F) c arg11 f) ∗ (∃ f, pt (F := F) c arg12 f)) -∗ Q ⟨⟩))
    ⊢ wp frame (wpE (defs₀ (F := F)) 𝒱₀ (c : Thread nD τ) none) Set.univ
        (cc0_sparse_videogen_attention (F := F) i arg2 harg2 arg3 harg3 arg4 harg4 arg5 harg5 arg6 harg6 arg7 harg7 arg8 harg8 arg9 harg9 arg10 harg10 arg11 harg11 arg12 harg12) Q := by
  iintro ⟨H2, H3, H4, H5, H6, H7, H8, H9, H10, H11, H12, Hk⟩
  sl_exec
  sl_step
  iapply Hk
  sl_close

end Cert.Proof.KernelIdeal

end
-- ==== Proof.KI.Run.lean ====
/- The run of `KernelIdeal`: every execution of @main terminates, the argument arrays end as they began and every semaphore
   counter ends at zero. No window's contents are followed: each staging buffer is handed to the body at arbitrary contents. -/
module

public import proofs.«01_k».proof.Proof.KI.Body
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- The pipeline's data: the arrays as the region finds them; nothing is said of what the body leaves. -/
def dats (_ : Fin 1) (c : Dev nD) : Dat τ (Elt F) Unit ℕ (UR sig nD τ) ℕ cfg0 c where
  A w := V m c (Pipeline.arrRef spec0 w)
  after _ _ := Classical.arbitrary _
  Φ _ := Pipeline.ΦA spec0 c
  q _ := fullShare
  owed _ := 0

/-- Every window is followed at no contents. -/
abbrev fgt (w : Fin cfg0.W) : Bool := true

/-- The body table's row at point `t`'s slots is the kernel on the point's staging memrefs. -/
theorem defs₀_row (t : Fin cfg0.N) :
    defs₀ (F := F) .tc cfg0.body (cfg0.bodyArgs t (cfg0.slots t)) = bodyAt0 t := by
  unfold defs₀; rw [Defs.onTc_tc]

/-- The staging buffers and the invariant, as the body takes and leaves them at a point. -/
def bodySt (c : Dev nD) (t : Fin cfg0.N) : sProp 𝕄 :=
  iprop((dats m 0 c).Φ t.castSucc ∗ (dats m 0 c).owesAt () t.castSucc
    ∗ (∃ X, owns (c : Thread nD τ) (st0_0 t) fullShare X) ∗ (∃ X, owns (c : Thread nD τ) (st0_1 t) fullShare X)
    ∗ (∃ X, owns (c : Thread nD τ) (st0_2 t) fullShare X) ∗ (∃ X, owns (c : Thread nD τ) (st0_3 t) fullShare X)
    ∗ (∃ X, owns (c : Thread nD τ) (st0_4 t) fullShare X) ∗ (∃ X, owns (c : Thread nD τ) (st0_5 t) fullShare X)
    ∗ (∃ X, owns (c : Thread nD τ) (st0_6 t) fullShare X) ∗ (∃ X, owns (c : Thread nD τ) (st0_7 t) fullShare X))

set_option maxHeartbeats 2000000 in
theorem sound_body (c : Dev nD) (t : Fin cfg0.N) :
    bodySt m c t ⊢ wp frame (wpE (defs₀ (F := F)) 𝒱₀ c none) Set.univ (bodyAt0 t) (fun _ => bodySt m c t) := by
  unfold bodySt bodyAt0
  rw [(hstage0_0 ((cfg0.slots t 0).cast nbuf0_0)).exists_owns_eq, (hstage0_1 ((cfg0.slots t 1).cast nbuf0_1)).exists_owns_eq,
    (hstage0_2 ((cfg0.slots t 2).cast nbuf0_2)).exists_owns_eq, (hstage0_3 ((cfg0.slots t 3).cast nbuf0_3)).exists_owns_eq,
    (hstage0_4 ((cfg0.slots t 4).cast nbuf0_4)).exists_owns_eq, (hstage0_5 ((cfg0.slots t 5).cast nbuf0_5)).exists_owns_eq,
    (hstage0_6 ((cfg0.slots t 6).cast nbuf0_6)).exists_owns_eq, (hstage0_7 ((cfg0.slots t 7).cast nbuf0_7)).exists_owns_eq]
  rw [show (dats m 0 c).Φ t.castSucc = Pipeline.ΦA spec0 c from rfl]
  unfold Pipeline.ΦA
  rw [scopedRest0_eq]
  iintro ⟨⟨⟨⟨%g0, G0⟩, ⟨%g1, G1⟩, ⟨%g2, G2⟩⟩, Hp⟩, Ho, ⟨%f0, H0⟩, ⟨%f1, H1⟩, ⟨%f2, H2⟩, ⟨%f3, H3⟩, ⟨%f4, H4⟩, ⟨%f5, H5⟩, ⟨%f6, H6⟩, ⟨%f7, H7⟩⟩
  iapply (kernelRun c (grid0.coords t) _ _ _ _ _ _ _ _ _ _ _ _ _ _ _ _ _ _ _ _ _ _ f0 f1 f2 f3 f4 f5 f6 f7 g0 g1 g2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  iintro ⟨H0, H1, H2, H3, H4, H5, H6, H7, G0, G1, G2⟩
  isplitl [Hp G0 G1 G2]
  · isplitl [G0 G1 G2]
    · isplitl [G0]; · iexact G0
      isplitl [G1]; · iexact G1
      iexact G2
    iexact Hp
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexact H7

theorem body_obligation (c : Dev nD) : BodyObligationLoose (dats (F := F) m 0 c) (defs₀ (F := F)) 𝒱₀ () Set.univ fgt := fun t => by
  rw [bigSep_W0]
  simp only [fgt]
  rw [defs₀_row]
  exact triple_restated (sound_body m c t) rfl .rfl fun _ => .rfl

/-- The buffers the lines after the region write. -/
abbrev tailT : Finset (Ref sig .tc) := {main_v4}

theorem tailT_writes : ∀ ops ∈ ([hostOps1] : List (List (HloOp τ sig (Elt F)))), ∀ op ∈ ops,
    ∀ b : Ref sig .tc, Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  by_contra hne
  exact StableHlo.devRef_ne_of_ne (fun e => hne (by rw [e]; exact Finset.mem_singleton_self _)) hb

set_option backward.isDefEq.respectTransparency.types false in
/-- Every execution of @main terminates, the arguments unchanged, every counter at zero. -/
theorem frame_all : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_around_T_forget (Q' := _) cfgs (dats m) (0 : Fin 1) launch0 defs₀ 𝒱₀ fgt tailT m ρ main
    (hbody := body_obligation m) (hshare := fun c => (dats m 0 c).share_full fun _ => rfl)
    (howed := fun _ _ => rfl) (V₀ := V0 m) (opss := [hostOps1]) sfx_sub sfx_fresh sfx_keeps tailT_writes
    (hmain := hmain m 𝒱₀) (hA := fun _ _ => rfl) (hΦ := fun _ _ => rfl)
    (hQ' := fun r hr => ⟨fun c => by
      have h := hr.1
      exact ⟨((h c).2 main_arg0 (by decide)).trans (V_main_arg0 m c),
        ((h c).2 main_arg1 (by decide)).trans (V_main_arg1 m c),
        ((h c).2 main_arg2 (by decide)).trans (V_main_arg2 m c),
        (h.arr_in c 0 rfl).trans (V_main_arg3 m c),
        (h.arr_in c 1 rfl).trans (V_main_arg4 m c),
        (h.arr_in c 2 rfl).trans (V_main_arg5 m c),
        (h.arr_in c 3 rfl).trans (V_main_arg6 m c)⟩, hr.2⟩)

end Cert.Proof.KernelIdeal

end
-- ==== Proof.KI.Blocks.lean ====
/-
  The kernel's attention on one block of queries, as functions of the loaded
  arrays: the printed operations in their order, once per kind of block.
-/
module

public import proofs.«01_k».proof.Proof.Gen.KernelIdeal

@[expose] public section

noncomputable section

namespace Cert.Proof.KernelIdeal

open Cert.KernelIdeal Cert.KernelIdeal.Gen
open Idealize.ShloMosaic Idealize.ShloMosaic.TcCoe

variable {F : FTy → Type} [FloatOps F] [Named F]

/-- Scores of 256 queries against the text keys; rows past the last text key are minus infinity. -/
def txtS (c : F .f32) (KT : FVec F S80x128 .fp8e4m3) (QZ : FVec F S128x256 .fp8e4m3) : FVec F S80x256 .f32 :=
  select (cmpi .slt (iota .tc S80x256 32 [0] iota_S80x256_d0_w32) (broadcast S80x256 77#32))
    (mulf (matmul dot_S80x128_S128x256_S80x256_1_0_0_1_n_n none KT QZ (constant S80x256 .f32 0x00000000#32))
      (broadcast S80x256 c))
    (broadcast S80x256 (FloatOps.ofBits .f32 0xFF800000#32))

/-- Scores of 256 queries against the 256 keys of a frame. -/
def keyS (c : F .f32) (K : FVec F S256x128 .fp8e4m3) (QZ : FVec F S128x256 .fp8e4m3) : FVec F S256x256 .f32 :=
  mulf (matmul dot_S256x128_S128x256_S256x256_1_0_0_1_n_n none K QZ (constant S256x256 .f32 0x00000000#32))
    (broadcast S256x256 c)

def max80 (x : FVec F S80x256 .f32) : FVec F S1x256 .f32 :=
  shapeCast S1x256 (multiReduction .maximumf [0] S256 x 0xFF800000#32 reduces_S80x256_S256 (.inl rfl) rfl)
    shapeCasts_S256_S1x256

def max256 (x : FVec F S256x256 .f32) : FVec F S1x256 .f32 :=
  shapeCast S1x256 (multiReduction .maximumf [0] S256 x 0xFF800000#32 reduces_S256x256_S256 (.inl rfl) rfl)
    shapeCasts_S256_S1x256

def p80 (x : FVec F S80x256 .f32) (m : FVec F S1x256 .f32) : FVec F S80x256 .bf16 :=
  truncf .bf16 (exp2 (subf x (broadcastTo S80x256 m broadcasts_S1x256_S80x256))) bitsLt_bf16_f32

def p256 (x : FVec F S256x256 .f32) (m : FVec F S1x256 .f32) : FVec F S256x256 .bf16 :=
  truncf .bf16 (exp2 (subf x (broadcastTo S256x256 m broadcasts_S1x256_S256x256))) bitsLt_bf16_f32

def pv80 (V : FVec F S80x80 .bf16) (p : FVec F S80x256 .bf16) : FVec F S80x256 .f32 :=
  matmul dot_S80x80_S80x256_S80x256_1_0_0_1_n_n none V p (constant S80x256 .f32 0x00000000#32)

def pv256 (V : FVec F S80x256 .bf16) (p : FVec F S256x256 .bf16) : FVec F S80x256 .f32 :=
  matmul dot_S80x256_S256x256_S80x256_1_0_0_1_n_n none V p (constant S80x256 .f32 0x00000000#32)

/-- Rows 0 to 63 over row 64, times the value scale. -/
def normB (vs : F .f32) (o : FVec F S80x256 .f32) : FVec F S64x256 .f32 :=
  mulf (extractStridedSlice S64x256 ![0, 0] o slices_S80x256_o0_0_S64x256)
    (broadcastTo S64x256 (divf (broadcast S1x256 vs) (extractStridedSlice S1x256 ![64, 0] o slices_S80x256_o64_0_S1x256))
      broadcasts_S1x256_S64x256)

/-- A spatial block of the first frame: text keys and the frame's own keys. -/
def spat2 (c vs : F .f32) (KT : FVec F S80x128 .fp8e4m3) (K0 : FVec F S256x128 .fp8e4m3)
    (QZ : FVec F S128x256 .fp8e4m3) (VT : FVec F S80x80 .bf16) (V0 : FVec F S80x256 .bf16) : FVec F S64x256 .f32 :=
  let m := maximumf (max80 (txtS c KT QZ)) (max256 (keyS c K0 QZ))
  normB vs (addf (pv80 VT (p80 (txtS c KT QZ) m)) (pv256 V0 (p256 (keyS c K0 QZ) m)))

/-- A spatial block of a later frame: text keys, the frame's own keys and the first frame's. -/
def spat3 (c vs : F .f32) (KT : FVec F S80x128 .fp8e4m3) (K1 K0 : FVec F S256x128 .fp8e4m3)
    (QZ : FVec F S128x256 .fp8e4m3) (VT : FVec F S80x80 .bf16) (V1 V0 : FVec F S80x256 .bf16) : FVec F S64x256 .f32 :=
  let m := maximumf (maximumf (max80 (txtS c KT QZ)) (max256 (keyS c K1 QZ))) (max256 (keyS c K0 QZ))
  normB vs (addf (addf (pv80 VT (p80 (txtS c KT QZ) m)) (pv256 V1 (p256 (keyS c K1 QZ) m)))
    (pv256 V0 (p256 (keyS c K0 QZ) m)))

/-- Scores of 256 queries against the keys at the same position of one frame. -/
def rowS (c : F .f32) (qf : FVec F S64x256 .f32) (k : FVec F S64x256 .fp8e4m3) : FVec F S1x256 .f32 :=
  mulf (shapeCast S1x256 (multiReduction .add [0] S256 (mulf qf (extf .f32 k bitsLt_fp8e4m3_f32)) 0x00000000#32
      reduces_S64x256_S256 (.inl rfl) rfl) shapeCasts_S256_S1x256)
    (broadcast S1x256 c)

def rowAcc (o : FVec F S64x256 .f32) (s m : FVec F S1x256 .f32) (v : FVec F S64x256 .fp8e4m3) : FVec F S64x256 .f32 :=
  addf o (mulf (broadcastTo S64x256 (extf .f32 (truncf .bf16 (exp2 (subf s m)) bitsLt_bf16_f32) bitsLt_bf16_f32)
    broadcasts_S1x256_S64x256) (extf .f32 v bitsLt_fp8e4m3_f32))

/-- A temporal block: text keys and the same position in every frame. -/
def temp7 (c vs : F .f32) (KT : FVec F S80x128 .fp8e4m3) (QZ : FVec F S128x256 .fp8e4m3)
    (q : FVec F S64x256 .fp8e4m3) (VT : FVec F S80x80 .bf16)
    (k0 k1 k2 k3 k4 k5 k6 v0 v1 v2 v3 v4 v5 v6 : FVec F S64x256 .fp8e4m3) : FVec F S64x256 .f32 :=
  let qf := extf .f32 q bitsLt_fp8e4m3_f32
  let s0 := rowS c qf k0
  let s1 := rowS c qf k1
  let s2 := rowS c qf k2
  let s3 := rowS c qf k3
  let s4 := rowS c qf k4
  let s5 := rowS c qf k5
  let s6 := rowS c qf k6
  let m := maximumf (maximumf (maximumf (maximumf (maximumf (maximumf (maximumf s0 s1) s2) s3) s4) s5) s6)
    (max80 (txtS c KT QZ))
  let o := pv80 VT (p80 (txtS c KT QZ) m)
  let l := addf (addf (addf (addf (addf (addf (addf (extractStridedSlice S1x256 ![64, 0] o slices_S80x256_o64_0_S1x256)
    (exp2 (subf s0 m))) (exp2 (subf s1 m))) (exp2 (subf s2 m))) (exp2 (subf s3 m))) (exp2 (subf s4 m)))
    (exp2 (subf s5 m))) (exp2 (subf s6 m))
  let a := rowAcc (rowAcc (rowAcc (rowAcc (rowAcc (rowAcc (rowAcc
    (extractStridedSlice S64x256 ![0, 0] o slices_S80x256_o0_0_S64x256)
    s0 m v0) s1 m v1) s2 m v2) s3 m v3) s4 m v4) s5 m v5) s6 m v6
  mulf a (broadcastTo S64x256 (divf (broadcast S1x256 vs) l) broadcasts_S1x256_S64x256)

/-- The text queries, one row each; rows past the last text query are zero. -/
def textQ (keep : IVec S64x128 1) (q : FVec F S64x128 .fp8e4m3) : FVec F S80x64 .fp8e4m3 :=
  truncf .fp8e4m3 (extractStridedSlice S80x64 ![0, 0]
    (transpose S128x64 [1, 0] (select keep (extf .bf16 q bitsLt_fp8e4m3_bf16)
      (broadcast S64x128 (FloatOps.ofBits .bf16 0x0000#16))) transposes_S64x128_p1_0_S128x64)
    slices_S128x64_o0_0_S80x64) bitsLt_fp8e4m3_bf16

def textS (c : F .f32) (q : FVec F S80x64 .fp8e4m3) (K : FVec F S64x1792 .fp8e4m3) : FVec F S80x1792 .f32 :=
  mulf (matmul dot_S80x64_S64x1792_S80x1792_1_0_0_1_n_n none q K (constant S80x1792 .f32 0x00000000#32))
    (broadcast S80x1792 c)

def textT (c : F .f32) (q : FVec F S80x64 .fp8e4m3) (K : FVec F S64x128 .fp8e4m3) : FVec F S80x128 .f32 :=
  select (cmpi .slt (iota .tc S80x128 32 [1] iota_S80x128_d1_w32) (broadcast S80x128 77#32))
    (mulf (matmul dot_S80x64_S64x128_S80x128_1_0_0_1_n_n none q K (constant S80x128 .f32 0x00000000#32))
      (broadcast S80x128 c))
    (broadcast S80x128 (FloatOps.ofBits .f32 0xFF800000#32))

def textM (s : FVec F S80x1792 .f32) (t : FVec F S80x128 .f32) : FVec F S80x1 .f32 :=
  maximumf
    (shapeCast S80x1 (multiReduction .maximumf [1] S80 s 0xFF800000#32 reduces_S80x1792_S80 (.inl rfl) rfl) shapeCasts_S80_S80x1)
    (shapeCast S80x1 (multiReduction .maximumf [1] S80 t 0xFF800000#32 reduces_S80x128_S80 (.inl rfl) rfl) shapeCasts_S80_S80x1)

/-- The block of text queries: all keys. -/
def textB (c vs : F .f32) (q : FVec F S80x64 .fp8e4m3) (K : FVec F S64x1792 .fp8e4m3) (KT : FVec F S64x128 .fp8e4m3)
    (V : FVec F S80x1792 .bf16) (VT : FVec F S80x128 .bf16) : FVec F S64x80 .f32 :=
  let s := textS c q K
  let t := textT c q KT
  let m := textM s t
  let o := addf
    (matmul dot_S80x1792_S80x1792_S80x80_1_1_0_0_n_n none V
      (truncf .bf16 (exp2 (subf s (broadcastTo S80x1792 m broadcasts_S80x1_S80x1792))) bitsLt_bf16_f32)
      (constant S80x80 .f32 0x00000000#32))
    (matmul dot_S80x128_S80x128_S80x80_1_1_0_0_n_n none VT
      (truncf .bf16 (exp2 (subf t (broadcastTo S80x128 m broadcasts_S80x1_S80x128))) bitsLt_bf16_f32)
      (constant S80x80 .f32 0x00000000#32))
  mulf (extractStridedSlice S64x80 ![0, 0] o slices_S80x80_o0_0_S64x80)
    (broadcastTo S64x80 (divf (broadcast S1x80 vs) (extractStridedSlice S1x80 ![64, 0] o slices_S80x80_o64_0_S1x80))
      broadcasts_S1x80_S64x80)

/-- The queries of the first batch of a pair, over zeros. -/
def padLo (q : FVec F S64x256 .fp8e4m3) : FVec F S128x256 .fp8e4m3 :=
  concatenate S128x256 0 [⟨S64x256, q⟩, ⟨S64x256, broadcast S64x256 (FloatOps.ofBits .fp8e4m3 0x00#8)⟩]
    concatenates_S64x256_S64x256_S128x256_d0

/-- The queries of the second batch of a pair, under zeros. -/
def padHi (q : FVec F S64x256 .fp8e4m3) : FVec F S128x256 .fp8e4m3 :=
  concatenate S128x256 0 [⟨S64x256, broadcast S64x256 (FloatOps.ofBits .fp8e4m3 0x00#8)⟩, ⟨S64x256, q⟩]
    concatenates_S64x256_S64x256_S128x256_d0

end Cert.Proof.KernelIdeal
-- ==== Proof.KI.Math.lean ====
/-
  Softmax over the extended reals.

  The kernel works with base two exponents of scores that carry the factor
  1 / ln 2 and divides once at the end; the reference works with natural
  exponents and divides every weight.  Both give the same number for all scores,
  infinite ones included.
-/
module

public import Idealize.ShloMosaic.PureOps.Ideal
public import Idealize.ShloMosaic.Lib.IdealHost

@[expose] public section

noncomputable section

open Idealize Idealize.ShloMosaic
open scoped BigOperators

namespace Cert.Proof.KernelIdeal.Soft

/-- The base two logarithm of e. -/
def L2E : EReal := (((Real.log 2)⁻¹ : ℝ) : EReal)

theorem l2e_real_pos : 0 < (Real.log 2)⁻¹ := inv_pos.mpr (Real.log_pos (by norm_num))
theorem l2e_pos : (0 : EReal) < L2E := by
  unfold L2E; exact_mod_cast l2e_real_pos
theorem l2e_ne_top : L2E ≠ ⊤ := EReal.coe_ne_top _

theorem bot_mul_l2e : (⊥ : EReal) * L2E = ⊥ := EReal.bot_mul_of_pos l2e_pos

theorem exp2_l2e (y : EReal) : Ideal.exp2 (y * L2E) = Ideal.exp y := by
  induction y using EReal.rec with
  | bot => rw [bot_mul_l2e]; rfl
  | top => rw [EReal.top_mul_of_pos l2e_pos]; rfl
  | coe r =>
    unfold L2E
    rw [← EReal.coe_mul, Ideal.exp2_coe, Ideal.exp_coe]
    congr 1
    show (2 : ℝ) ^ (r * (Real.log 2)⁻¹) = Real.exp r
    rw [Real.rpow_def_of_pos (by norm_num)]
    congr 1
    have : Real.log 2 ≠ 0 := (Real.log_pos (by norm_num)).ne'
    field_simp

theorem sub_l2e (x m : EReal) : x * L2E - m * L2E = (x - m) * L2E := by
  rw [sub_eq_add_neg, sub_eq_add_neg, ← EReal.neg_mul, mul_comm x, mul_comm (-m), mul_comm (x + -m)]
  exact (EReal.left_distrib_of_nonneg_of_ne_top l2e_pos.le l2e_ne_top _ _).symm

theorem exp2_sub_l2e (x m : EReal) : Ideal.exp2 (x * L2E - m * L2E) = Ideal.exp (x - m) := by
  rw [sub_l2e, exp2_l2e]

theorem mul_l2e_mono : Monotone (fun y : EReal => y * L2E) :=
  fun _ _ h => mul_le_mul_of_nonneg_right h l2e_pos.le

theorem sup_l2e (S : Finset ℕ) (x : ℕ → EReal) :
    S.sup (fun u => x u * L2E) = S.sup x * L2E := by
  induction S using Finset.induction_on with
  | empty => simp [bot_mul_l2e]
  | insert a S _ ih =>
    rw [Finset.sup_insert, Finset.sup_insert, ih]
    exact (mul_l2e_mono.map_sup _ _).symm

theorem sum_mul_real (S : Finset ℕ) (g : ℕ → EReal) {c : EReal} (h0 : 0 ≤ c) (h1 : c ≠ ⊤) :
    (∑ u ∈ S, g u) * c = ∑ u ∈ S, g u * c := by
  induction S using Finset.induction_on with
  | empty => simp
  | insert a S ha ih =>
    rw [Finset.sum_insert ha, Finset.sum_insert ha, ← ih, mul_comm _ c, mul_comm (g a), mul_comm _ c]
    exact EReal.left_distrib_of_nonneg_of_ne_top h0 h1 _ _

/-- The denominators: a positive real, unless every weight is zero. -/
theorem denom_cases (S : Finset ℕ) (hS : S.Nonempty) (x : ℕ → EReal) :
    (∀ u ∈ S, Ideal.exp (x u - S.sup x) = 0) ∨
      ∃ r : ℝ, 0 < r ∧ ∑ u ∈ S, Ideal.exp (x u - S.sup x) = (r : EReal) := by
  obtain ⟨w, hw, hwm⟩ := Finset.exists_mem_eq_sup S hS x
  generalize hm : S.sup x = m at *
  have hle : ∀ u ∈ S, x u ≤ m := fun u hu => hm ▸ Finset.le_sup (f := x) hu
  induction m using EReal.rec with
  | bot =>
    left; intro u hu
    have := le_bot_iff.mp (hle u hu)
    rw [this]; rfl
  | top =>
    left; intro u _
    rw [sub_eq_add_neg, EReal.neg_top, EReal.add_bot]; rfl
  | coe r =>
    right
    have hreal : ∀ u ∈ S, ∃ e : ℝ, 0 ≤ e ∧ Ideal.exp (x u - (r : EReal)) = (e : EReal) := by
      intro u hu
      have hxu := hle u hu
      induction hx : x u using EReal.rec with
      | bot => exact ⟨0, le_rfl, by rw [sub_eq_add_neg, EReal.bot_add]; rfl⟩
      | top => rw [hx] at hxu; exact absurd hxu (by simp)
      | coe y => exact ⟨Real.exp (y - r), (Real.exp_pos _).le, by rw [← EReal.coe_sub]; rfl⟩
    choose! e he0 he using hreal
    refine ⟨∑ u ∈ S, e u, ?_, ?_⟩
    · refine Finset.sum_pos' he0 ⟨w, hw, ?_⟩
      have h1 := he w hw
      rw [← hwm, ← EReal.coe_sub, sub_self, Ideal.exp_coe, Real.exp_zero] at h1
      have : e w = 1 := (EReal.coe_eq_coe_iff.mp h1).symm
      rw [this]; norm_num
    · rw [Finset.sum_congr rfl he]
      induction S using Finset.cons_induction with
      | empty => simp
      | cons a S ha ih => exact (map_sum (⟨⟨Real.toEReal, rfl⟩, EReal.coe_add⟩ : ℝ →+ EReal) e _).symm

/-- Dividing once at the end is dividing every weight. -/
theorem soft_eq (S : Finset ℕ) (hS : S.Nonempty) (x V : ℕ → EReal) (vs : EReal) :
    (∑ u ∈ S, V u * Ideal.exp2 (x u * L2E - S.sup (fun u => x u * L2E))) *
        Ideal.div vs (∑ u ∈ S, Ideal.exp2 (x u * L2E - S.sup (fun u => x u * L2E)))
      = (∑ u ∈ S, V u * (Ideal.exp (x u - S.sup x) *
          Ideal.div 1 (∑ w ∈ S, Ideal.exp (x w - S.sup x)))) * vs := by
  simp only [sup_l2e, exp2_sub_l2e]
  rcases denom_cases S hS x with h | ⟨r, hr, h⟩
  · have h1 : ∑ u ∈ S, V u * Ideal.exp (x u - S.sup x) = 0 :=
      Finset.sum_eq_zero fun u hu => by rw [h u hu, mul_zero]
    have h2 : ∀ d : EReal, ∑ u ∈ S, V u * (Ideal.exp (x u - S.sup x) * d) = 0 :=
      fun d => Finset.sum_eq_zero fun u hu => by rw [h u hu, zero_mul, mul_zero]
    rw [h1, h2, zero_mul, zero_mul]
  · rw [h, Ideal.div_coe hr.ne', Ideal.div_coe hr.ne', one_mul]
    have h0 : (0 : EReal) ≤ ((1 / r : ℝ) : EReal) := by exact_mod_cast (one_div_pos.mpr hr).le
    rw [mul_comm vs, ← mul_assoc, sum_mul_real S _ h0 (EReal.coe_ne_top _)]
    simp only [mul_assoc]

/-! ### Sums and suprema over the tokens a query sees -/

theorem sup_range_add (g : ℕ → EReal) (n m : ℕ) :
    (Finset.range (n + m)).sup g = (Finset.range n).sup g ⊔ (Finset.range m).sup (fun a => g (n + a)) := by
  induction m with
  | zero => simp
  | succ m ih => rw [← Nat.add_assoc, Finset.range_add_one, Finset.sup_insert, ih, Finset.range_add_one, Finset.sup_insert, ← sup_assoc, ← sup_assoc, sup_comm (g (n + m))]

theorem sum_blocks (g : ℕ → EReal) (m n : ℕ) :
    ∑ u ∈ Finset.range (m * n), g u = ∑ f ∈ Finset.range n, ∑ a ∈ Finset.range m, g (m * f + a) := by
  induction n with
  | zero => simp
  | succ n ih => rw [Nat.mul_succ, Finset.sum_range_add, ih, Finset.sum_range_succ]

theorem sup_blocks (g : ℕ → EReal) (m n : ℕ) :
    (Finset.range (m * n)).sup g
      = (Finset.range n).sup fun f => (Finset.range m).sup fun a => g (m * f + a) := by
  induction n with
  | zero => simp
  | succ n ih => rw [Nat.mul_succ, sup_range_add, ih, Finset.range_add_one, Finset.sup_insert, sup_comm]

theorem sum_frames (g : ℕ → EReal) :
    ∑ u ∈ Finset.range 1869, g u
      = (∑ f ∈ Finset.range 7, ∑ a ∈ Finset.range 256, g (256 * f + a))
        + ∑ a ∈ Finset.range 77, g (1792 + a) := by
  rw [show (1869 : ℕ) = 256 * 7 + 77 from rfl, Finset.sum_range_add]
  rw [sum_blocks]

theorem sup_frames (g : ℕ → EReal) :
    (Finset.range 1869).sup g
      = ((Finset.range 7).sup fun f => (Finset.range 256).sup fun a => g (256 * f + a))
        ⊔ (Finset.range 77).sup fun a => g (1792 + a) := by
  rw [show (1869 : ℕ) = 256 * 7 + 77 from rfl, sup_range_add]
  rw [sup_blocks]

end Cert.Proof.KernelIdeal.Soft
-- ==== Proof.KI.Read.lean ====
/-
  What each kind of block computes over the extended reals: one softmax attention
  over the tokens the query sees.
-/
module

public import proofs.«01_k».proof.Proof.KI.Blocks
public import proofs.«01_k».proof.Proof.KI.Math
public import Idealize.ShloMosaic.Lib.Pointwise

@[expose] public section

noncomputable section

namespace Cert.Proof.KernelIdeal

open Cert.KernelIdeal Cert.KernelIdeal.Gen
open Idealize.ShloMosaic Idealize.ShloMosaic.TcCoe
open Idealize.ShloMosaic.Pointwise
open Cert.Proof.KernelIdeal.Soft

theorem ofBits_ninf : Ideal.ofBits .f32 0xFF800000#32 = ⊥ := by simp [Ideal.ofBits, Ideal.ieee]

/-- Whether the query token `t` sees the key token `u` in a spatial or a temporal head. -/
def sees (sp : Bool) (t u : ℕ) : Prop :=
  1792 ≤ t ∨ 1792 ≤ u ∨ (if sp then t / 256 = u / 256 ∨ u / 256 = 0 else t % 256 = u % 256)

instance (sp t u) : Decidable (sees sp t u) := by unfold sees; cases sp <;> simp <;> infer_instance

def sdot (Q K : Fin 64 → ℕ → EReal) (t u : ℕ) : EReal := ∑ d, Q d t * K d u

/-- The scaled score of a pair of tokens, minus infinity when the query does not see the key. -/
def score (sp : Bool) (c : EReal) (Q K : Fin 64 → ℕ → EReal) (t u : ℕ) : EReal :=
  if sees sp t u then sdot Q K t u * c else ⊥

/-- Softmax attention in base two over all 1869 tokens. -/
def att (x V : ℕ → EReal) (vs : EReal) : EReal :=
  (∑ u ∈ Finset.range 1869, V u * Ideal.exp2 (x u - (Finset.range 1869).sup x)) *
    Ideal.div vs (∑ u ∈ Finset.range 1869, Ideal.exp2 (x u - (Finset.range 1869).sup x))

/-! ### Sums and maxima over an index set of a vector -/

theorem sum_pad {n : ℕ} (m : ℕ) (hm : m ≤ n) (g : Fin n → EReal) (h : ℕ → EReal)
    (hg : ∀ k : Fin n, g k = if (k : ℕ) < m then h k else 0) : ∑ k, g k = ∑ u ∈ Finset.range m, h u := by
  rw [Finset.sum_congr rfl fun k _ => hg k, ← Finset.sum_range (fun k => if k < m then h k else 0), ← Finset.sum_filter]
  congr 1
  ext u; simp; omega

theorem sum_all {n : ℕ} (g : Fin n → EReal) (h : ℕ → EReal) (hg : ∀ k : Fin n, g k = h k) :
    ∑ k, g k = ∑ u ∈ Finset.range n, h u := by
  rw [Finset.sum_congr rfl fun k _ => hg k, ← Finset.sum_range h]

theorem fold_pad {n : ℕ} (m : ℕ) (hm : m ≤ n) (g : Fin n → EReal) (h : ℕ → EReal)
    (hg : ∀ k : Fin n, g k = if (k : ℕ) < m then h k else ⊥) :
    Finset.univ.fold max ⊥ g = (Finset.range m).sup h := by
  show Finset.univ.sup g = _
  apply le_antisymm
  · refine Finset.sup_le fun k _ => ?_
    rw [hg]
    split
    · exact Finset.le_sup (f := h) (Finset.mem_range.mpr ‹_›)
    · exact bot_le
  · refine Finset.sup_le fun u hu => ?_
    have hu' := Finset.mem_range.mp hu
    have := Finset.le_sup (f := g) (Finset.mem_univ (⟨u, by omega⟩ : Fin n))
    rw [hg, if_pos hu'] at this
    exact this

theorem fold_all {n : ℕ} (g : Fin n → EReal) (h : ℕ → EReal) (hg : ∀ k : Fin n, g k = h k) :
    Finset.univ.fold max ⊥ g = (Finset.range n).sup h :=
  fold_pad n le_rfl g h fun k => by rw [hg, if_pos k.isLt]

theorem exp2_bot_sub (m : EReal) : Ideal.exp2 (⊥ - m) = 0 := by
  rw [sub_eq_add_neg, EReal.bot_add]; rfl

/-! ### The tokens a query sees -/

theorem spat_frames (G : ℕ → EReal) (f : ℕ) (hf : f < 7) (hf0 : f ≠ 0)
    (h : ∀ f' < 7, f' ≠ f → f' ≠ 0 → G f' = 0) : ∑ f' ∈ Finset.range 7, G f' = G f + G 0 := by
  rw [← Finset.sum_subset (s₁ := {f, 0})]
  · rw [Finset.sum_pair hf0]
  · intro x; simp; omega
  · intro x hx hn; simp at hx hn; exact h x hx hn.1 hn.2

theorem sum_spat (g : ℕ → EReal) (f : ℕ) (hf : f < 7) (hf0 : f ≠ 0)
    (h : ∀ u < 1792, u / 256 ≠ f → u / 256 ≠ 0 → g u = 0) :
    ∑ u ∈ Finset.range 1869, g u
      = ∑ a ∈ Finset.range 77, g (1792 + a) + ∑ a ∈ Finset.range 256, g (256 * f + a)
        + ∑ a ∈ Finset.range 256, g a := by
  rw [sum_frames, spat_frames _ f hf hf0]
  · simp only [Nat.mul_zero, Nat.zero_add]
    rw [add_comm, ← add_assoc]
  · intro f' hf' h1 h2
    refine Finset.sum_eq_zero fun a ha => ?_
    have := Finset.mem_range.mp ha
    refine h _ (by omega) ?_ ?_ <;> omega

theorem sum_spat0 (g : ℕ → EReal) (h : ∀ u < 1792, u / 256 ≠ 0 → g u = 0) :
    ∑ u ∈ Finset.range 1869, g u
      = ∑ a ∈ Finset.range 77, g (1792 + a) + ∑ a ∈ Finset.range 256, g a := by
  rw [sum_frames, Finset.sum_eq_single (0 : ℕ)]
  · simp only [Nat.mul_zero, Nat.zero_add]
    rw [add_comm]
  · intro f' hf' h1
    have := Finset.mem_range.mp hf'
    refine Finset.sum_eq_zero fun a ha => ?_
    have := Finset.mem_range.mp ha
    refine h _ (by omega) ?_; omega
  · intro h; simp at h

theorem sum_temp (g : ℕ → EReal) (a : ℕ) (ha : a < 256) (h : ∀ u < 1792, u % 256 ≠ a → g u = 0) :
    ∑ u ∈ Finset.range 1869, g u
      = ∑ b ∈ Finset.range 77, g (1792 + b) + ∑ f ∈ Finset.range 7, g (256 * f + a) := by
  rw [sum_frames, add_comm]
  congr 1
  refine Finset.sum_congr rfl fun f hf => ?_
  have := Finset.mem_range.mp hf
  refine Finset.sum_eq_single_of_mem a (Finset.mem_range.mpr ha) fun b hb hne => ?_
  have := Finset.mem_range.mp hb
  exact h _ (by omega) (by omega)

theorem sum_text (g : ℕ → EReal) :
    ∑ u ∈ Finset.range 1869, g u
      = ∑ u ∈ Finset.range 1792, g u + ∑ a ∈ Finset.range 77, g (1792 + a) := by
  rw [show (1869 : ℕ) = 1792 + 77 from rfl, Finset.sum_range_add]

theorem sup_le_of (g : ℕ → EReal) (n : ℕ) (M : EReal) (h : ∀ u < n, g u ≤ M) : (Finset.range n).sup g ≤ M :=
  Finset.sup_le fun u hu => h u (Finset.mem_range.mp hu)

theorem le_sup_of (g : ℕ → EReal) (n u : ℕ) (h : u < n) : g u ≤ (Finset.range n).sup g :=
  Finset.le_sup (f := g) (Finset.mem_range.mpr h)

theorem sup_spat (g : ℕ → EReal) (f : ℕ) (hf : f < 7)
    (h : ∀ u < 1792, u / 256 ≠ f → u / 256 ≠ 0 → g u = ⊥) :
    (Finset.range 1869).sup g
      = max (max ((Finset.range 77).sup fun a => g (1792 + a)) ((Finset.range 256).sup fun a => g (256 * f + a)))
        ((Finset.range 256).sup fun a => g a) := by
  apply le_antisymm
  · refine sup_le_of _ _ _ fun u hu => ?_
    by_cases h1 : 1792 ≤ u
    · have := le_sup_of (fun a => g (1792 + a)) 77 (u - 1792) (by omega)
      simp only [show 1792 + (u - 1792) = u by omega] at this
      exact le_max_of_le_left (le_max_of_le_left this)
    by_cases h2 : u / 256 = f
    · have := le_sup_of (fun a => g (256 * f + a)) 256 (u - 256 * f) (by omega)
      simp only [show 256 * f + (u - 256 * f) = u by omega] at this
      exact le_max_of_le_left (le_max_of_le_right this)
    by_cases h3 : u / 256 = 0
    · exact le_max_of_le_right (le_sup_of _ 256 u (by omega))
    · rw [h u (by omega) h2 h3]; exact bot_le
  · refine max_le (max_le ?_ ?_) ?_ <;> refine sup_le_of _ _ _ fun u hu => le_sup_of g 1869 _ (by omega)

theorem sup_spat0 (g : ℕ → EReal) (h : ∀ u < 1792, u / 256 ≠ 0 → g u = ⊥) :
    (Finset.range 1869).sup g
      = max ((Finset.range 77).sup fun a => g (1792 + a)) ((Finset.range 256).sup fun a => g a) := by
  rw [sup_spat g 0 (by omega) (fun u hu h1 _ => h u hu h1)]
  simp only [Nat.mul_zero, Nat.zero_add, max_assoc, max_self]

theorem sup_temp (g : ℕ → EReal) (a : ℕ) (ha : a < 256) (h : ∀ u < 1792, u % 256 ≠ a → g u = ⊥) :
    (Finset.range 1869).sup g
      = max ((Finset.range 7).sup fun f => g (256 * f + a)) ((Finset.range 77).sup fun b => g (1792 + b)) := by
  apply le_antisymm
  · refine sup_le_of _ _ _ fun u hu => ?_
    by_cases h1 : 1792 ≤ u
    · have := le_sup_of (fun a => g (1792 + a)) 77 (u - 1792) (by omega)
      simp only [show 1792 + (u - 1792) = u by omega] at this
      exact le_max_of_le_right this
    by_cases h2 : u % 256 = a
    · have := le_sup_of (fun f => g (256 * f + a)) 7 (u / 256) (by omega)
      simp only [show 256 * (u / 256) + a = u by omega] at this
      exact le_max_of_le_left this
    · rw [h u (by omega) h2]; exact bot_le
  · refine max_le ?_ ?_ <;> refine sup_le_of _ _ _ fun u hu => le_sup_of g 1869 _ (by omega)

theorem sup_text (g : ℕ → EReal) :
    (Finset.range 1869).sup g
      = max ((Finset.range 1792).sup g) ((Finset.range 77).sup fun a => g (1792 + a)) :=
  sup_range_add g 1792 77

/-! ### The operations at one column -/

variable {a : Fin 256}

theorem select_lt (n u : ℕ) (x y : EReal) (hn : n < 2 ^ 31) (hu : u < 2 ^ 31) :
    Scalar.select (IntOp.cmpi CmpIPredicate.slt (BitVec.ofNat 32 u) (BitVec.ofNat 32 n)) x y = if u < n then x else y := by
  have : (BitVec.ofNat 32 u).slt (BitVec.ofNat 32 n) = decide (u < n) := by
    rw [BitVec.slt, BitVec.toInt_ofNat', BitVec.toInt_ofNat', Int.bmod_eq_of_le, Int.bmod_eq_of_le] <;> first | omega | simp
  by_cases h : u < n <;> simp [Scalar.select, IntOp.cmpi, this, h]

theorem txtS_read {c : EReal} {KT : FVec Ideal S80x128 .fp8e4m3} {QZ : FVec Ideal S128x256 .fp8e4m3} {y : ℕ → EReal}
    (hy : ∀ u : Fin 80, (u : ℕ) < 77 → (∑ l : Fin 128, KT (ix2 u l) * QZ (ix2 l a)) * c = y u) (u : Fin 80) :
    txtS (F := Ideal) c KT QZ (ix2 u a) = if (u : ℕ) < 77 then y u else ⊥ := by
  pointwise [txtS]
  rw [select_lt 77 u _ _ (by omega) (by omega), ofBits_ninf]
  split
  · exact hy u ‹_›
  · rfl

theorem keyS_read {c : EReal} {K : FVec Ideal S256x128 .fp8e4m3} {QZ : FVec Ideal S128x256 .fp8e4m3} {y : ℕ → EReal}
    (hy : ∀ u : Fin 256, (∑ l : Fin 128, K (ix2 u l) * QZ (ix2 l a)) * c = y u) (u : Fin 256) :
    keyS (F := Ideal) c K QZ (ix2 u a) = y u := by
  pointwise [keyS]
  exact hy u

theorem max80_read {X : FVec Ideal S80x256 .f32} {y : ℕ → EReal}
    (hX : ∀ u : Fin 80, X (ix2 u a) = if (u : ℕ) < 77 then y u else ⊥) :
    max80 X (ix2 0 a) = (Finset.range 77).sup y := by
  pointwise [max80]
  rw [ofBits_ninf]
  exact fold_pad 77 (by omega) _ y hX

theorem max256_read {X : FVec Ideal S256x256 .f32} {y : ℕ → EReal} (hX : ∀ u : Fin 256, X (ix2 u a) = y u) :
    max256 X (ix2 0 a) = (Finset.range 256).sup y := by
  pointwise [max256]
  rw [ofBits_ninf]
  exact fold_all _ y hX

theorem pv80_read {X : FVec Ideal S80x256 .f32} {m : FVec Ideal S1x256 .f32} {V : FVec Ideal S80x80 .bf16} {y W : ℕ → EReal} {M : EReal}
    (hX : ∀ u : Fin 80, X (ix2 u a) = if (u : ℕ) < 77 then y u else ⊥) (hm : m (ix2 0 a) = M) (r : Fin 80)
    (hV : ∀ u : Fin 80, (u : ℕ) < 77 → V (ix2 r u) = W u) :
    pv80 V (p80 X m) (ix2 r a) = ∑ u ∈ Finset.range 77, W u * Ideal.exp2 (y u - M) := by
  pointwise [pv80, p80]
  refine sum_pad 77 (by omega) _ (fun u => W u * Ideal.exp2 (y u - M)) fun u => ?_
  show V (ix2 r u) * Ideal.exp2 (X (ix2 u a) - m (ix2 0 a)) = _
  rw [hX, hm]
  split
  · rw [hV u ‹_›]
  · rw [exp2_bot_sub, mul_zero]

theorem pv256_read {X : FVec Ideal S256x256 .f32} {m : FVec Ideal S1x256 .f32} {V : FVec Ideal S80x256 .bf16} {y W : ℕ → EReal} {M : EReal}
    (hX : ∀ u : Fin 256, X (ix2 u a) = y u) (hm : m (ix2 0 a) = M) (r : Fin 80)
    (hV : ∀ u : Fin 256, V (ix2 r u) = W u) :
    pv256 V (p256 X m) (ix2 r a) = ∑ u ∈ Finset.range 256, W u * Ideal.exp2 (y u - M) := by
  pointwise [pv256, p256]
  refine sum_all _ (fun u => W u * Ideal.exp2 (y u - M)) fun u => ?_
  show V (ix2 r u) * Ideal.exp2 (X (ix2 u a) - m (ix2 0 a)) = _
  rw [hX, hm, hV]

end Cert.Proof.KernelIdeal
-- ==== Proof.KI.Read2.lean ====
/-
  Each kind of block is the attention of its queries.
-/
module

public import proofs.«01_k».proof.Proof.KI.Read

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pointwise
open Cert.Proof.KernelIdeal.Soft

variable {a : Fin 256} {c vs : EReal} {Q K : Fin 64 → ℕ → EReal} {V : Fin 64 → ℕ → EReal}

theorem normB_read {o : FVec Ideal S80x256 .f32} (d : Fin 64) :
    normB (F := Ideal) vs o (ix2 d a) = o (ix2 ⟨d, by omega⟩ a) * Ideal.div vs (o (ix2 64 a)) := by
  pointwise [normB]

theorem unseen_spat {f a u : ℕ} (hf : f < 7) (ha : a < 256) (hu : u < 1792) (h1 : u / 256 ≠ f) (h2 : u / 256 ≠ 0) :
    ¬ sees true (256 * f + a) u := by
  unfold sees; simp; omega

theorem unseen_temp {f a u : ℕ} (hf : f < 7) (ha : a < 256) (hu : u < 1792) (h1 : u % 256 ≠ a) :
    ¬ sees false (256 * f + a) u := by
  unfold sees; simp; omega

theorem score_of_sees {sp t u} (h : sees sp t u) : score sp c Q K t u = sdot Q K t u * c := if_pos h
theorem score_of_not_sees {sp t u} (h : ¬ sees sp t u) : score sp c Q K t u = ⊥ := if_neg h

theorem spat3_eq {KT : FVec Ideal S80x128 .fp8e4m3} {K1 K0 : FVec Ideal S256x128 .fp8e4m3}
    {QZ : FVec Ideal S128x256 .fp8e4m3} {VT : FVec Ideal S80x80 .bf16} {V1 V0 : FVec Ideal S80x256 .bf16}
    {f : ℕ} (hf : f < 7) (hf0 : f ≠ 0)
    (hT : ∀ u : Fin 80, (u : ℕ) < 77 → ∑ l : Fin 128, KT (ix2 u l) * QZ (ix2 l a) = sdot Q K (256 * f + a) (1792 + u))
    (h1 : ∀ u : Fin 256, ∑ l : Fin 128, K1 (ix2 u l) * QZ (ix2 l a) = sdot Q K (256 * f + a) (256 * f + u))
    (h0 : ∀ u : Fin 256, ∑ l : Fin 128, K0 (ix2 u l) * QZ (ix2 l a) = sdot Q K (256 * f + a) u)
    (vT : ∀ (d : Fin 64) (u : Fin 80), (u : ℕ) < 77 → VT (ix2 ⟨d, by omega⟩ u) = V d (1792 + u))
    (v1 : ∀ (d : Fin 64) (u : Fin 256), V1 (ix2 ⟨d, by omega⟩ u) = V d (256 * f + u))
    (v0 : ∀ (d : Fin 64) (u : Fin 256), V0 (ix2 ⟨d, by omega⟩ u) = V d u)
    (oT : ∀ u : Fin 80, (u : ℕ) < 77 → VT (ix2 64 u) = 1)
    (o1 : ∀ u : Fin 256, V1 (ix2 64 u) = 1) (o0 : ∀ u : Fin 256, V0 (ix2 64 u) = 1) (d : Fin 64) :
    spat3 (F := Ideal) c vs KT K1 K0 QZ VT V1 V0 (ix2 d a) = att (score true c Q K (256 * f + a)) (V d) vs := by
  have ha := a.isLt
  generalize hx : score true c Q K (256 * f + a) = x
  have xT : ∀ u, u < 77 → x (1792 + u) = sdot Q K (256 * f + a) (1792 + u) * c := fun u _ => by
    rw [← hx]; exact score_of_sees (by unfold sees; right; left; omega)
  have x1 : ∀ u, u < 256 → x (256 * f + u) = sdot Q K (256 * f + a) (256 * f + u) * c := fun u _ => by
    rw [← hx]; exact score_of_sees (by unfold sees; right; right; simp; omega)
  have x0 : ∀ u, u < 256 → x u = sdot Q K (256 * f + a) u * c := fun u _ => by
    rw [← hx]; exact score_of_sees (by unfold sees; right; right; simp; omega)
  have xb : ∀ u < 1792, u / 256 ≠ f → u / 256 ≠ 0 → x u = ⊥ := fun u hu h1 h2 => by
    rw [← hx]; exact score_of_not_sees (unseen_spat hf ha hu h1 h2)
  have sT := txtS_read (c := c) (a := a) (KT := KT) (QZ := QZ) (y := fun u => x (1792 + u))
    fun u hu => by rw [hT u hu, xT u hu]
  have s1 := keyS_read (c := c) (a := a) (K := K1) (QZ := QZ) (y := fun u => x (256 * f + u))
    fun u => by rw [h1 u, x1 u u.isLt]
  have s0 := keyS_read (c := c) (a := a) (K := K0) (QZ := QZ) (y := x)
    fun u => by rw [h0 u, x0 u u.isLt]
  have hm : maximumf (maximumf (max80 (txtS (F := Ideal) c KT QZ)) (max256 (keyS c K1 QZ))) (max256 (keyS c K0 QZ)) (ix2 0 a)
      = (Finset.range 1869).sup x := by
    show max (max (max80 (txtS (F := Ideal) c KT QZ) (ix2 0 a)) (max256 (keyS (F := Ideal) c K1 QZ) (ix2 0 a)))
      (max256 (keyS (F := Ideal) c K0 QZ) (ix2 0 a)) = _
    rw [max80_read (y := fun u => x (1792 + u)) sT, max256_read (y := fun u => x (256 * f + u)) s1, max256_read s0, sup_spat x f hf xb]
  have row : ∀ (r : Fin 80) (W : ℕ → EReal), (∀ u : Fin 80, (u : ℕ) < 77 → VT (ix2 r u) = W (1792 + u)) →
      (∀ u : Fin 256, V1 (ix2 r u) = W (256 * f + u)) → (∀ u : Fin 256, V0 (ix2 r u) = W u) →
      addf (addf (pv80 VT (p80 (txtS (F := Ideal) c KT QZ) (maximumf (maximumf (max80 (txtS c KT QZ)) (max256 (keyS c K1 QZ))) (max256 (keyS c K0 QZ)))))
        (pv256 V1 (p256 (keyS c K1 QZ) (maximumf (maximumf (max80 (txtS c KT QZ)) (max256 (keyS c K1 QZ))) (max256 (keyS c K0 QZ))))))
        (pv256 V0 (p256 (keyS c K0 QZ) (maximumf (maximumf (max80 (txtS c KT QZ)) (max256 (keyS c K1 QZ))) (max256 (keyS c K0 QZ))))) (ix2 r a)
      = ∑ u ∈ Finset.range 1869, W u * Ideal.exp2 (x u - (Finset.range 1869).sup x) := by
    intro r W wT w1 w0
    rw [addf_apply, addf_apply, pv80_read (y := fun u => x (1792 + u)) (W := fun u => W (1792 + u)) sT hm r wT, pv256_read (y := fun u => x (256 * f + u)) (W := fun u => W (256 * f + u)) s1 hm r w1, pv256_read s0 hm r w0]
    refine (sum_spat (fun u => W u * Ideal.exp2 (x u - (Finset.range 1869).sup x)) f hf hf0 fun u hu h1 h2 => ?_).symm
    rw [xb u hu h1 h2, exp2_bot_sub, mul_zero]
  rw [spat3, normB_read, row _ (V d) (vT d) (v1 d) (v0 d), row 64 (fun _ => 1) oT o1 o0]
  simp only [one_mul]
  rfl

theorem spat2_eq {KT : FVec Ideal S80x128 .fp8e4m3} {K0 : FVec Ideal S256x128 .fp8e4m3}
    {QZ : FVec Ideal S128x256 .fp8e4m3} {VT : FVec Ideal S80x80 .bf16} {V0 : FVec Ideal S80x256 .bf16}
    (hT : ∀ u : Fin 80, (u : ℕ) < 77 → ∑ l : Fin 128, KT (ix2 u l) * QZ (ix2 l a) = sdot Q K a (1792 + u))
    (h0 : ∀ u : Fin 256, ∑ l : Fin 128, K0 (ix2 u l) * QZ (ix2 l a) = sdot Q K a u)
    (vT : ∀ (d : Fin 64) (u : Fin 80), (u : ℕ) < 77 → VT (ix2 ⟨d, by omega⟩ u) = V d (1792 + u))
    (v0 : ∀ (d : Fin 64) (u : Fin 256), V0 (ix2 ⟨d, by omega⟩ u) = V d u)
    (oT : ∀ u : Fin 80, (u : ℕ) < 77 → VT (ix2 64 u) = 1)
    (o0 : ∀ u : Fin 256, V0 (ix2 64 u) = 1) (d : Fin 64) :
    spat2 (F := Ideal) c vs KT K0 QZ VT V0 (ix2 d a) = att (score true c Q K a) (V d) vs := by
  have ha := a.isLt
  generalize hx : score true c Q K a = x
  have xT : ∀ u, u < 77 → x (1792 + u) = sdot Q K a (1792 + u) * c := fun u _ => by
    rw [← hx]; exact score_of_sees (by unfold sees; right; left; omega)
  have x0 : ∀ u, u < 256 → x u = sdot Q K a u * c := fun u _ => by
    rw [← hx]; exact score_of_sees (by unfold sees; right; right; simp; omega)
  have xb : ∀ u < 1792, u / 256 ≠ 0 → x u = ⊥ := fun u hu h1 => by
    rw [← hx]; exact score_of_not_sees (by unfold sees; simp; omega)
  have sT := txtS_read (c := c) (a := a) (KT := KT) (QZ := QZ) (y := fun u => x (1792 + u))
    fun u hu => by rw [hT u hu, xT u hu]
  have s0 := keyS_read (c := c) (a := a) (K := K0) (QZ := QZ) (y := x)
    fun u => by rw [h0 u, x0 u u.isLt]
  have hm : maximumf (max80 (txtS (F := Ideal) c KT QZ)) (max256 (keyS c K0 QZ)) (ix2 0 a)
      = (Finset.range 1869).sup x := by
    show max (max80 (txtS (F := Ideal) c KT QZ) (ix2 0 a)) (max256 (keyS (F := Ideal) c K0 QZ) (ix2 0 a)) = _
    rw [max80_read (y := fun u => x (1792 + u)) sT, max256_read s0, sup_spat0 x xb]
  have row : ∀ (r : Fin 80) (W : ℕ → EReal), (∀ u : Fin 80, (u : ℕ) < 77 → VT (ix2 r u) = W (1792 + u)) →
      (∀ u : Fin 256, V0 (ix2 r u) = W u) →
      addf (pv80 VT (p80 (txtS (F := Ideal) c KT QZ) (maximumf (max80 (txtS c KT QZ)) (max256 (keyS c K0 QZ)))))
        (pv256 V0 (p256 (keyS c K0 QZ) (maximumf (max80 (txtS c KT QZ)) (max256 (keyS c K0 QZ))))) (ix2 r a)
      = ∑ u ∈ Finset.range 1869, W u * Ideal.exp2 (x u - (Finset.range 1869).sup x) := by
    intro r W wT w0
    rw [addf_apply, pv80_read (y := fun u => x (1792 + u)) (W := fun u => W (1792 + u)) sT hm r wT, pv256_read s0 hm r w0]
    refine (sum_spat0 (fun u => W u * Ideal.exp2 (x u - (Finset.range 1869).sup x)) fun u hu h1 => ?_).symm
    rw [xb u hu h1, exp2_bot_sub, mul_zero]
  rw [spat2, normB_read, row _ (V d) (vT d) (v0 d), row 64 (fun _ => 1) oT o0]
  simp only [one_mul]
  rfl

/-! ### Temporal blocks -/

theorem rowS_read {q : FVec Ideal S64x256 .f32} {k : FVec Ideal S64x256 .fp8e4m3} :
    rowS (F := Ideal) c q k (ix2 0 a) = (∑ d : Fin 64, q (ix2 d a) * k (ix2 d a)) * c := by
  pointwise [rowS]

theorem rowAcc_read {o : FVec Ideal S64x256 .f32} {s m : FVec Ideal S1x256 .f32} {v : FVec Ideal S64x256 .fp8e4m3}
    {d : Fin 64} :
    rowAcc (F := Ideal) o s m v (ix2 d a) = o (ix2 d a) + v (ix2 d a) * Ideal.exp2 (s (ix2 0 a) - m (ix2 0 a)) := by
  pointwise [rowAcc]
  rw [mul_comm]
  rfl

theorem sup_range_succ (g : ℕ → EReal) (n : ℕ) :
    (Finset.range (n + 1)).sup g = max ((Finset.range n).sup g) (g n) := by
  rw [Finset.range_add_one, Finset.sup_insert, sup_comm]

theorem temp7_eq {KT : FVec Ideal S80x128 .fp8e4m3} {QZ : FVec Ideal S128x256 .fp8e4m3} {q : FVec Ideal S64x256 .fp8e4m3}
    {VT : FVec Ideal S80x80 .bf16} (k v : Fin 7 → FVec Ideal S64x256 .fp8e4m3)
    {f : ℕ} (hf : f < 7)
    (hT : ∀ u : Fin 80, (u : ℕ) < 77 → ∑ l : Fin 128, KT (ix2 u l) * QZ (ix2 l a) = sdot Q K (256 * f + a) (1792 + u))
    (hq : ∀ d : Fin 64, q (ix2 d a) = Q d (256 * f + a))
    (hk : ∀ (g : Fin 7) (d : Fin 64), k g (ix2 d a) = K d (256 * g + a))
    (hv : ∀ (g : Fin 7) (d : Fin 64), v g (ix2 d a) = V d (256 * g + a))
    (vT : ∀ (d : Fin 64) (u : Fin 80), (u : ℕ) < 77 → VT (ix2 ⟨d, by omega⟩ u) = V d (1792 + u))
    (oT : ∀ u : Fin 80, (u : ℕ) < 77 → VT (ix2 64 u) = 1) (d : Fin 64) :
    temp7 (F := Ideal) c vs KT QZ q VT (k 0) (k 1) (k 2) (k 3) (k 4) (k 5) (k 6) (v 0) (v 1) (v 2) (v 3) (v 4) (v 5) (v 6) (ix2 d a)
      = att (score false c Q K (256 * f + a)) (V d) vs := by
  have ha := a.isLt
  generalize hx : score false c Q K (256 * f + a) = x
  have xT : ∀ u, u < 77 → x (1792 + u) = sdot Q K (256 * f + a) (1792 + u) * c := fun u _ => by
    rw [← hx]; exact score_of_sees (by unfold sees; right; left; omega)
  have xg : ∀ g : Fin 7, x (256 * g + a) = sdot Q K (256 * f + a) (256 * g + a) * c := fun g => by
    rw [← hx]; exact score_of_sees (by unfold sees; right; right; simp)
  have xb : ∀ u : ℕ, u < 1792 → u % 256 ≠ (a : ℕ) → x u = ⊥ := fun u hu h1 => by
    rw [← hx]; exact score_of_not_sees (unseen_temp hf ha hu h1)
  have sT := txtS_read (c := c) (a := a) (KT := KT) (QZ := QZ) (y := fun u => x (1792 + u))
    fun u hu => by rw [hT u hu, xT u hu]
  have sg : ∀ g : Fin 7, rowS (F := Ideal) c (extf .f32 q bitsLt_fp8e4m3_f32) (k g) (ix2 0 a) = x (256 * g + a) := fun g => by
    rw [rowS_read, xg g, sdot]
    congr 1
    refine Finset.sum_congr rfl fun d _ => ?_
    rw [← hq, ← hk]; rfl
  unfold temp7
  generalize hm : maximumf (maximumf (maximumf (maximumf (maximumf (maximumf (maximumf
    (rowS (F := Ideal) c (extf .f32 q bitsLt_fp8e4m3_f32) (k 0)) (rowS c (extf .f32 q bitsLt_fp8e4m3_f32) (k 1)))
    (rowS c (extf .f32 q bitsLt_fp8e4m3_f32) (k 2))) (rowS c (extf .f32 q bitsLt_fp8e4m3_f32) (k 3)))
    (rowS c (extf .f32 q bitsLt_fp8e4m3_f32) (k 4))) (rowS c (extf .f32 q bitsLt_fp8e4m3_f32) (k 5)))
    (rowS c (extf .f32 q bitsLt_fp8e4m3_f32) (k 6))) (max80 (txtS c KT QZ)) = m
  have hM : m (ix2 0 a) = (Finset.range 1869).sup x := by
    rw [sup_temp x a ha xb, ← max80_read (y := fun u => x (1792 + u)) sT, ← hm]
    simp only [sup_range_succ, Finset.range_zero, Finset.sup_empty, bot_sup_eq]
    simp only [maximumf_apply, Ideal.maximumf_eq_max, sg]
    rfl
  have row : ∀ (r : Fin 80) (W : ℕ → EReal), (∀ u : Fin 80, (u : ℕ) < 77 → VT (ix2 r u) = W (1792 + u)) →
      pv80 VT (p80 (txtS (F := Ideal) c KT QZ) m) (ix2 r a)
        = ∑ u ∈ Finset.range 77, W (1792 + u) * Ideal.exp2 (x (1792 + u) - (Finset.range 1869).sup x) :=
    fun r W w => pv80_read (y := fun u => x (1792 + u)) (W := fun u => W (1792 + u)) sT hM r w
  have all : ∀ W : ℕ → EReal, ∑ u ∈ Finset.range 1869, W u * Ideal.exp2 (x u - (Finset.range 1869).sup x) = _ := fun W =>
    sum_temp (fun u => W u * Ideal.exp2 (x u - (Finset.range 1869).sup x)) a ha fun u hu h1 => by
      rw [xb u hu h1, exp2_bot_sub, mul_zero]
  have one := all (fun _ => 1)
  simp only [one_mul] at one
  rw [att, all, one]
  have r1 := row 64 (fun _ => 1) oT
  simp only [one_mul] at r1
  have rd := row ⟨d, by omega⟩ (V d) (vT d)
  rw [← rd, ← r1]
  simp only [Finset.sum_range_succ, Finset.range_zero, Finset.sum_empty, zero_add]
  pointwise
  simp only [rowAcc_read, sg, hM, hv]
  pointwise
  simp only [add_assoc]
  rfl

/-! ### The text block -/

theorem textT_read {q : FVec Ideal S80x64 .fp8e4m3} {k : FVec Ideal S64x128 .fp8e4m3} {r : Fin 80} {y : ℕ → EReal}
    (hy : ∀ u : Fin 128, (u : ℕ) < 77 → (∑ l : Fin 64, q (ix2 r l) * k (ix2 l u)) * c = y u) (u : Fin 128) :
    textT (F := Ideal) c q k (ix2 r u) = if (u : ℕ) < 77 then y u else ⊥ := by
  pointwise [textT]
  rw [select_lt 77 u _ _ (by omega) (by omega), ofBits_ninf]
  split
  · exact hy u ‹_›
  · rfl

theorem textS_read {q : FVec Ideal S80x64 .fp8e4m3} {k : FVec Ideal S64x1792 .fp8e4m3} {r : Fin 80} {y : ℕ → EReal}
    (hy : ∀ u : Fin 1792, (∑ l : Fin 64, q (ix2 r l) * k (ix2 l u)) * c = y u) (u : Fin 1792) :
    textS (F := Ideal) c q k (ix2 r u) = y u := by
  pointwise [textS]
  exact hy u

theorem textM_read {s : FVec Ideal S80x1792 .f32} {t : FVec Ideal S80x128 .f32} {r : Fin 80} {y z : ℕ → EReal}
    (hs : ∀ u : Fin 1792, s (ix2 r u) = y u) (ht : ∀ u : Fin 128, t (ix2 r u) = if (u : ℕ) < 77 then z u else ⊥) :
    textM s t (ix2 r 0) = max ((Finset.range 1792).sup y) ((Finset.range 77).sup z) := by
  pointwise [textM]
  rw [ofBits_ninf, fold_all _ y hs, fold_pad 77 (by omega) _ z ht]

theorem textB_read {q : FVec Ideal S80x64 .fp8e4m3} {k : FVec Ideal S64x1792 .fp8e4m3} {kT : FVec Ideal S64x128 .fp8e4m3}
    {v : FVec Ideal S80x1792 .bf16} {vT : FVec Ideal S80x128 .bf16} {d : Fin 64} {r : Fin 80} :
    textB (F := Ideal) c vs q k kT v vT (ix2 d r)
      = (∑ u : Fin 1792, v (ix2 ⟨d, by omega⟩ u) * Ideal.exp2 (textS c q k (ix2 r u) - textM (textS c q k) (textT c q kT) (ix2 r 0))
        + ∑ u : Fin 128, vT (ix2 ⟨d, by omega⟩ u) * Ideal.exp2 (textT c q kT (ix2 r u) - textM (textS c q k) (textT c q kT) (ix2 r 0)))
      * Ideal.div vs (∑ u : Fin 1792, v (ix2 64 u) * Ideal.exp2 (textS c q k (ix2 r u) - textM (textS c q k) (textT c q kT) (ix2 r 0))
        + ∑ u : Fin 128, vT (ix2 64 u) * Ideal.exp2 (textT c q kT (ix2 r u) - textM (textS c q k) (textT c q kT) (ix2 r 0))) := by
  unfold textB
  generalize textM (textS c q k) (textT c q kT) = m
  generalize textS c q k = s
  generalize textT c q kT = t
  pointwise
  rfl

theorem textB_eq {q : FVec Ideal S80x64 .fp8e4m3} {k : FVec Ideal S64x1792 .fp8e4m3} {kT : FVec Ideal S64x128 .fp8e4m3}
    {v : FVec Ideal S80x1792 .bf16} {vT : FVec Ideal S80x128 .bf16} (sp : Bool) {r : Fin 80}
    (hq : ∀ d : Fin 64, q (ix2 r d) = Q d (1792 + r))
    (hk : ∀ (d : Fin 64) (u : Fin 1792), k (ix2 d u) = K d u)
    (hkT : ∀ (d : Fin 64) (u : Fin 128), (u : ℕ) < 77 → kT (ix2 d u) = K d (1792 + u))
    (hv : ∀ (d : Fin 64) (u : Fin 1792), v (ix2 ⟨d, by omega⟩ u) = V d u)
    (hvT : ∀ (d : Fin 64) (u : Fin 128), (u : ℕ) < 77 → vT (ix2 ⟨d, by omega⟩ u) = V d (1792 + u))
    (o : ∀ u : Fin 1792, v (ix2 64 u) = 1)
    (oT : ∀ u : Fin 128, (u : ℕ) < 77 → vT (ix2 64 u) = 1) (d : Fin 64) :
    textB (F := Ideal) c vs q k kT v vT (ix2 d r) = att (score sp c Q K (1792 + r)) (V d) vs := by
  generalize hx : score sp c Q K (1792 + r) = x
  have xa : ∀ u, x u = sdot Q K (1792 + r) u * c := fun u => by
    rw [← hx]; exact score_of_sees (by unfold sees; left; omega)
  have hs := textS_read (c := c) (q := q) (k := k) (r := r) (y := x) fun u => by
    rw [xa, sdot]; congr 1; exact Finset.sum_congr rfl fun d _ => by rw [hq, hk]
  have ht := textT_read (c := c) (q := q) (k := kT) (r := r) (y := fun u => x (1792 + u)) fun u hu => by
    rw [xa, sdot]; congr 1; exact Finset.sum_congr rfl fun d _ => by rw [hq, hkT d u hu]
  have hm := textM_read (z := fun u => x (1792 + u)) hs ht
  rw [← sup_text x] at hm
  have row : ∀ (i : Fin 80) (W : ℕ → EReal), (∀ u : Fin 1792, v (ix2 i u) = W u) →
      (∀ u : Fin 128, (u : ℕ) < 77 → vT (ix2 i u) = W (1792 + u)) →
      ∑ u : Fin 1792, v (ix2 i u) * Ideal.exp2 (textS (F := Ideal) c q k (ix2 r u) - (Finset.range 1869).sup x)
        + ∑ u : Fin 128, vT (ix2 i u) * Ideal.exp2 (textT (F := Ideal) c q kT (ix2 r u) - (Finset.range 1869).sup x)
      = ∑ u ∈ Finset.range 1869, W u * Ideal.exp2 (x u - (Finset.range 1869).sup x) := by
    intro i W w wT
    rw [sum_text]
    refine congrArg₂ (· + ·) ?_ ?_
    · exact sum_all _ (fun u => W u * Ideal.exp2 (x u - (Finset.range 1869).sup x)) fun u => by rw [w, hs]
    · refine sum_pad 77 (by omega) _ (fun u => W (1792 + u) * Ideal.exp2 (x (1792 + u) - (Finset.range 1869).sup x)) fun u => ?_
      rw [ht]
      split
      · rw [wT u ‹_›]
      · rw [exp2_bot_sub, mul_zero]
  rw [textB_read, hm, row _ (V d) (hv d) (hvT d), row 64 (fun _ => 1) o oT]
  simp only [one_mul]
  rfl

/-! ### Padded queries: the other batch's keys fall out -/

theorem ofBits_zero8 : Ideal.ofBits .fp8e4m3 0x00#8 = 0 := Ideal.ofBits_zero _

theorem sum128 (g : Fin 128 → EReal) :
    ∑ l, g l = ∑ d : Fin 64, g ⟨d, by omega⟩ + ∑ d : Fin 64, g ⟨64 + d, by omega⟩ :=
  Fin.sum_univ_add (a := 64) (b := 64) g

theorem padLo_dot {n : ℕ} {k : FVec Ideal ⟨2, ![n, 128]⟩ .fp8e4m3} {q : FVec Ideal S64x256 .fp8e4m3} {t w : ℕ} {u : Fin n}
    (hk : ∀ d : Fin 64, k (ix2 u ⟨d, by omega⟩) = K d w) (hq : ∀ d : Fin 64, q (ix2 d a) = Q d t) :
    ∑ l : Fin 128, k (ix2 u l) * padLo (F := Ideal) q (ix2 l a) = sdot Q K t w := by
  rw [sum128]
  have e1 : ∀ d : Fin 64, padLo (F := Ideal) q (ix2 ⟨d, by omega⟩ a) = Q d t := fun d => by
    pointwise [padLo]; exact hq d
  have e2 : ∀ d : Fin 64, padLo (F := Ideal) q (ix2 ⟨64 + d, by omega⟩ a) = 0 := fun d => by
    pointwise [padLo]; exact ofBits_zero8
  simp only [e1, e2, hk, mul_zero, Finset.sum_const_zero, add_zero, sdot]
  exact Finset.sum_congr rfl fun d _ => mul_comm _ _

theorem padHi_dot {n : ℕ} {k : FVec Ideal ⟨2, ![n, 128]⟩ .fp8e4m3} {q : FVec Ideal S64x256 .fp8e4m3} {t w : ℕ} {u : Fin n}
    (hk : ∀ d : Fin 64, k (ix2 u ⟨64 + d, by omega⟩) = K d w) (hq : ∀ d : Fin 64, q (ix2 d a) = Q d t) :
    ∑ l : Fin 128, k (ix2 u l) * padHi (F := Ideal) q (ix2 l a) = sdot Q K t w := by
  rw [sum128]
  have e2 : ∀ d : Fin 64, padHi (F := Ideal) q (ix2 ⟨64 + d, by omega⟩ a) = Q d t := fun d => by
    pointwise [padHi]; exact hq d
  have e1 : ∀ d : Fin 64, padHi (F := Ideal) q (ix2 ⟨d, by omega⟩ a) = 0 := fun d => by
    pointwise [padHi]; exact ofBits_zero8
  simp only [e1, e2, hk, mul_zero, Finset.sum_const_zero, zero_add, sdot]
  exact Finset.sum_congr rfl fun d _ => mul_comm _ _

/-- The text queries read at a row of a text token. -/
theorem textQ_read {keep : IVec S64x128 1} {q : FVec Ideal S64x128 .fp8e4m3} {r : Fin 80} {d : Fin 64}
    (hkeep : keep (ix2 d ⟨r, by omega⟩) = 1#1) : textQ (F := Ideal) keep q (ix2 r d) = q (ix2 d ⟨r, by omega⟩) := by
  pointwise [textQ]
  rw [hkeep]; rfl

end Cert.Proof.KernelIdeal
-- ==== Proof.KI.Mem.lean ====
/-
  Loads of the staged blocks and of the scratch arrays read at an index, with the
  coordinates as plain numbers.
-/
module

public import proofs.«01_k».proof.Proof.KI.Read2
public import Idealize.ShloMosaic.Lib.Writes
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pointwise

def cell4 (X : S8x2x64x1920.Idx → EReal) (b h d t : ℕ) : EReal :=
  if hh : b < 8 ∧ h < 2 ∧ d < 64 ∧ t < 1920 then X (ix4 ⟨b, hh.1⟩ ⟨h, hh.2.1⟩ ⟨d, hh.2.2.1⟩ ⟨t, hh.2.2.2⟩) else 0

def cell3 (X : S2x80x1920.Idx → EReal) (j r t : ℕ) : EReal :=
  if hh : j < 2 ∧ r < 80 ∧ t < 1920 then X (ix3 ⟨j, hh.1⟩ ⟨r, hh.2.1⟩ ⟨t, hh.2.2⟩) else 0

def cell2 (X : S1920x128.Idx → EReal) (t l : ℕ) : EReal :=
  if hh : t < 1920 ∧ l < 128 then X (ix2 ⟨t, hh.1⟩ ⟨l, hh.2⟩) else 0

theorem cell4_eq (X : S8x2x64x1920.Idx → EReal) (b : Fin 8) (h : Fin 2) (d : Fin 64) (t : Fin 1920) :
    cell4 X b h d t = X (ix4 b h d t) := dif_pos ⟨b.isLt, h.isLt, d.isLt, t.isLt⟩
theorem cell3_eq (X : S2x80x1920.Idx → EReal) (j : Fin 2) (r : Fin 80) (t : Fin 1920) :
    cell3 X j r t = X (ix3 j r t) := dif_pos ⟨j.isLt, r.isLt, t.isLt⟩
theorem cell2_eq (X : S1920x128.Idx → EReal) (t : Fin 1920) (l : Fin 128) :
    cell2 X t l = X (ix2 t l) := dif_pos ⟨t.isLt, l.isLt⟩

theorem sc4_256 (w : FVec Ideal S1x1x64x256 .fp8e4m3) (hc : Shape.ShapeCasts S1x1x64x256 S64x256) (d : Fin 64) (a : Fin 256) :
    shapeCast S64x256 w hc (ix2 d a) = w (ix4 0 0 d a) := by
  pointwise

theorem sc4_128 (w : FVec Ideal S1x1x64x128 .fp8e4m3) (hc : Shape.ShapeCasts S1x1x64x128 S64x128) (d : Fin 64) (a : Fin 128) :
    shapeCast S64x128 w hc (ix2 d a) = w (ix4 0 0 d a) := by
  pointwise

theorem sc4_1792 (w : FVec Ideal S1x1x64x1792 .fp8e4m3) (hc : Shape.ShapeCasts S1x1x64x1792 S64x1792) (d : Fin 64) (a : Fin 1792) :
    shapeCast S64x1792 w hc (ix2 d a) = w (ix4 0 0 d a) := by
  pointwise

theorem sc3_80 (w : FVec Ideal S1x80x80 .bf16) (hc : Shape.ShapeCasts S1x80x80 S80x80) (d : Fin 80) (a : Fin 80) :
    shapeCast S80x80 w hc (ix2 d a) = w (ix3 0 d a) := by
  pointwise

theorem sc3_256 (w : FVec Ideal S1x80x256 .bf16) (hc : Shape.ShapeCasts S1x80x256 S80x256) (d : Fin 80) (a : Fin 256) :
    shapeCast S80x256 w hc (ix2 d a) = w (ix3 0 d a) := by
  pointwise

theorem sc3_128 (w : FVec Ideal S1x80x128 .bf16) (hc : Shape.ShapeCasts S1x80x128 S80x128) (d : Fin 80) (a : Fin 128) :
    shapeCast S80x128 w hc (ix2 d a) = w (ix3 0 d a) := by
  pointwise

theorem sc3_1792 (w : FVec Ideal S1x80x1792 .bf16) (hc : Shape.ShapeCasts S1x80x1792 S80x1792) (d : Fin 80) (a : Fin 1792) :
    shapeCast S80x1792 w hc (ix2 d a) = w (ix3 0 d a) := by
  pointwise

section
variable {σ : RefSig} {κ : Kind} {sp : Space}

/-! ### Codes -/

def ldC (n : ℕ) (v : View σ κ sp S8x2x64x1920 .fp8e4m3) (f : v.ty.Contents (Elt Ideal)) (o : Fin 4 → ℕ)
    (i : ∀ a, o a + (⟨4, ![1, 1, 64, n]⟩ : Shape).size a ≤ S8x2x64x1920.size a) (hc : Shape.ShapeCasts ⟨4, ![1, 1, 64, n]⟩ ⟨2, ![64, n]⟩) :
    FVec Ideal ⟨2, ![64, n]⟩ .fp8e4m3 :=
  shapeCast ⟨2, ![64, n]⟩ (v.readAt (Elt Ideal) (Rect.unit (s := S8x2x64x1920) o (⟨4, ![1, 1, 64, n]⟩ : Shape).size i).toLoadRect f) hc

theorem readAt4 (v : View σ κ sp S8x2x64x1920 .fp8e4m3) (f : v.ty.Contents (Elt Ideal)) {o : Fin 4 → ℕ} {n b h s : ℕ}
    (i : ∀ a, o a + (⟨4, ![1, 1, 64, n]⟩ : Shape).size a ≤ S8x2x64x1920.size a) (ho : o = ![b, h, 0, s]) (x : (⟨4, ![1, 1, 64, n]⟩ : Shape).Idx) :
    v.readAt (Elt Ideal) (Rect.unit (s := S8x2x64x1920) o (⟨4, ![1, 1, 64, n]⟩ : Shape).size i).toLoadRect f x = cell4 (v.read (Elt Ideal) f) b h (x 2) (s + x 3) := by
  subst ho
  have i0 := i 0; have i1 := i 1; have i2 := i 2; have i3 := i 3
  have x0 : (x 0).val < 1 := (x 0).isLt
  have x1 : (x 1).val < 1 := (x 1).isLt
  have x2 : (x 2).val < 64 := (x 2).isLt
  have x3 : (x 3).val < n := (x 3).isLt
  simp at i0 i1 i2 i3
  rw [cell4, dif_pos ⟨by omega, by omega, by omega, by omega⟩]
  show v.read (Elt Ideal) f _ = _
  congr 1
  funext a
  fin_cases a <;> apply Fin.ext <;> simp [LoadRect.idx, Rect.toLoadRect, Rect.unit] <;> omega

theorem ld256 (v : View σ κ sp S8x2x64x1920 .fp8e4m3) (f : v.ty.Contents (Elt Ideal)) {o : Fin 4 → ℕ} {b h s : ℕ}
    (i : ∀ a, o a + S1x1x64x256.size a ≤ S8x2x64x1920.size a) (hc : Shape.ShapeCasts S1x1x64x256 S64x256) (ho : o = ![b, h, 0, s]) (d : Fin 64) (a : Fin 256) :
    ldC 256 v f o i hc (ix2 d a) = cell4 (v.read (Elt Ideal) f) b h d (s + a) := by
  exact (sc4_256 _ hc d a).trans (readAt4 v f (n := 256) i ho (ix4 0 0 d a))

theorem ld128 (v : View σ κ sp S8x2x64x1920 .fp8e4m3) (f : v.ty.Contents (Elt Ideal)) {o : Fin 4 → ℕ} {b h s : ℕ}
    (i : ∀ a, o a + S1x1x64x128.size a ≤ S8x2x64x1920.size a) (hc : Shape.ShapeCasts S1x1x64x128 S64x128) (ho : o = ![b, h, 0, s]) (d : Fin 64) (a : Fin 128) :
    ldC 128 v f o i hc (ix2 d a) = cell4 (v.read (Elt Ideal) f) b h d (s + a) := by
  exact (sc4_128 _ hc d a).trans (readAt4 v f (n := 128) i ho (ix4 0 0 d a))

theorem ld1792 (v : View σ κ sp S8x2x64x1920 .fp8e4m3) (f : v.ty.Contents (Elt Ideal)) {o : Fin 4 → ℕ} {b h s : ℕ}
    (i : ∀ a, o a + S1x1x64x1792.size a ≤ S8x2x64x1920.size a) (hc : Shape.ShapeCasts S1x1x64x1792 S64x1792) (ho : o = ![b, h, 0, s]) (d : Fin 64) (a : Fin 1792) :
    ldC 1792 v f o i hc (ix2 d a) = cell4 (v.read (Elt Ideal) f) b h d (s + a) := by
  exact (sc4_1792 _ hc d a).trans (readAt4 v f (n := 1792) i ho (ix4 0 0 d a))

/-! ### Transposed keys -/

def ldK (n : ℕ) (v : View σ κ sp S1920x128 .fp8e4m3) (f : v.ty.Contents (Elt Ideal)) (o : Fin 2 → ℕ)
    (i : ∀ a, o a + (⟨2, ![n, 128]⟩ : Shape).size a ≤ S1920x128.size a) : FVec Ideal ⟨2, ![n, 128]⟩ .fp8e4m3 :=
  v.readAt (Elt Ideal) (Rect.unit (s := S1920x128) o (⟨2, ![n, 128]⟩ : Shape).size i).toLoadRect f

theorem ldK_read {n : ℕ} (v : View σ κ sp S1920x128 .fp8e4m3) (f : v.ty.Contents (Elt Ideal)) {o : Fin 2 → ℕ} {s : ℕ}
    (i : ∀ a, o a + (⟨2, ![n, 128]⟩ : Shape).size a ≤ S1920x128.size a) (ho : o = ![s, 0]) (u : Fin n) (l : Fin 128) :
    ldK n v f o i (ix2 u l) = cell2 (v.read (Elt Ideal) f) (s + u) l := by
  subst ho
  have i0 := i 0
  simp at i0
  rw [cell2, dif_pos ⟨by omega, l.isLt⟩]
  show v.read (Elt Ideal) f _ = _
  congr 1
  funext a
  fin_cases a <;> apply Fin.ext <;> simp [LoadRect.idx, Rect.toLoadRect, Rect.unit]

/-! ### Values with their row of ones -/

def ldV (n : ℕ) (v : View σ κ sp S2x80x1920 .bf16) (f : v.ty.Contents (Elt Ideal)) (o : Fin 3 → ℕ)
    (i : ∀ a, o a + (⟨3, ![1, 80, n]⟩ : Shape).size a ≤ S2x80x1920.size a) (hc : Shape.ShapeCasts ⟨3, ![1, 80, n]⟩ ⟨2, ![80, n]⟩) :
    FVec Ideal ⟨2, ![80, n]⟩ .bf16 :=
  shapeCast ⟨2, ![80, n]⟩ (v.readAt (Elt Ideal) (Rect.unit (s := S2x80x1920) o (⟨3, ![1, 80, n]⟩ : Shape).size i).toLoadRect f) hc

theorem readAt3 {n : ℕ} (v : View σ κ sp S2x80x1920 .bf16) (f : v.ty.Contents (Elt Ideal)) {o : Fin 3 → ℕ} {j s : ℕ}
    (i : ∀ a, o a + (⟨3, ![1, 80, n]⟩ : Shape).size a ≤ S2x80x1920.size a) (ho : o = ![j, 0, s]) (x : (⟨3, ![1, 80, n]⟩ : Shape).Idx) :
    v.readAt (Elt Ideal) (Rect.unit (s := S2x80x1920) o (⟨3, ![1, 80, n]⟩ : Shape).size i).toLoadRect f x = cell3 (v.read (Elt Ideal) f) j (x 1) (s + x 2) := by
  subst ho
  have i0 := i 0; have i1 := i 1; have i2 := i 2
  have x0 : (x 0).val < 1 := (x 0).isLt
  have x1 : (x 1).val < 80 := (x 1).isLt
  have x2 : (x 2).val < n := (x 2).isLt
  simp at i0 i1 i2
  rw [cell3, dif_pos ⟨by omega, by omega, by omega⟩]
  show v.read (Elt Ideal) f _ = _
  congr 1
  funext a
  fin_cases a <;> apply Fin.ext <;> simp [LoadRect.idx, Rect.toLoadRect, Rect.unit] <;> omega

theorem ldV80 (v : View σ κ sp S2x80x1920 .bf16) (f : v.ty.Contents (Elt Ideal)) {o : Fin 3 → ℕ} {j s : ℕ}
    (i : ∀ a, o a + S1x80x80.size a ≤ S2x80x1920.size a) (hc : Shape.ShapeCasts S1x80x80 S80x80) (ho : o = ![j, 0, s]) (r : Fin 80) (u : Fin 80) :
    ldV 80 v f o i hc (ix2 r u) = cell3 (v.read (Elt Ideal) f) j r (s + u) := by
  exact (sc3_80 _ hc r u).trans (readAt3 v f (n := 80) i ho (ix3 0 r u))

theorem ldV256 (v : View σ κ sp S2x80x1920 .bf16) (f : v.ty.Contents (Elt Ideal)) {o : Fin 3 → ℕ} {j s : ℕ}
    (i : ∀ a, o a + S1x80x256.size a ≤ S2x80x1920.size a) (hc : Shape.ShapeCasts S1x80x256 S80x256) (ho : o = ![j, 0, s]) (r : Fin 80) (u : Fin 256) :
    ldV 256 v f o i hc (ix2 r u) = cell3 (v.read (Elt Ideal) f) j r (s + u) := by
  exact (sc3_256 _ hc r u).trans (readAt3 v f (n := 256) i ho (ix3 0 r u))

theorem ldV128 (v : View σ κ sp S2x80x1920 .bf16) (f : v.ty.Contents (Elt Ideal)) {o : Fin 3 → ℕ} {j s : ℕ}
    (i : ∀ a, o a + S1x80x128.size a ≤ S2x80x1920.size a) (hc : Shape.ShapeCasts S1x80x128 S80x128) (ho : o = ![j, 0, s]) (r : Fin 80) (u : Fin 128) :
    ldV 128 v f o i hc (ix2 r u) = cell3 (v.read (Elt Ideal) f) j r (s + u) := by
  exact (sc3_128 _ hc r u).trans (readAt3 v f (n := 128) i ho (ix3 0 r u))

theorem ldV1792 (v : View σ κ sp S2x80x1920 .bf16) (f : v.ty.Contents (Elt Ideal)) {o : Fin 3 → ℕ} {j s : ℕ}
    (i : ∀ a, o a + S1x80x1792.size a ≤ S2x80x1920.size a) (hc : Shape.ShapeCasts S1x80x1792 S80x1792) (ho : o = ![j, 0, s]) (r : Fin 80) (u : Fin 1792) :
    ldV 1792 v f o i hc (ix2 r u) = cell3 (v.read (Elt Ideal) f) j r (s + u) := by
  exact (sc3_1792 _ hc r u).trans (readAt3 v f (n := 1792) i ho (ix3 0 r u))

/-! ### What the scratch arrays hold -/

/-- Rows `lo` to `hi` of the transposed keys hold the two batches' keys. -/
def GoodK (K : Fin 2 → Fin 64 → ℕ → EReal) (X : S1920x128.Idx → EReal) (lo hi : ℕ) : Prop :=
  ∀ t, lo ≤ t → t < hi → ∀ (j : Fin 2) (d : Fin 64), cell2 X t (64 * j + d) = K j d t

/-- Columns `lo` to `hi` of one batch's values hold the values. -/
def GoodV (V : Fin 64 → ℕ → EReal) (X : S2x80x1920.Idx → EReal) (j : Fin 2) (lo hi : ℕ) : Prop :=
  ∀ t, lo ≤ t → t < hi → ∀ d : Fin 64, cell3 X j d t = V d t

/-- The row after the values is one throughout. -/
def Ones (X : S2x80x1920.Idx → EReal) : Prop := ∀ (j : Fin 2) (t : ℕ), t < 1920 → cell3 X j 64 t = 1

/-- The codes of one batch and head. -/
def code (X : S8x2x64x1920.Idx → EReal) (b h : ℕ) (d : Fin 64) (t : ℕ) : EReal := cell4 X b h d t

def pad : Fin 2 → FVec Ideal S64x256 .fp8e4m3 → FVec Ideal S128x256 .fp8e4m3
  | 0 => padLo (F := Ideal)
  | 1 => padHi (F := Ideal)

theorem pad_dot (j : Fin 2) {n : ℕ} {k : FVec Ideal ⟨2, ![n, 128]⟩ .fp8e4m3} {q : FVec Ideal S64x256 .fp8e4m3}
    {Q K : Fin 64 → ℕ → EReal} {t w : ℕ} {u : Fin n} {a : Fin 256}
    (hk : ∀ d : Fin 64, k (ix2 u ⟨64 * j + d, by omega⟩) = K d w) (hq : ∀ d : Fin 64, q (ix2 d a) = Q d t) :
    ∑ l : Fin 128, k (ix2 u l) * pad j q (ix2 l a) = sdot Q K t w := by
  match j, hk with
  | 0, hk => exact padLo_dot (fun d => by rw [← hk d]; congr 2; ext; simp) hq
  | 1, hk => exact padHi_dot hk hq

end

end Cert.Proof.KernelIdeal
-- ==== Proof.KI.Pieces.lean ====
/-
  Each block stored in the output scratch holds the attention of its queries, when the
  scratch arrays hold the keys and the values.
-/
module

public import proofs.«01_k».proof.Proof.KI.Mem

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pointwise

variable {σ : RefSig} {κ : Kind} {sp : Space}
variable {v7 v6 v8 : View σ κ sp S8x2x64x1920 .fp8e4m3} {v10 : View σ κ sp S1920x128 .fp8e4m3} {v11 : View σ κ sp S2x80x1920 .bf16}
variable {v12 : View σ κ sp S2x128x1920 .f32}

/-- The value an element of the output scratch holds: row `64 * hh + d` of batch `j` at a token. -/
def OutP (O : Fin 2 → ℕ → Fin 64 → EReal) (hh : ℕ) (y : S2x128x1920.Idx) (x : EReal) : Prop :=
  ∀ d : Fin 64, (y 1).val = 64 * hh + d → (y 2).val < 1869 → x = O (y 0) (y 2).val d

/-- One store of a list: it covers the element, or an earlier store does. -/
theorem walk {P : S2x128x1920.Idx → EReal → Prop} {f : v12.ty.Contents (Elt Ideal)} {o sz : Fin 3 → ℕ} {i : ∀ a, o a + sz a ≤ S2x128x1920.size a}
    {w : (Rect.unit (s := S2x128x1920) o sz i).shape.Idx → EReal} {L : List (View.Piece (Elt Ideal) S2x128x1920 .f32)}
    {y : S2x128x1920.Idx} (j s hh n : ℕ) (ho : o = ![j, 64 * hh, s]) (hs : sz = ![1, 64, n])
    (hw : ∀ x, P ((Rect.unit (s := S2x128x1920) o sz i).emb x) (w x))
    (hy : 64 * hh ≤ (y 1).val ∧ (y 1).val < 64 * hh + 64)
    (tail : ¬ ((y 0).val = j ∧ s ≤ (y 2).val ∧ (y 2).val < s + n) → P y (v12.read (Elt Ideal) (v12.writes (Elt Ideal) f L) y)) :
    P y (v12.read (Elt Ideal) (v12.writes (Elt Ideal) f ((⟨Rect.unit (s := S2x128x1920) o sz i, w⟩ : View.Piece (Elt Ideal) S2x128x1920 .f32) :: L)) y) := by
  by_cases h : (y 0).val = j ∧ s ≤ (y 2).val ∧ (y 2).val < s + n
  · have hm : y ∈ (Rect.unit (s := S2x128x1920) o sz i).set := by
      rw [Rect.mem_set_unit]
      subst ho hs
      intro a
      fin_cases a <;> simp <;> omega
    obtain ⟨x, rfl⟩ := LoadRect.exists_idx_of_mem _ hm
    show P ((Rect.unit (s := S2x128x1920) o sz i).emb x) (v12.read (Elt Ideal) _ ((Rect.unit (s := S2x128x1920) o sz i).emb x))
    rw [View.read_writes_cons_emb]
    exact hw x
  · have := View.read_writes_cons_unit_of_not_mem (Val := Elt Ideal) v12 f i w L y ho
    by_cases h0 : (y 0).val = j
    · rw [this 2 (by subst hs; simp; omega)]
      exact tail h
    · rw [this 0 (by subst hs; simp; omega)]
      exact tail h

theorem emb_val {o sz : Fin 3 → ℕ} {i : ∀ a, o a + sz a ≤ S2x128x1920.size a} (x : (Rect.unit (s := S2x128x1920) o sz i).shape.Idx) (a : Fin 3) :
    ((Rect.unit (s := S2x128x1920) o sz i).emb x a).val = o a + (x a).val := by
  show o a + 1 * (x a).val = _
  rw [Nat.one_mul]

theorem sc_256 (B : FVec Ideal S64x256 .f32) (hc : Shape.ShapeCasts S64x256 S1x64x256) (z : Fin 1) (d : Fin 64) (a : Fin 256) :
    shapeCast S1x64x256 B hc (ix3 z d a) = B (ix2 d a) := by
  pointwise

theorem sc_80 (B : FVec Ideal S64x80 .f32) (hc : Shape.ShapeCasts S64x80 S1x64x80) (z : Fin 1) (d : Fin 64) (a : Fin 80) :
    shapeCast S1x64x80 B hc (ix3 z d a) = B (ix2 d a) := by
  pointwise

theorem piece256 {O : Fin 2 → ℕ → Fin 64 → EReal} {B : FVec Ideal S64x256 .f32} {o : Fin 3 → ℕ} {i : ∀ a, o a + S1x64x256.size a ≤ S2x128x1920.size a}
    {hc : Shape.ShapeCasts S64x256 S1x64x256} (j : Fin 2) (s hh : ℕ) (ho : o = ![j.val, 64 * hh, s])
    (hB : ∀ (d : Fin 64) (a : Fin 256), B (ix2 d a) = O j (s + a) d) (x : (Rect.unit (s := S2x128x1920) o S1x64x256.size i).shape.Idx) :
    OutP O hh ((Rect.unit (s := S2x128x1920) o S1x64x256.size i).emb x) (shapeCast S1x64x256 B hc x) := by
  obtain ⟨z, d, a, rfl⟩ : ∃ (z : Fin 1) (d : Fin 64) (a : Fin 256), x = ix3 z d a := ⟨x 0, x 1, x 2, by funext b; fin_cases b <;> rfl⟩
  intro d' h1 h2
  have e0 := emb_val (i := i) (ix3 z d a) 0
  have e1 := emb_val (i := i) (ix3 z d a) 1
  have e2 := emb_val (i := i) (ix3 z d a) 2
  subst ho
  have hz : (z : ℕ) = 0 := by omega
  have e0' : ((Rect.unit (s := S2x128x1920) ![j.val, 64 * hh, s] S1x64x256.size i).emb (ix3 z d a) 0).val = j.val + z.val := e0
  have e1' : ((Rect.unit (s := S2x128x1920) ![j.val, 64 * hh, s] S1x64x256.size i).emb (ix3 z d a) 1).val = 64 * hh + d.val := e1
  have e2' : ((Rect.unit (s := S2x128x1920) ![j.val, 64 * hh, s] S1x64x256.size i).emb (ix3 z d a) 2).val = s + a.val := e2
  rw [sc_256, hB]
  have hd : d' = d := Fin.ext (by rw [e1'] at h1; omega)
  have hj : (Rect.unit (s := S2x128x1920) ![j.val, 64 * hh, s] S1x64x256.size i).emb (ix3 z d a) 0 = j := Fin.ext (by rw [e0', hz]; rfl)
  rw [hd, hj, e2']

theorem piece80 {O : Fin 2 → ℕ → Fin 64 → EReal} {B : FVec Ideal S64x80 .f32} {o : Fin 3 → ℕ} {i : ∀ a, o a + S1x64x80.size a ≤ S2x128x1920.size a}
    {hc : Shape.ShapeCasts S64x80 S1x64x80} (j : Fin 2) (hh : ℕ) (ho : o = ![j.val, 64 * hh, 1792])
    (hB : ∀ (d : Fin 64) (a : Fin 80), (a : ℕ) < 77 → B (ix2 d a) = O j (1792 + a) d) (x : (Rect.unit (s := S2x128x1920) o S1x64x80.size i).shape.Idx) :
    OutP O hh ((Rect.unit (s := S2x128x1920) o S1x64x80.size i).emb x) (shapeCast S1x64x80 B hc x) := by
  obtain ⟨z, d, a, rfl⟩ : ∃ (z : Fin 1) (d : Fin 64) (a : Fin 80), x = ix3 z d a := ⟨x 0, x 1, x 2, by funext b; fin_cases b <;> rfl⟩
  intro d' h1 h2
  have e0 := emb_val (i := i) (ix3 z d a) 0
  have e1 := emb_val (i := i) (ix3 z d a) 1
  have e2 := emb_val (i := i) (ix3 z d a) 2
  subst ho
  have hz : (z : ℕ) = 0 := by omega
  have e0' : ((Rect.unit (s := S2x128x1920) ![j.val, 64 * hh, 1792] S1x64x80.size i).emb (ix3 z d a) 0).val = j.val + z.val := e0
  have e1' : ((Rect.unit (s := S2x128x1920) ![j.val, 64 * hh, 1792] S1x64x80.size i).emb (ix3 z d a) 1).val = 64 * hh + d.val := e1
  have e2' : ((Rect.unit (s := S2x128x1920) ![j.val, 64 * hh, 1792] S1x64x80.size i).emb (ix3 z d a) 2).val = 1792 + a.val := e2
  rw [sc_80, hB d a (by rw [e2'] at h2; omega)]
  have hd : d' = d := Fin.ext (by rw [e1'] at h1; omega)
  have hj : (Rect.unit (s := S2x128x1920) ![j.val, 64 * hh, 1792] S1x64x80.size i).emb (ix3 z d a) 0 = j := Fin.ext (by rw [e0', hz]; rfl)
  rw [hd, hj, e2']

/-! ### The blocks over the scratch arrays -/

section
variable {Q K V : Fin 2 → Fin 64 → ℕ → EReal} {c vs : EReal}
variable {fT f1 f0 : v10.ty.Contents (Elt Ideal)} {gT g1 g0 : v11.ty.Contents (Elt Ideal)}

theorem rowsK {n : ℕ} {f : v10.ty.Contents (Elt Ideal)} {lo hi s : ℕ} (h : GoodK K (v10.read (Elt Ideal) f) lo hi) {o : Fin 2 → ℕ}
    {i : ∀ a, o a + (⟨2, ![n, 128]⟩ : Shape).size a ≤ S1920x128.size a} (ho : o = ![s, 0]) (j : Fin 2) (u : Fin n) (h1 : lo ≤ s + u) (h2 : s + u < hi) (d : Fin 64) :
    ldK n v10 f o i (ix2 u ⟨64 * j + d, by omega⟩) = K j d (s + u) := by
  rw [ldK_read v10 f i ho]
  exact h _ h1 h2 j d

theorem spat3_piece (j : Fin 2) {f : ℕ} (hf : f < 7) (hf0 : f ≠ 0) {q : FVec Ideal S64x256 .fp8e4m3}
    (hq : ∀ (d : Fin 64) (a : Fin 256), q (ix2 d a) = Q j d (256 * f + a))
    (kT : GoodK K (v10.read (Elt Ideal) fT) 1792 1869) (k0 : GoodK K (v10.read (Elt Ideal) f0) 0 1792)
    (wT : GoodV (V j) (v11.read (Elt Ideal) gT) j 1792 1869) (w0 : GoodV (V j) (v11.read (Elt Ideal) g0) j 0 1792)
    (oT : Ones (v11.read (Elt Ideal) gT)) (o0 : Ones (v11.read (Elt Ideal) g0))
    {aT a1 a0 : Fin 2 → ℕ} {iT i1 i0} {bT b1 b0 : Fin 3 → ℕ} {jT j1 j0 hcT hc1 hc0}
    (haT : aT = ![1792, 0]) (ha1 : a1 = ![256 * f, 0]) (ha0 : a0 = ![0, 0])
    (hbT : bT = ![j.val, 0, 1792]) (hb1 : b1 = ![j.val, 0, 256 * f]) (hb0 : b0 = ![j.val, 0, 0]) (d : Fin 64) (a : Fin 256) :
    spat3 (F := Ideal) c vs (ldK 80 v10 fT aT iT) (ldK 256 v10 f0 a1 i1) (ldK 256 v10 f0 a0 i0) (pad j q)
      (ldV 80 v11 gT bT jT hcT) (ldV 256 v11 g0 b1 j1 hc1) (ldV 256 v11 g0 b0 j0 hc0) (ix2 d a)
      = att (score true c (Q j) (K j) (256 * f + a)) (V j d) vs := by
  refine spat3_eq hf hf0 (fun u hu => pad_dot j (fun d => rowsK kT haT j u (by omega) (by omega) d) fun d => hq d a)
    (fun u => pad_dot j (fun d => rowsK k0 ha1 j u (by omega) (by omega) d) fun d => hq d a)
    (fun u => pad_dot j (fun d => (rowsK k0 ha0 j u (by omega) (by omega) d).trans (by rw [Nat.zero_add])) fun d => hq d a)
    (fun d u hu => ?_) (fun d u => ?_) (fun d u => ?_) (fun u hu => ?_) (fun u => ?_) (fun u => ?_) d
  · rw [ldV80 v11 gT jT hcT hbT]; exact wT _ (by omega) (by omega) d
  · rw [ldV256 v11 g0 j1 hc1 hb1]; exact w0 _ (by omega) (by omega) d
  · rw [ldV256 v11 g0 j0 hc0 hb0, Nat.zero_add]; exact w0 _ (by omega) (by omega) d
  · rw [ldV80 v11 gT jT hcT hbT]; exact oT j _ (by omega)
  · rw [ldV256 v11 g0 j1 hc1 hb1]; exact o0 j _ (by omega)
  · rw [ldV256 v11 g0 j0 hc0 hb0]; exact o0 j _ (by omega)

theorem spat2_piece (j : Fin 2) {q : FVec Ideal S64x256 .fp8e4m3}
    (hq : ∀ (d : Fin 64) (a : Fin 256), q (ix2 d a) = Q j d (0 + a))
    (kT : GoodK K (v10.read (Elt Ideal) fT) 1792 1869) (k0 : GoodK K (v10.read (Elt Ideal) f0) 0 1792)
    (wT : GoodV (V j) (v11.read (Elt Ideal) gT) j 1792 1869) (w0 : GoodV (V j) (v11.read (Elt Ideal) g0) j 0 1792)
    (oT : Ones (v11.read (Elt Ideal) gT)) (o0 : Ones (v11.read (Elt Ideal) g0))
    {aT a0 : Fin 2 → ℕ} {iT i0} {bT b0 : Fin 3 → ℕ} {jT j0 hcT hc0}
    (haT : aT = ![1792, 0]) (ha0 : a0 = ![0, 0])
    (hbT : bT = ![j.val, 0, 1792]) (hb0 : b0 = ![j.val, 0, 0]) (d : Fin 64) (a : Fin 256) :
    spat2 (F := Ideal) c vs (ldK 80 v10 fT aT iT) (ldK 256 v10 f0 a0 i0) (pad j q)
      (ldV 80 v11 gT bT jT hcT) (ldV 256 v11 g0 b0 j0 hc0) (ix2 d a)
      = att (score true c (Q j) (K j) (0 + a)) (V j d) vs := by
  simp only [Nat.zero_add] at hq ⊢
  refine spat2_eq (fun u hu => pad_dot j (fun d => rowsK kT haT j u (by omega) (by omega) d) fun d => hq d a)
    (fun u => pad_dot j (fun d => (rowsK k0 ha0 j u (by omega) (by omega) d).trans (by rw [Nat.zero_add])) fun d => hq d a)
    (fun d u hu => ?_) (fun d u => ?_) (fun u hu => ?_) (fun u => ?_) d
  · rw [ldV80 v11 gT jT hcT hbT]; exact wT _ (by omega) (by omega) d
  · rw [ldV256 v11 g0 j0 hc0 hb0, Nat.zero_add]; exact w0 _ (by omega) (by omega) d
  · rw [ldV80 v11 gT jT hcT hbT]; exact oT j _ (by omega)
  · rw [ldV256 v11 g0 j0 hc0 hb0]; exact o0 j _ (by omega)

theorem temp_piece (j : Fin 2) {f : ℕ} (hf : f < 7) {q : FVec Ideal S64x256 .fp8e4m3} (k v : Fin 7 → FVec Ideal S64x256 .fp8e4m3)
    (hq : ∀ (d : Fin 64) (a : Fin 256), q (ix2 d a) = Q j d (256 * f + a))
    (hk : ∀ (g : Fin 7) (d : Fin 64) (a : Fin 256), k g (ix2 d a) = K j d (256 * g + a))
    (hv : ∀ (g : Fin 7) (d : Fin 64) (a : Fin 256), v g (ix2 d a) = V j d (256 * g + a))
    (kT : GoodK K (v10.read (Elt Ideal) fT) 1792 1869)
    (wT : GoodV (V j) (v11.read (Elt Ideal) gT) j 1792 1869)
    (oT : Ones (v11.read (Elt Ideal) gT))
    {aT : Fin 2 → ℕ} {iT} {bT : Fin 3 → ℕ} {jT hcT}
    (haT : aT = ![1792, 0]) (hbT : bT = ![j.val, 0, 1792]) (d : Fin 64) (a : Fin 256) :
    temp7 (F := Ideal) c vs (ldK 80 v10 fT aT iT) (pad j q) q (ldV 80 v11 gT bT jT hcT)
      (k 0) (k 1) (k 2) (k 3) (k 4) (k 5) (k 6) (v 0) (v 1) (v 2) (v 3) (v 4) (v 5) (v 6) (ix2 d a)
      = att (score false c (Q j) (K j) (256 * f + a)) (V j d) vs := by
  refine temp7_eq k v hf (fun u hu => pad_dot j (fun d => rowsK kT haT j u (by omega) (by omega) d) fun d => hq d a)
    (fun d => hq d a) (fun g d => hk g d a) (fun g d => hv g d a) (fun d u hu => ?_) (fun u hu => ?_) d
  · rw [ldV80 v11 gT jT hcT hbT]; exact wT _ (by omega) (by omega) d
  · rw [ldV80 v11 gT jT hcT hbT]; exact oT j _ (by omega)

theorem text_piece (j : Fin 2) (sp : Bool) {keep : IVec S64x128 1} (hkeep : ∀ (d : Fin 64) (u : Fin 128), (u : ℕ) < 77 → keep (ix2 d u) = 1#1)
    {q kt : FVec Ideal S64x128 .fp8e4m3} {k : FVec Ideal S64x1792 .fp8e4m3}
    (hq : ∀ (d : Fin 64) (a : Fin 128), q (ix2 d a) = Q j d (1792 + a))
    (hk : ∀ (d : Fin 64) (a : Fin 1792), k (ix2 d a) = K j d (0 + a))
    (hkt : ∀ (d : Fin 64) (a : Fin 128), kt (ix2 d a) = K j d (1792 + a))
    (wT : GoodV (V j) (v11.read (Elt Ideal) gT) j 1792 1869) (w0 : GoodV (V j) (v11.read (Elt Ideal) g0) j 0 1792)
    (oT : Ones (v11.read (Elt Ideal) gT)) (o0 : Ones (v11.read (Elt Ideal) g0))
    {bT b0 : Fin 3 → ℕ} {jT j0 hcT hc0}
    (hbT : bT = ![j.val, 0, 1792]) (hb0 : b0 = ![j.val, 0, 0]) (d : Fin 64) (r : Fin 80) (hr : (r : ℕ) < 77) :
    textB (F := Ideal) c vs (textQ keep q) k kt (ldV 1792 v11 g0 b0 j0 hc0) (ldV 128 v11 gT bT jT hcT) (ix2 d r)
      = att (score sp c (Q j) (K j) (1792 + r)) (V j d) vs := by
  refine textB_eq sp (fun d => ?_) (fun d u => ?_) (fun d u _ => hkt d u) (fun d u => ?_) (fun d u hu => ?_) (fun u => ?_) (fun u hu => ?_) d
  · rw [textQ_read (hkeep d _ hr)]; exact hq d _
  · rw [hk, Nat.zero_add]
  · rw [ldV1792 v11 g0 j0 hc0 hb0, Nat.zero_add]; exact w0 _ (by omega) (by omega) d
  · rw [ldV128 v11 gT jT hcT hbT]; exact wT _ (by omega) (by omega) d
  · rw [ldV1792 v11 g0 j0 hc0 hb0]; exact o0 j _ (by omega)
  · rw [ldV128 v11 gT jT hcT hbT]; exact oT j _ (by omega)

end

end Cert.Proof.KernelIdeal
-- ==== Proof.KI.Spat0.lean ====
/- What the part holding the branches of the first head leaves when the head is spatial: its returned words, the two scratch buffers, and the pieces stored in the output scratch. -/
module

public import proofs.«01_k».proof.Proof.KI.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- What the part holding the branches of the first head leaves when the head is spatial: its returned words, the two scratch buffers, and the pieces stored in the output scratch. -/
noncomputable def spat0 (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (k0_t1 : Fin k0_t1_loop.trips) (f5 : Bf F c arg5) (f6 : Bf F c arg6) (f7 : Bf F c arg7) (f8 : Bf F c arg8) (f10 : Bf F c arg10) (f11 : Bf F c arg11)
    (arg1 : BitVec 32) (v2 : IVec S64x128 1) (v51 : BitVec 32) (v63 : F .f32) (v66 : Elt F .f32) (v78 : F .f32) (v81 : Elt F .f32) (v541 : FVec F S64x128 .bf16) (v551 : FVec F S64x128 .bf16) :
    Σ' (r : Σ' (v577 : BitVec 32) (v579 : BitVec 1) (v581 : BitVec 1) (v583 : BitVec 1) (v585 : BitVec 1) (v587 : BitVec 1), BitVec 1) (g10 : Bf F c arg10) (g11 : Bf F c arg11),
    { L : List (View.Piece (Elt F) S2x128x1920 .f32) // ∀ (f12 : Bf F c arg12),
    iprop(pt c arg5 f5 ∗ pt c arg6 f6 ∗ pt c arg7 f7 ∗ pt c arg8 f8 ∗ pt c arg10 f10 ∗ pt c arg11 f11 ∗ pt c arg12 f12)
    ⊢ wp frame (wpE (defs₀ (F := F)) 𝒱₀ (c : Thread nD τ) none) Set.univ
        (k0_part209 (F := F) i arg2 harg2 arg3 harg3 arg4 harg4 arg5 harg5 arg6 harg6 arg7 harg7 arg8 harg8 arg9 harg9 arg10 harg10 arg11 harg11 arg12 harg12 arg1 v2 k0_t1 1#1 v51 v63 v66 v78 v81 v541 v551)
        (fun r' => iprop(⌜r' = r⌝ ∗ pt c arg5 f5 ∗ pt c arg6 f6 ∗ pt c arg7 f7 ∗ pt c arg8 f8 ∗ pt c arg10 g10 ∗ pt c arg11 g11 ∗ pt c arg12 (arg12.view.writes (Elt F) f12 L))) } := by
  refine ⟨?_, ?_, ?_, ?_, fun f12 => ?run⟩
  case run =>
    iintro ⟨H5, H6, H7, H8, H10, H11, H12⟩
    sl_exec_parts
    sl_step
    sl_close

end Cert.Proof.KernelIdeal

end
-- ==== Proof.KI.Temp0.lean ====
/- What the part holding the branches of the first head leaves when the head is temporal. -/
module

public import proofs.«01_k».proof.Proof.KI.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- What the part holding the branches of the first head leaves when the head is temporal. -/
noncomputable def temp0 (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (k0_t1 : Fin k0_t1_loop.trips) (f5 : Bf F c arg5) (f6 : Bf F c arg6) (f7 : Bf F c arg7) (f8 : Bf F c arg8) (f10 : Bf F c arg10) (f11 : Bf F c arg11)
    (arg1 : BitVec 32) (v2 : IVec S64x128 1) (v51 : BitVec 32) (v63 : F .f32) (v66 : Elt F .f32) (v78 : F .f32) (v81 : Elt F .f32) (v541 : FVec F S64x128 .bf16) (v551 : FVec F S64x128 .bf16) :
    Σ' (r : Σ' (v577 : BitVec 32) (v579 : BitVec 1) (v581 : BitVec 1) (v583 : BitVec 1) (v585 : BitVec 1) (v587 : BitVec 1), BitVec 1) (g10 : Bf F c arg10) (g11 : Bf F c arg11),
    { L : List (View.Piece (Elt F) S2x128x1920 .f32) // ∀ (f12 : Bf F c arg12),
    iprop(pt c arg5 f5 ∗ pt c arg6 f6 ∗ pt c arg7 f7 ∗ pt c arg8 f8 ∗ pt c arg10 f10 ∗ pt c arg11 f11 ∗ pt c arg12 f12)
    ⊢ wp frame (wpE (defs₀ (F := F)) 𝒱₀ (c : Thread nD τ) none) Set.univ
        (k0_part209 (F := F) i arg2 harg2 arg3 harg3 arg4 harg4 arg5 harg5 arg6 harg6 arg7 harg7 arg8 harg8 arg9 harg9 arg10 harg10 arg11 harg11 arg12 harg12 arg1 v2 k0_t1 0#1 v51 v63 v66 v78 v81 v541 v551)
        (fun r' => iprop(⌜r' = r⌝ ∗ pt c arg5 f5 ∗ pt c arg6 f6 ∗ pt c arg7 f7 ∗ pt c arg8 f8 ∗ pt c arg10 g10 ∗ pt c arg11 g11 ∗ pt c arg12 (arg12.view.writes (Elt F) f12 L))) } := by
  refine ⟨?_, ?_, ?_, ?_, fun f12 => ?run⟩
  case run =>
    iintro ⟨H5, H6, H7, H8, H10, H11, H12⟩
    sl_exec_parts
    sl_step
    sl_close

end Cert.Proof.KernelIdeal

end
-- ==== Proof.KI.Out0.lean ====
/-
  The first head: what its pieces leave in the output scratch.
-/
module

public import proofs.«01_k».proof.Proof.KI.Pieces
public import proofs.«01_k».proof.Proof.KI.Spat0
public import proofs.«01_k».proof.Proof.KI.Temp0

@[expose] public section

set_option maxRecDepth 16384
set_option maxHeartbeats 4000000

noncomputable section

namespace Cert.Proof.KernelIdeal

open Cert.KernelIdeal Cert.KernelIdeal.Gen
open Idealize.ShloMosaic Idealize.ShloMosaic.TcCoe
open Idealize.ShloMosaic.Pointwise

/-- The codes of a head in the two batches of pair `k`. -/
abbrev codes {σ : RefSig} {κ : Kind} {sp : Space} (v : View σ κ sp S8x2x64x1920 .fp8e4m3) (f : v.ty.Contents (Elt Ideal)) (k h : ℕ) :
    Fin 2 → Fin 64 → ℕ → EReal := fun j => code (v.read (Elt Ideal) f) (2 * k + j) h

/-- The attention of a head in the two batches. -/
abbrev outs (sp : Bool) (cs vs : Fin 2 → EReal) (Q K V : Fin 2 → Fin 64 → ℕ → EReal) : Fin 2 → ℕ → Fin 64 → EReal :=
  fun j t d => att (score sp (cs j) (Q j) (K j) t) (V j d) (vs j)

theorem frame_inb {k : ℕ} {j : Fin 2} {h g : ℕ} {o : Fin 4 → ℕ} (hk : k < 4) (hh : h < 2) (hg : g < 7) (ho : o = ![2 * k + j.val, h, 0, 256 * g]) (a : Fin 4) :
    o a + S1x1x64x256.size a ≤ S8x2x64x1920.size a := by
  subst ho
  fin_cases a <;> simp <;> omega

/-- The offsets of the seven frames. -/
def frame0 (k : Fin k0_t1_loop.trips) (r : BitVec 32) : Fin 7 → Fin 4 → ℕ := ![k0_off26 k r, k0_off27 k r, k0_off28 k r, k0_off29 k r, k0_off30 k r, k0_off31 k r, k0_off32 k r]

theorem frame0_eq (k : Fin k0_t1_loop.trips) (j : Fin 2) (g : Fin 7) : frame0 k (BitVec.ofNat 32 j.val) g = ![2 * k.val + j.val, 0, 0, 256 * g.val] := by
  fin_cases g
  · exact k0_off26_eq k j
  · exact k0_off27_eq k j
  · exact k0_off28_eq k j
  · exact k0_off29_eq k j
  · exact k0_off30_eq k j
  · exact k0_off31_eq k j
  · exact k0_off32_eq k j
/-- The first head, spatial: the output scratch holds its attention. -/
theorem spat0_out (c : Dev nD) (i : grid0.Coords) (arg2 : Memref sig .tc .smem S24x20 .f32) (harg2 : arg2.IsWhole) (arg3 : Memref sig .tc .smem S24x20 .f32) (harg3 : arg3.IsWhole)
    (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole)
    (arg12 : Memref sig .tc .vmem S2x128x1920 .f32) (harg12 : arg12.IsWhole)
    (k : Fin k0_t1_loop.trips) (f5 : Bf Ideal c arg5) (f6 : Bf Ideal c arg6) (f7 : Bf Ideal c arg7) (f8 : Bf Ideal c arg8) (f10 : Bf Ideal c arg10) (f11 : Bf Ideal c arg11)
    (arg1 : BitVec 32) (v2 : IVec S64x128 1) (v51 : BitVec 32) (cs vs : Fin 2 → EReal) (v541 v551 : FVec Ideal S64x128 .bf16) (f12 : Bf Ideal c arg12)
    (keep : ∀ (d : Fin 64) (u : Fin 128), (u : ℕ) < 77 → v2 (ix2 d u) = 1#1)
    (kT : GoodK (codes arg7.view f7 k 0) (arg10.view.read (Elt Ideal) (arg10.view.writes (Elt Ideal) arg10.view.junk (spat0.sl.H10_1 v2 v541 v551))) 1792 1869)
    (k0 : GoodK (codes arg7.view f7 k 0) (arg10.view.read (Elt Ideal) f10) 0 1792)
    (w0 : ∀ j, GoodV (codes arg8.view f8 k 0 j) (arg11.view.read (Elt Ideal) f11) j 0 1792)
    (wT0 : GoodV (codes arg8.view f8 k 0 0) (arg11.view.read (Elt Ideal) f11) 0 1792 1869)
    (wT1 : GoodV (codes arg8.view f8 k 0 1) (arg11.view.read (Elt Ideal) (arg11.view.writes (Elt Ideal) f11 (spat0.sl.H11_1 c arg8 k f8 v2))) 1 1792 1869)
    (o0 : Ones (arg11.view.read (Elt Ideal) f11))
    (o1 : Ones (arg11.view.read (Elt Ideal) (arg11.view.writes (Elt Ideal) f11 (spat0.sl.H11_1 c arg8 k f8 v2))))
    (y : S2x128x1920.Idx) (hy : (y 1).val < 64) (hy2 : (y 2).val < 1869) :
    OutP (outs true cs vs (codes arg6.view f6 k 0) (codes arg7.view f7 k 0) (codes arg8.view f8 k 0)) 0 y
      (arg12.view.read (Elt Ideal) (arg12.view.writes (Elt Ideal) f12
        (spat0 (F := Ideal) c i arg2 harg2 arg3 harg3 arg4 harg4 arg5 harg5 arg6 harg6 arg7 harg7 arg8 harg8 arg9 harg9 arg10 harg10 arg11 harg11 arg12 harg12 k f5 f6 f7 f8 f10 f11 arg1 v2 v51 (cs 0) (vs 0) (cs 1) (vs 1) v541 v551).2.2.2.1) y) := by
  have y0 : (y 0).val < 2 := (y 0).isLt
  have y1 : (y 1).val < 128 := (y 1).isLt
  have hy' : 64 * 0 ≤ (y 1).val ∧ (y 1).val < 64 * 0 + 64 := by omega
  refine walk 1 (256 * 6) 0 256 rfl rfl (piece256 1 (256 * 6) 0 rfl (spat3_piece 1 (by omega) (by omega) (ld256 arg6.view f6 _ _ (k0_off25_eq k 1)) kT k0 wT1 (w0 1) o1 o0 rfl rfl rfl rfl rfl rfl)) hy' fun h1 => ?_
  refine walk 0 (256 * 6) 0 256 rfl rfl (piece256 0 (256 * 6) 0 rfl (spat3_piece 0 (by omega) (by omega) (ld256 arg6.view f6 _ _ (k0_off25_eq k 0)) kT k0 wT0 (w0 0) o0 o0 rfl rfl rfl rfl rfl rfl)) hy' fun h2 => ?_
  refine walk 1 (256 * 5) 0 256 rfl rfl (piece256 1 (256 * 5) 0 rfl (spat3_piece 1 (by omega) (by omega) (ld256 arg6.view f6 _ _ (k0_off24_eq k 1)) kT k0 wT1 (w0 1) o1 o0 rfl rfl rfl rfl rfl rfl)) hy' fun h3 => ?_
  refine walk 0 (256 * 5) 0 256 rfl rfl (piece256 0 (256 * 5) 0 rfl (spat3_piece 0 (by omega) (by omega) (ld256 arg6.view f6 _ _ (k0_off24_eq k 0)) kT k0 wT0 (w0 0) o0 o0 rfl rfl rfl rfl rfl rfl)) hy' fun h4 => ?_
  refine walk 1 (256 * 4) 0 256 rfl rfl (piece256 1 (256 * 4) 0 rfl (spat3_piece 1 (by omega) (by omega) (ld256 arg6.view f6 _ _ (k0_off23_eq k 1)) kT k0 wT1 (w0 1) o1 o0 rfl rfl rfl rfl rfl rfl)) hy' fun h5 => ?_
  refine walk 0 (256 * 4) 0 256 rfl rfl (piece256 0 (256 * 4) 0 rfl (spat3_piece 0 (by omega) (by omega) (ld256 arg6.view f6 _ _ (k0_off23_eq k 0)) kT k0 wT0 (w0 0) o0 o0 rfl rfl rfl rfl rfl rfl)) hy' fun h6 => ?_
  refine walk 1 (256 * 3) 0 256 rfl rfl (piece256 1 (256 * 3) 0 rfl (spat3_piece 1 (by omega) (by omega) (ld256 arg6.view f6 _ _ (k0_off22_eq k 1)) kT k0 wT1 (w0 1) o1 o0 rfl rfl rfl rfl rfl rfl)) hy' fun h7 => ?_
  refine walk 0 (256 * 3) 0 256 rfl rfl (piece256 0 (256 * 3) 0 rfl (spat3_piece 0 (by omega) (by omega) (ld256 arg6.view f6 _ _ (k0_off22_eq k 0)) kT k0 wT0 (w0 0) o0 o0 rfl rfl rfl rfl rfl rfl)) hy' fun h8 => ?_
  refine walk 1 (256 * 2) 0 256 rfl rfl (piece256 1 (256 * 2) 0 rfl (spat3_piece 1 (by omega) (by omega) (ld256 arg6.view f6 _ _ (k0_off21_eq k 1)) kT k0 wT1 (w0 1) o1 o0 rfl rfl rfl rfl rfl rfl)) hy' fun h9 => ?_
  refine walk 0 (256 * 2) 0 256 rfl rfl (piece256 0 (256 * 2) 0 rfl (spat3_piece 0 (by omega) (by omega) (ld256 arg6.view f6 _ _ (k0_off21_eq k 0)) kT k0 wT0 (w0 0) o0 o0 rfl rfl rfl rfl rfl rfl)) hy' fun h10 => ?_
  refine walk 1 (256 * 1) 0 256 rfl rfl (piece256 1 (256 * 1) 0 rfl (spat3_piece 1 (by omega) (by omega) (ld256 arg6.view f6 _ _ (k0_off20_eq k 1)) kT k0 wT1 (w0 1) o1 o0 rfl rfl rfl rfl rfl rfl)) hy' fun h11 => ?_
  refine walk 0 (256 * 1) 0 256 rfl rfl (piece256 0 (256 * 1) 0 rfl (spat3_piece 0 (by omega) (by omega) (ld256 arg6.view f6 _ _ (k0_off20_eq k 0)) kT k0 wT0 (w0 0) o0 o0 rfl rfl rfl rfl rfl rfl)) hy' fun h12 => ?_
  refine walk 1 1792 0 80 rfl rfl (piece80 1 0 rfl (text_piece 1 true keep (ld128 arg6.view f6 _ _ (k0_off18_eq k 1)) (ld1792 arg7.view f7 _ _ (k0_off19_eq k 1)) (ld128 arg7.view f7 _ _ (k0_off18_eq k 1)) wT1 (w0 1) o1 o0 rfl rfl)) hy' fun h13 => ?_
  refine walk 1 0 0 256 rfl rfl (piece256 1 0 0 rfl (spat2_piece 1 (ld256 arg6.view f6 _ _ (k0_off17_eq k 1)) kT k0 wT1 (w0 1) o1 o0 rfl rfl rfl rfl)) hy' fun h14 => ?_
  refine walk 0 1792 0 80 rfl rfl (piece80 0 0 rfl (text_piece 0 true keep (ld128 arg6.view f6 _ _ (k0_off18_eq k 0)) (ld1792 arg7.view f7 _ _ (k0_off19_eq k 0)) (ld128 arg7.view f7 _ _ (k0_off18_eq k 0)) wT0 (w0 0) o0 o0 rfl rfl)) hy' fun h15 => ?_
  refine walk 0 0 0 256 rfl rfl (piece256 0 0 0 rfl (spat2_piece 0 (ld256 arg6.view f6 _ _ (k0_off17_eq k 0)) kT k0 wT0 (w0 0) o0 o0 rfl rfl rfl rfl)) hy' fun h16 => ?_
  exfalso
  obtain e | e : (y 0).val = 0 ∨ (y 0).val = 1 := by omega
  all_goals omega

/-- The first head, temporal: the output scratch holds its attention. -/
theorem temp0_out (c : Dev nD) (i : grid0.Coords) (arg2 : Memref sig .tc .smem S24x20 .f32) (harg2 : arg2.IsWhole) (arg3 : Memref sig .tc .smem S24x20 .f32) (harg3 : arg3.IsWhole)
    (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole)
    (arg12 : Memref sig .tc .vmem S2x128x1920 .f32) (harg12 : arg12.IsWhole)
    (k : Fin k0_t1_loop.trips) (f5 : Bf Ideal c arg5) (f6 : Bf Ideal c arg6) (f7 : Bf Ideal c arg7) (f8 : Bf Ideal c arg8) (f10 : Bf Ideal c arg10) (f11 : Bf Ideal c arg11)
    (arg1 : BitVec 32) (v2 : IVec S64x128 1) (v51 : BitVec 32) (cs vs : Fin 2 → EReal) (v541 v551 : FVec Ideal S64x128 .bf16) (f12 : Bf Ideal c arg12)
    (keep : ∀ (d : Fin 64) (u : Fin 128), (u : ℕ) < 77 → v2 (ix2 d u) = 1#1)
    (kT : GoodK (codes arg7.view f7 k 0) (arg10.view.read (Elt Ideal) (arg10.view.writes (Elt Ideal) arg10.view.junk (temp0.sl.H10_1 v2 v541 v551))) 1792 1869)
    (k0 : GoodK (codes arg7.view f7 k 0) (arg10.view.read (Elt Ideal) f10) 0 1792)
    (w0 : ∀ j, GoodV (codes arg8.view f8 k 0 j) (arg11.view.read (Elt Ideal) f11) j 0 1792)
    (wT0 : GoodV (codes arg8.view f8 k 0 0) (arg11.view.read (Elt Ideal) f11) 0 1792 1869)
    (wT1 : GoodV (codes arg8.view f8 k 0 1) (arg11.view.read (Elt Ideal) (arg11.view.writes (Elt Ideal) f11 (temp0.sl.H11_1 c arg8 k f8 v2))) 1 1792 1869)
    (o0 : Ones (arg11.view.read (Elt Ideal) f11))
    (o1 : Ones (arg11.view.read (Elt Ideal) (arg11.view.writes (Elt Ideal) f11 (temp0.sl.H11_1 c arg8 k f8 v2))))
    (y : S2x128x1920.Idx) (hy : (y 1).val < 64) (hy2 : (y 2).val < 1869) :
    OutP (outs false cs vs (codes arg6.view f6 k 0) (codes arg7.view f7 k 0) (codes arg8.view f8 k 0)) 0 y
      (arg12.view.read (Elt Ideal) (arg12.view.writes (Elt Ideal) f12
        (temp0 (F := Ideal) c i arg2 harg2 arg3 harg3 arg4 harg4 arg5 harg5 arg6 harg6 arg7 harg7 arg8 harg8 arg9 harg9 arg10 harg10 arg11 harg11 arg12 harg12 k f5 f6 f7 f8 f10 f11 arg1 v2 v51 (cs 0) (vs 0) (cs 1) (vs 1) v541 v551).2.2.2.1) y) := by
  have y0 : (y 0).val < 2 := (y 0).isLt
  have y1 : (y 1).val < 128 := (y 1).isLt
  have hy' : 64 * 0 ≤ (y 1).val ∧ (y 1).val < 64 * 0 + 64 := by omega
  have ho : ∀ (j : Fin 2) (g : Fin 7), frame0 k (BitVec.ofNat 32 j.val) g = ![2 * k.val + j.val, 0, 0, 256 * g.val] := frame0_eq k
  have i : ∀ (j : Fin 2) (g : Fin 7) a, frame0 k (BitVec.ofNat 32 j.val) g a + S1x1x64x256.size a ≤ S8x2x64x1920.size a := fun j g => frame_inb k.isLt (by omega) g.isLt (ho j g)
  let kk : Fin 2 → Fin 7 → FVec Ideal S64x256 .fp8e4m3 := fun j g => ldC 256 arg7.view f7 (frame0 k (BitVec.ofNat 32 j.val) g) (i j g) shapeCasts_S1x1x64x256_S64x256
  let vv : Fin 2 → Fin 7 → FVec Ideal S64x256 .fp8e4m3 := fun j g => ldC 256 arg8.view f8 (frame0 k (BitVec.ofNat 32 j.val) g) (i j g) shapeCasts_S1x1x64x256_S64x256
  have hk := fun (j : Fin 2) (g : Fin 7) => ld256 arg7.view f7 (i j g) shapeCasts_S1x1x64x256_S64x256 (ho j g)
  have hv := fun (j : Fin 2) (g : Fin 7) => ld256 arg8.view f8 (i j g) shapeCasts_S1x1x64x256_S64x256 (ho j g)
  refine walk 1 1792 0 80 rfl rfl (piece80 1 0 rfl (text_piece 1 false keep (ld128 arg6.view f6 _ _ (k0_off33_eq k 1)) (ld1792 arg7.view f7 _ _ (k0_off34_eq k 1)) (ld128 arg7.view f7 _ _ (k0_off33_eq k 1)) wT1 (w0 1) o1 o0 rfl rfl)) hy' fun h1 => ?_
  refine walk 1 (256 * 6) 0 256 rfl rfl (piece256 1 (256 * 6) 0 rfl (temp_piece (c := cs 1) (vs := vs 1) 1 (f := 6) (by omega) (kk 1) (vv 1) (ld256 arg6.view f6 _ _ (k0_off32_eq k 1)) (hk 1) (hv 1) kT wT1 o1 rfl rfl)) hy' fun h2 => ?_
  refine walk 1 (256 * 5) 0 256 rfl rfl (piece256 1 (256 * 5) 0 rfl (temp_piece (c := cs 1) (vs := vs 1) 1 (f := 5) (by omega) (kk 1) (vv 1) (ld256 arg6.view f6 _ _ (k0_off31_eq k 1)) (hk 1) (hv 1) kT wT1 o1 rfl rfl)) hy' fun h3 => ?_
  refine walk 1 (256 * 4) 0 256 rfl rfl (piece256 1 (256 * 4) 0 rfl (temp_piece (c := cs 1) (vs := vs 1) 1 (f := 4) (by omega) (kk 1) (vv 1) (ld256 arg6.view f6 _ _ (k0_off30_eq k 1)) (hk 1) (hv 1) kT wT1 o1 rfl rfl)) hy' fun h4 => ?_
  refine walk 1 (256 * 3) 0 256 rfl rfl (piece256 1 (256 * 3) 0 rfl (temp_piece (c := cs 1) (vs := vs 1) 1 (f := 3) (by omega) (kk 1) (vv 1) (ld256 arg6.view f6 _ _ (k0_off29_eq k 1)) (hk 1) (hv 1) kT wT1 o1 rfl rfl)) hy' fun h5 => ?_
  refine walk 1 (256 * 2) 0 256 rfl rfl (piece256 1 (256 * 2) 0 rfl (temp_piece (c := cs 1) (vs := vs 1) 1 (f := 2) (by omega) (kk 1) (vv 1) (ld256 arg6.view f6 _ _ (k0_off28_eq k 1)) (hk 1) (hv 1) kT wT1 o1 rfl rfl)) hy' fun h6 => ?_
  refine walk 1 (256 * 1) 0 256 rfl rfl (piece256 1 (256 * 1) 0 rfl (temp_piece (c := cs 1) (vs := vs 1) 1 (f := 1) (by omega) (kk 1) (vv 1) (ld256 arg6.view f6 _ _ (k0_off27_eq k 1)) (hk 1) (hv 1) kT wT1 o1 rfl rfl)) hy' fun h7 => ?_
  refine walk 1 0 0 256 rfl rfl (piece256 1 0 0 rfl (temp_piece (c := cs 1) (vs := vs 1) 1 (f := 0) (by omega) (kk 1) (vv 1) (ld256 arg6.view f6 _ _ (k0_off26_eq k 1)) (hk 1) (hv 1) kT wT1 o1 rfl rfl)) hy' fun h8 => ?_
  refine walk 0 1792 0 80 rfl rfl (piece80 0 0 rfl (text_piece 0 false keep (ld128 arg6.view f6 _ _ (k0_off33_eq k 0)) (ld1792 arg7.view f7 _ _ (k0_off34_eq k 0)) (ld128 arg7.view f7 _ _ (k0_off33_eq k 0)) wT0 (w0 0) o0 o0 rfl rfl)) hy' fun h9 => ?_
  refine walk 0 (256 * 6) 0 256 rfl rfl (piece256 0 (256 * 6) 0 rfl (temp_piece (c := cs 0) (vs := vs 0) 0 (f := 6) (by omega) (kk 0) (vv 0) (ld256 arg6.view f6 _ _ (k0_off32_eq k 0)) (hk 0) (hv 0) kT wT0 o0 rfl rfl)) hy' fun h10 => ?_
  refine walk 0 (256 * 5) 0 256 rfl rfl (piece256 0 (256 * 5) 0 rfl (temp_piece (c := cs 0) (vs := vs 0) 0 (f := 5) (by omega) (kk 0) (vv 0) (ld256 arg6.view f6 _ _ (k0_off31_eq k 0)) (hk 0) (hv 0) kT wT0 o0 rfl rfl)) hy' fun h11 => ?_
  refine walk 0 (256 * 4) 0 256 rfl rfl (piece256 0 (256 * 4) 0 rfl (temp_piece (c := cs 0) (vs := vs 0) 0 (f := 4) (by omega) (kk 0) (vv 0) (ld256 arg6.view f6 _ _ (k0_off30_eq k 0)) (hk 0) (hv 0) kT wT0 o0 rfl rfl)) hy' fun h12 => ?_
  refine walk 0 (256 * 3) 0 256 rfl rfl (piece256 0 (256 * 3) 0 rfl (temp_piece (c := cs 0) (vs := vs 0) 0 (f := 3) (by omega) (kk 0) (vv 0) (ld256 arg6.view f6 _ _ (k0_off29_eq k 0)) (hk 0) (hv 0) kT wT0 o0 rfl rfl)) hy' fun h13 => ?_
  refine walk 0 (256 * 2) 0 256 rfl rfl (piece256 0 (256 * 2) 0 rfl (temp_piece (c := cs 0) (vs := vs 0) 0 (f := 2) (by omega) (kk 0) (vv 0) (ld256 arg6.view f6 _ _ (k0_off28_eq k 0)) (hk 0) (hv 0) kT wT0 o0 rfl rfl)) hy' fun h14 => ?_
  refine walk 0 (256 * 1) 0 256 rfl rfl (piece256 0 (256 * 1) 0 rfl (temp_piece (c := cs 0) (vs := vs 0) 0 (f := 1) (by omega) (kk 0) (vv 0) (ld256 arg6.view f6 _ _ (k0_off27_eq k 0)) (hk 0) (hv 0) kT wT0 o0 rfl rfl)) hy' fun h15 => ?_
  refine walk 0 0 0 256 rfl rfl (piece256 0 0 0 rfl (temp_piece (c := cs 0) (vs := vs 0) 0 (f := 0) (by omega) (kk 0) (vv 0) (ld256 arg6.view f6 _ _ (k0_off26_eq k 0)) (hk 0) (hv 0) kT wT0 o0 rfl rfl)) hy' fun h16 => ?_
  exfalso
  obtain e | e : (y 0).val = 0 ∨ (y 0).val = 1 := by omega
  all_goals omega

end Cert.Proof.KernelIdeal
-- ==== Proof.KI.Spat1.lean ====
/- What the part holding the branches of the second head leaves when the head is spatial: its returned vectors, the result block, the two scratch buffers, and the pieces stored in the output scratch. -/
module

public import proofs.«01_k».proof.Proof.KI.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- What the part holding the branches of the second head leaves when the head is spatial: its returned vectors, the result block, the two scratch buffers, and the pieces stored in the output scratch. -/
noncomputable def spat1 (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (k0_t1 : Fin k0_t1_loop.trips) (f5 : Bf F c arg5) (f6 : Bf F c arg6) (f7 : Bf F c arg7) (f8 : Bf F c arg8) (f10 : Bf F c arg10) (f11 : Bf F c arg11) (f9 : Bf F c arg9) (f12 : Bf F c arg12)
    (v2 : IVec S64x128 1) (arg13 : BitVec 32) (v610 : BitVec 32) (v622 : F .f32) (v625 : Elt F .f32) (v637 : F .f32) (v640 : Elt F .f32) (v1128 : FVec F S128x128 .fp8e4m3) :
    Σ' (r : Σ' (v1153_lo : FVec F S128x128 .bf16) (v1153_hi : FVec F S128x128 .bf16), FVec F S128x1x128 .bf16) (g9 : Bf F c arg9) (g10 : Bf F c arg10) (g11 : Bf F c arg11),
    { L : List (View.Piece (Elt F) S2x128x1920 .f32) //
    iprop(pt c arg5 f5 ∗ pt c arg6 f6 ∗ pt c arg7 f7 ∗ pt c arg8 f8 ∗ pt c arg9 f9 ∗ pt c arg10 f10 ∗ pt c arg11 f11 ∗ pt c arg12 f12)
    ⊢ wp frame (wpE (defs₀ (F := F)) 𝒱₀ (c : Thread nD τ) none) Set.univ
        (k0_part226 (F := F) i arg2 harg2 arg3 harg3 arg4 harg4 arg5 harg5 arg6 harg6 arg7 harg7 arg8 harg8 arg9 harg9 arg10 harg10 arg11 harg11 arg12 harg12 v2 k0_t1 arg13 1#1 v610 v622 v625 v637 v640 v1128)
        (fun r' => iprop(⌜r' = r⌝ ∗ pt c arg5 f5 ∗ pt c arg6 f6 ∗ pt c arg7 f7 ∗ pt c arg8 f8 ∗ pt c arg9 g9 ∗ pt c arg10 g10 ∗ pt c arg11 g11 ∗ pt c arg12 (arg12.view.writes (Elt F) f12 L))) } := by
  refine ⟨?_, ?_, ?_, ?_, ?_, ?run⟩
  case run =>
    iintro ⟨H5, H6, H7, H8, H9, H10, H11, H12⟩
    sl_exec_parts
    sl_step
    sl_close

end Cert.Proof.KernelIdeal

end
-- ==== Proof.KI.Temp1.lean ====
/- What the part holding the branches of the second head leaves when the head is temporal. -/
module

public import proofs.«01_k».proof.Proof.KI.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- What the part holding the branches of the second head leaves when the head is temporal. -/
noncomputable def temp1 (c : Dev nD) (i : grid0.Coords) (arg2 : Memref sig .tc .smem S24x20 .f32) (harg2 : arg2.IsWhole) (arg3 : Memref sig .tc .smem S24x20 .f32) (harg3 : arg3.IsWhole) (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole) (arg12 : Memref sig .tc .vmem S2x128x1920 .f32) (harg12 : arg12.IsWhole)
    (k0_t1 : Fin k0_t1_loop.trips) (f5 : Bf F c arg5) (f6 : Bf F c arg6) (f7 : Bf F c arg7) (f8 : Bf F c arg8) (f10 : Bf F c arg10) (f11 : Bf F c arg11) (f9 : Bf F c arg9) (f12 : Bf F c arg12)
    (v2 : IVec S64x128 1) (arg13 : BitVec 32) (v610 : BitVec 32) (v622 : F .f32) (v625 : Elt F .f32) (v637 : F .f32) (v640 : Elt F .f32) (v1128 : FVec F S128x128 .fp8e4m3) :
    Σ' (r : Σ' (v1153_lo : FVec F S128x128 .bf16) (v1153_hi : FVec F S128x128 .bf16), FVec F S128x1x128 .bf16) (g9 : Bf F c arg9) (g10 : Bf F c arg10) (g11 : Bf F c arg11),
    { L : List (View.Piece (Elt F) S2x128x1920 .f32) //
    iprop(pt c arg5 f5 ∗ pt c arg6 f6 ∗ pt c arg7 f7 ∗ pt c arg8 f8 ∗ pt c arg9 f9 ∗ pt c arg10 f10 ∗ pt c arg11 f11 ∗ pt c arg12 f12)
    ⊢ wp frame (wpE (defs₀ (F := F)) 𝒱₀ (c : Thread nD τ) none) Set.univ
        (k0_part226 (F := F) i arg2 harg2 arg3 harg3 arg4 harg4 arg5 harg5 arg6 harg6 arg7 harg7 arg8 harg8 arg9 harg9 arg10 harg10 arg11 harg11 arg12 harg12 v2 k0_t1 arg13 0#1 v610 v622 v625 v637 v640 v1128)
        (fun r' => iprop(⌜r' = r⌝ ∗ pt c arg5 f5 ∗ pt c arg6 f6 ∗ pt c arg7 f7 ∗ pt c arg8 f8 ∗ pt c arg9 g9 ∗ pt c arg10 g10 ∗ pt c arg11 g11 ∗ pt c arg12 (arg12.view.writes (Elt F) f12 L))) } := by
  refine ⟨?_, ?_, ?_, ?_, ?_, ?run⟩
  case run =>
    iintro ⟨H5, H6, H7, H8, H9, H10, H11, H12⟩
    sl_exec_parts
    sl_step
    sl_close

end Cert.Proof.KernelIdeal

end
-- ==== Proof.KI.Out1.lean ====
/-
  The second head: what its pieces leave in the output scratch.
-/
module

public import proofs.«01_k».proof.Proof.KI.Out0
public import proofs.«01_k».proof.Proof.KI.Spat1
public import proofs.«01_k».proof.Proof.KI.Temp1

@[expose] public section

set_option maxRecDepth 16384
set_option maxHeartbeats 4000000

noncomputable section

namespace Cert.Proof.KernelIdeal

open Cert.KernelIdeal Cert.KernelIdeal.Gen
open Idealize.ShloMosaic Idealize.ShloMosaic.TcCoe
open Idealize.ShloMosaic.Pointwise

/-- The offsets of the seven frames. -/
def frame1 (k : Fin k0_t1_loop.trips) (r : BitVec 32) : Fin 7 → Fin 4 → ℕ := ![k0_off60 k r, k0_off61 k r, k0_off62 k r, k0_off63 k r, k0_off64 k r, k0_off65 k r, k0_off66 k r]

theorem frame1_eq (k : Fin k0_t1_loop.trips) (j : Fin 2) (g : Fin 7) : frame1 k (BitVec.ofNat 32 j.val) g = ![2 * k.val + j.val, 1, 0, 256 * g.val] := by
  fin_cases g
  · exact k0_off60_eq k j
  · exact k0_off61_eq k j
  · exact k0_off62_eq k j
  · exact k0_off63_eq k j
  · exact k0_off64_eq k j
  · exact k0_off65_eq k j
  · exact k0_off66_eq k j
/-- The second head, spatial: the output scratch holds its attention. -/
theorem spat1_out (c : Dev nD) (i : grid0.Coords) (arg2 : Memref sig .tc .smem S24x20 .f32) (harg2 : arg2.IsWhole) (arg3 : Memref sig .tc .smem S24x20 .f32) (harg3 : arg3.IsWhole)
    (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole)
    (arg12 : Memref sig .tc .vmem S2x128x1920 .f32) (harg12 : arg12.IsWhole)
    (k : Fin k0_t1_loop.trips) (f5 : Bf Ideal c arg5) (f6 : Bf Ideal c arg6) (f7 : Bf Ideal c arg7) (f8 : Bf Ideal c arg8) (f10 : Bf Ideal c arg10) (f11 : Bf Ideal c arg11)
    (f9 : Bf Ideal c arg9) (v2 : IVec S64x128 1) (arg13 v610 : BitVec 32) (cs vs : Fin 2 → EReal) (v1128 : FVec Ideal S128x128 .fp8e4m3) (f12 : Bf Ideal c arg12)
    (keep : ∀ (d : Fin 64) (u : Fin 128), (u : ℕ) < 77 → v2 (ix2 d u) = 1#1)
    (kT : GoodK (codes arg7.view f7 k 1) (arg10.view.read (Elt Ideal) (arg10.view.writes (Elt Ideal) arg10.view.junk (spat1.sl.H10_1 v1128))) 1792 1869)
    (k0 : GoodK (codes arg7.view f7 k 1) (arg10.view.read (Elt Ideal) f10) 0 1792)
    (w0 : ∀ j, GoodV (codes arg8.view f8 k 1 j) (arg11.view.read (Elt Ideal) f11) j 0 1792)
    (wT : ∀ j, GoodV (codes arg8.view f8 k 1 j) (arg11.view.read (Elt Ideal) f11) j 1792 1869)
    (o0 : Ones (arg11.view.read (Elt Ideal) f11))
    (y : S2x128x1920.Idx) (hy : 64 ≤ (y 1).val) (hy2 : (y 2).val < 1869) :
    OutP (outs true cs vs (codes arg6.view f6 k 1) (codes arg7.view f7 k 1) (codes arg8.view f8 k 1)) 1 y
      (arg12.view.read (Elt Ideal) (arg12.view.writes (Elt Ideal) f12
        (spat1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 (cs 0) (vs 0) (cs 1) (vs 1) v1128).2.2.2.2.1) y) := by
  have y0 : (y 0).val < 2 := (y 0).isLt
  have y1 : (y 1).val < 128 := (y 1).isLt
  have hy' : 64 * 1 ≤ (y 1).val ∧ (y 1).val < 64 * 1 + 64 := by omega
  refine walk 1 (256 * 6) 1 256 rfl rfl (piece256 1 (256 * 6) 1 rfl (spat3_piece 1 (by omega) (by omega) (ld256 arg6.view f6 _ _ (k0_off59_eq k 1)) kT k0 (wT 1) (w0 1) o0 o0 rfl rfl rfl rfl rfl rfl)) hy' fun h1 => ?_
  refine walk 0 (256 * 6) 1 256 rfl rfl (piece256 0 (256 * 6) 1 rfl (spat3_piece 0 (by omega) (by omega) (ld256 arg6.view f6 _ _ (k0_off59_eq k 0)) kT k0 (wT 0) (w0 0) o0 o0 rfl rfl rfl rfl rfl rfl)) hy' fun h2 => ?_
  refine walk 1 (256 * 5) 1 256 rfl rfl (piece256 1 (256 * 5) 1 rfl (spat3_piece 1 (by omega) (by omega) (ld256 arg6.view f6 _ _ (k0_off58_eq k 1)) kT k0 (wT 1) (w0 1) o0 o0 rfl rfl rfl rfl rfl rfl)) hy' fun h3 => ?_
  refine walk 0 (256 * 5) 1 256 rfl rfl (piece256 0 (256 * 5) 1 rfl (spat3_piece 0 (by omega) (by omega) (ld256 arg6.view f6 _ _ (k0_off58_eq k 0)) kT k0 (wT 0) (w0 0) o0 o0 rfl rfl rfl rfl rfl rfl)) hy' fun h4 => ?_
  refine walk 1 (256 * 4) 1 256 rfl rfl (piece256 1 (256 * 4) 1 rfl (spat3_piece 1 (by omega) (by omega) (ld256 arg6.view f6 _ _ (k0_off57_eq k 1)) kT k0 (wT 1) (w0 1) o0 o0 rfl rfl rfl rfl rfl rfl)) hy' fun h5 => ?_
  refine walk 0 (256 * 4) 1 256 rfl rfl (piece256 0 (256 * 4) 1 rfl (spat3_piece 0 (by omega) (by omega) (ld256 arg6.view f6 _ _ (k0_off57_eq k 0)) kT k0 (wT 0) (w0 0) o0 o0 rfl rfl rfl rfl rfl rfl)) hy' fun h6 => ?_
  refine walk 1 (256 * 3) 1 256 rfl rfl (piece256 1 (256 * 3) 1 rfl (spat3_piece 1 (by omega) (by omega) (ld256 arg6.view f6 _ _ (k0_off56_eq k 1)) kT k0 (wT 1) (w0 1) o0 o0 rfl rfl rfl rfl rfl rfl)) hy' fun h7 => ?_
  refine walk 0 (256 * 3) 1 256 rfl rfl (piece256 0 (256 * 3) 1 rfl (spat3_piece 0 (by omega) (by omega) (ld256 arg6.view f6 _ _ (k0_off56_eq k 0)) kT k0 (wT 0) (w0 0) o0 o0 rfl rfl rfl rfl rfl rfl)) hy' fun h8 => ?_
  refine walk 1 (256 * 2) 1 256 rfl rfl (piece256 1 (256 * 2) 1 rfl (spat3_piece 1 (by omega) (by omega) (ld256 arg6.view f6 _ _ (k0_off55_eq k 1)) kT k0 (wT 1) (w0 1) o0 o0 rfl rfl rfl rfl rfl rfl)) hy' fun h9 => ?_
  refine walk 0 (256 * 2) 1 256 rfl rfl (piece256 0 (256 * 2) 1 rfl (spat3_piece 0 (by omega) (by omega) (ld256 arg6.view f6 _ _ (k0_off55_eq k 0)) kT k0 (wT 0) (w0 0) o0 o0 rfl rfl rfl rfl rfl rfl)) hy' fun h10 => ?_
  refine walk 1 (256 * 1) 1 256 rfl rfl (piece256 1 (256 * 1) 1 rfl (spat3_piece 1 (by omega) (by omega) (ld256 arg6.view f6 _ _ (k0_off54_eq k 1)) kT k0 (wT 1) (w0 1) o0 o0 rfl rfl rfl rfl rfl rfl)) hy' fun h11 => ?_
  refine walk 0 (256 * 1) 1 256 rfl rfl (piece256 0 (256 * 1) 1 rfl (spat3_piece 0 (by omega) (by omega) (ld256 arg6.view f6 _ _ (k0_off54_eq k 0)) kT k0 (wT 0) (w0 0) o0 o0 rfl rfl rfl rfl rfl rfl)) hy' fun h12 => ?_
  refine walk 1 1792 1 80 rfl rfl (piece80 1 1 rfl (text_piece 1 true keep (ld128 arg6.view f6 _ _ (k0_off52_eq k 1)) (ld1792 arg7.view f7 _ _ (k0_off53_eq k 1)) (ld128 arg7.view f7 _ _ (k0_off52_eq k 1)) (wT 1) (w0 1) o0 o0 rfl rfl)) hy' fun h13 => ?_
  refine walk 1 0 1 256 rfl rfl (piece256 1 0 1 rfl (spat2_piece 1 (ld256 arg6.view f6 _ _ (k0_off51_eq k 1)) kT k0 (wT 1) (w0 1) o0 o0 rfl rfl rfl rfl)) hy' fun h14 => ?_
  refine walk 0 1792 1 80 rfl rfl (piece80 0 1 rfl (text_piece 0 true keep (ld128 arg6.view f6 _ _ (k0_off52_eq k 0)) (ld1792 arg7.view f7 _ _ (k0_off53_eq k 0)) (ld128 arg7.view f7 _ _ (k0_off52_eq k 0)) (wT 0) (w0 0) o0 o0 rfl rfl)) hy' fun h15 => ?_
  refine walk 0 0 1 256 rfl rfl (piece256 0 0 1 rfl (spat2_piece 0 (ld256 arg6.view f6 _ _ (k0_off51_eq k 0)) kT k0 (wT 0) (w0 0) o0 o0 rfl rfl rfl rfl)) hy' fun h16 => ?_
  exfalso
  obtain e | e : (y 0).val = 0 ∨ (y 0).val = 1 := by omega
  all_goals omega

/-- The second head, temporal: the output scratch holds its attention. -/
theorem temp1_out (c : Dev nD) (i : grid0.Coords) (arg2 : Memref sig .tc .smem S24x20 .f32) (harg2 : arg2.IsWhole) (arg3 : Memref sig .tc .smem S24x20 .f32) (harg3 : arg3.IsWhole)
    (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole)
    (arg12 : Memref sig .tc .vmem S2x128x1920 .f32) (harg12 : arg12.IsWhole)
    (k : Fin k0_t1_loop.trips) (f5 : Bf Ideal c arg5) (f6 : Bf Ideal c arg6) (f7 : Bf Ideal c arg7) (f8 : Bf Ideal c arg8) (f10 : Bf Ideal c arg10) (f11 : Bf Ideal c arg11)
    (f9 : Bf Ideal c arg9) (v2 : IVec S64x128 1) (arg13 v610 : BitVec 32) (cs vs : Fin 2 → EReal) (v1128 : FVec Ideal S128x128 .fp8e4m3) (f12 : Bf Ideal c arg12)
    (keep : ∀ (d : Fin 64) (u : Fin 128), (u : ℕ) < 77 → v2 (ix2 d u) = 1#1)
    (kT : GoodK (codes arg7.view f7 k 1) (arg10.view.read (Elt Ideal) (arg10.view.writes (Elt Ideal) arg10.view.junk (temp1.sl.H10_1 v1128))) 1792 1869)
    (k0 : GoodK (codes arg7.view f7 k 1) (arg10.view.read (Elt Ideal) f10) 0 1792)
    (w0 : ∀ j, GoodV (codes arg8.view f8 k 1 j) (arg11.view.read (Elt Ideal) f11) j 0 1792)
    (wT : ∀ j, GoodV (codes arg8.view f8 k 1 j) (arg11.view.read (Elt Ideal) f11) j 1792 1869)
    (o0 : Ones (arg11.view.read (Elt Ideal) f11))
    (y : S2x128x1920.Idx) (hy : 64 ≤ (y 1).val) (hy2 : (y 2).val < 1869) :
    OutP (outs false cs vs (codes arg6.view f6 k 1) (codes arg7.view f7 k 1) (codes arg8.view f8 k 1)) 1 y
      (arg12.view.read (Elt Ideal) (arg12.view.writes (Elt Ideal) f12
        (temp1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 (cs 0) (vs 0) (cs 1) (vs 1) v1128).2.2.2.2.1) y) := by
  have y0 : (y 0).val < 2 := (y 0).isLt
  have y1 : (y 1).val < 128 := (y 1).isLt
  have hy' : 64 * 1 ≤ (y 1).val ∧ (y 1).val < 64 * 1 + 64 := by omega
  have ho : ∀ (j : Fin 2) (g : Fin 7), frame1 k (BitVec.ofNat 32 j.val) g = ![2 * k.val + j.val, 1, 0, 256 * g.val] := frame1_eq k
  have i : ∀ (j : Fin 2) (g : Fin 7) a, frame1 k (BitVec.ofNat 32 j.val) g a + S1x1x64x256.size a ≤ S8x2x64x1920.size a := fun j g => frame_inb k.isLt (by omega) g.isLt (ho j g)
  let kk : Fin 2 → Fin 7 → FVec Ideal S64x256 .fp8e4m3 := fun j g => ldC 256 arg7.view f7 (frame1 k (BitVec.ofNat 32 j.val) g) (i j g) shapeCasts_S1x1x64x256_S64x256
  let vv : Fin 2 → Fin 7 → FVec Ideal S64x256 .fp8e4m3 := fun j g => ldC 256 arg8.view f8 (frame1 k (BitVec.ofNat 32 j.val) g) (i j g) shapeCasts_S1x1x64x256_S64x256
  have hk := fun (j : Fin 2) (g : Fin 7) => ld256 arg7.view f7 (i j g) shapeCasts_S1x1x64x256_S64x256 (ho j g)
  have hv := fun (j : Fin 2) (g : Fin 7) => ld256 arg8.view f8 (i j g) shapeCasts_S1x1x64x256_S64x256 (ho j g)
  refine walk 1 1792 1 80 rfl rfl (piece80 1 1 rfl (text_piece 1 false keep (ld128 arg6.view f6 _ _ (k0_off67_eq k 1)) (ld1792 arg7.view f7 _ _ (k0_off68_eq k 1)) (ld128 arg7.view f7 _ _ (k0_off67_eq k 1)) (wT 1) (w0 1) o0 o0 rfl rfl)) hy' fun h1 => ?_
  refine walk 1 (256 * 6) 1 256 rfl rfl (piece256 1 (256 * 6) 1 rfl (temp_piece (c := cs 1) (vs := vs 1) 1 (f := 6) (by omega) (kk 1) (vv 1) (ld256 arg6.view f6 _ _ (k0_off66_eq k 1)) (hk 1) (hv 1) kT (wT 1) o0 rfl rfl)) hy' fun h2 => ?_
  refine walk 1 (256 * 5) 1 256 rfl rfl (piece256 1 (256 * 5) 1 rfl (temp_piece (c := cs 1) (vs := vs 1) 1 (f := 5) (by omega) (kk 1) (vv 1) (ld256 arg6.view f6 _ _ (k0_off65_eq k 1)) (hk 1) (hv 1) kT (wT 1) o0 rfl rfl)) hy' fun h3 => ?_
  refine walk 1 (256 * 4) 1 256 rfl rfl (piece256 1 (256 * 4) 1 rfl (temp_piece (c := cs 1) (vs := vs 1) 1 (f := 4) (by omega) (kk 1) (vv 1) (ld256 arg6.view f6 _ _ (k0_off64_eq k 1)) (hk 1) (hv 1) kT (wT 1) o0 rfl rfl)) hy' fun h4 => ?_
  refine walk 1 (256 * 3) 1 256 rfl rfl (piece256 1 (256 * 3) 1 rfl (temp_piece (c := cs 1) (vs := vs 1) 1 (f := 3) (by omega) (kk 1) (vv 1) (ld256 arg6.view f6 _ _ (k0_off63_eq k 1)) (hk 1) (hv 1) kT (wT 1) o0 rfl rfl)) hy' fun h5 => ?_
  refine walk 1 (256 * 2) 1 256 rfl rfl (piece256 1 (256 * 2) 1 rfl (temp_piece (c := cs 1) (vs := vs 1) 1 (f := 2) (by omega) (kk 1) (vv 1) (ld256 arg6.view f6 _ _ (k0_off62_eq k 1)) (hk 1) (hv 1) kT (wT 1) o0 rfl rfl)) hy' fun h6 => ?_
  refine walk 1 (256 * 1) 1 256 rfl rfl (piece256 1 (256 * 1) 1 rfl (temp_piece (c := cs 1) (vs := vs 1) 1 (f := 1) (by omega) (kk 1) (vv 1) (ld256 arg6.view f6 _ _ (k0_off61_eq k 1)) (hk 1) (hv 1) kT (wT 1) o0 rfl rfl)) hy' fun h7 => ?_
  refine walk 1 0 1 256 rfl rfl (piece256 1 0 1 rfl (temp_piece (c := cs 1) (vs := vs 1) 1 (f := 0) (by omega) (kk 1) (vv 1) (ld256 arg6.view f6 _ _ (k0_off60_eq k 1)) (hk 1) (hv 1) kT (wT 1) o0 rfl rfl)) hy' fun h8 => ?_
  refine walk 0 1792 1 80 rfl rfl (piece80 0 1 rfl (text_piece 0 false keep (ld128 arg6.view f6 _ _ (k0_off67_eq k 0)) (ld1792 arg7.view f7 _ _ (k0_off68_eq k 0)) (ld128 arg7.view f7 _ _ (k0_off67_eq k 0)) (wT 0) (w0 0) o0 o0 rfl rfl)) hy' fun h9 => ?_
  refine walk 0 (256 * 6) 1 256 rfl rfl (piece256 0 (256 * 6) 1 rfl (temp_piece (c := cs 0) (vs := vs 0) 0 (f := 6) (by omega) (kk 0) (vv 0) (ld256 arg6.view f6 _ _ (k0_off66_eq k 0)) (hk 0) (hv 0) kT (wT 0) o0 rfl rfl)) hy' fun h10 => ?_
  refine walk 0 (256 * 5) 1 256 rfl rfl (piece256 0 (256 * 5) 1 rfl (temp_piece (c := cs 0) (vs := vs 0) 0 (f := 5) (by omega) (kk 0) (vv 0) (ld256 arg6.view f6 _ _ (k0_off65_eq k 0)) (hk 0) (hv 0) kT (wT 0) o0 rfl rfl)) hy' fun h11 => ?_
  refine walk 0 (256 * 4) 1 256 rfl rfl (piece256 0 (256 * 4) 1 rfl (temp_piece (c := cs 0) (vs := vs 0) 0 (f := 4) (by omega) (kk 0) (vv 0) (ld256 arg6.view f6 _ _ (k0_off64_eq k 0)) (hk 0) (hv 0) kT (wT 0) o0 rfl rfl)) hy' fun h12 => ?_
  refine walk 0 (256 * 3) 1 256 rfl rfl (piece256 0 (256 * 3) 1 rfl (temp_piece (c := cs 0) (vs := vs 0) 0 (f := 3) (by omega) (kk 0) (vv 0) (ld256 arg6.view f6 _ _ (k0_off63_eq k 0)) (hk 0) (hv 0) kT (wT 0) o0 rfl rfl)) hy' fun h13 => ?_
  refine walk 0 (256 * 2) 1 256 rfl rfl (piece256 0 (256 * 2) 1 rfl (temp_piece (c := cs 0) (vs := vs 0) 0 (f := 2) (by omega) (kk 0) (vv 0) (ld256 arg6.view f6 _ _ (k0_off62_eq k 0)) (hk 0) (hv 0) kT (wT 0) o0 rfl rfl)) hy' fun h14 => ?_
  refine walk 0 (256 * 1) 1 256 rfl rfl (piece256 0 (256 * 1) 1 rfl (temp_piece (c := cs 0) (vs := vs 0) 0 (f := 1) (by omega) (kk 0) (vv 0) (ld256 arg6.view f6 _ _ (k0_off61_eq k 0)) (hk 0) (hv 0) kT (wT 0) o0 rfl rfl)) hy' fun h15 => ?_
  refine walk 0 0 1 256 rfl rfl (piece256 0 0 1 rfl (temp_piece (c := cs 0) (vs := vs 0) 0 (f := 0) (by omega) (kk 0) (vv 0) (ld256 arg6.view f6 _ _ (k0_off60_eq k 0)) (hk 0) (hv 0) kT (wT 0) o0 rfl rfl)) hy' fun h16 => ?_
  exfalso
  obtain e | e : (y 0).val = 0 ∨ (y 0).val = 1 := by omega
  all_goals omega

end Cert.Proof.KernelIdeal
-- ==== Proof.KI.Fill.lean ====
/-
  Filling the scratch arrays tile by tile: the keys of the two batches transposed side by
  side, the values above their row of ones.
-/
module

public import proofs.«01_k».proof.Proof.KI.Pieces

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pointwise

/-- A tile of keys: the two batches side by side, a token per row. -/
def tileK {F : FTy → Type} [FloatOps F] [Named F] (a b : FVec F S64x128 .bf16) : FVec F S128x128 .fp8e4m3 :=
  shapeCast S128x128 (truncf .fp8e4m3 (transpose S128x128 [1, 0] (concatenate S128x128 0 [⟨S64x128, a⟩, ⟨S64x128, b⟩]
    concatenates_S64x128_S64x128_S128x128_d0) transposes_S128x128_p1_0_S128x128) bitsLt_fp8e4m3_bf16) shapeCasts_S128x128_S128x128

theorem tileK_read (a b : FVec Ideal S64x128 .bf16) (u : Fin 128) (j : Fin 2) (d : Fin 64) :
    tileK a b (ix2 u ⟨64 * j + d, by omega⟩) = (if j = 0 then a else b) (ix2 d u) := by
  have hd := d.isLt
  match j with
  | 0 =>
    pointwise [tileK]
  | 1 =>
    pointwise [tileK]

/-- A tile of codes, widened. -/
theorem tile_read {σ : RefSig} {κ : Kind} {sp : Space} (v : View σ κ sp S8x2x64x1920 .fp8e4m3) (f : v.ty.Contents (Elt Ideal)) {o : Fin 4 → ℕ} {b h s : ℕ}
    (i : ∀ a, o a + S1x1x64x128.size a ≤ S8x2x64x1920.size a) (hc : Shape.ShapeCasts S1x1x64x128 S64x128) (hb) (ho : o = ![b, h, 0, s]) (d : Fin 64) (u : Fin 128) :
    extf (F := Ideal) .bf16 (ldC 128 v f o i hc) hb (ix2 d u) = code (v.read (Elt Ideal) f) b h d (s + u) :=
  ld128 v f i hc ho d u

theorem select_keep {keep : IVec S64x128 1} {a z : FVec Ideal S64x128 .bf16} {d : Fin 64} {u : Fin 128} (h : keep (ix2 d u) = 1#1) :
    select keep a z (ix2 d u) = a (ix2 d u) := by
  show (if keep (ix2 d u) = 1 then _ else _) = _
  rw [h]; rfl

theorem sc_tileV (w : FVec Ideal S64x128 .bf16) (hc : Shape.ShapeCasts S64x128 S1x64x128) (z : Fin 1) (d : Fin 64) (u : Fin 128) :
    shapeCast S1x64x128 w hc (ix3 z d u) = w (ix2 d u) := by
  pointwise

section
variable {σ : RefSig} {κ : Kind} {sp : Space}
variable {v10 : View σ κ sp S1920x128 .fp8e4m3} {v11 : View σ κ sp S2x80x1920 .bf16}
variable {K : Fin 2 → Fin 64 → ℕ → EReal} {V : Fin 64 → ℕ → EReal}

theorem GoodK.push {f : v10.ty.Contents (Elt Ideal)} {L : List (View.Piece (Elt Ideal) S1920x128 .fp8e4m3)} {o : Fin 2 → ℕ} {lo s : ℕ}
    {i : ∀ a, o a + S128x128.size a ≤ S1920x128.size a} {w : (Rect.unit (s := S1920x128) o S128x128.size i).shape.Idx → EReal}
    (n : ℕ) (hs : ∀ t, lo ≤ t → t < s → ∀ (j : Fin 2) (d : Fin 64), cell2 (v10.read (Elt Ideal) (v10.writes (Elt Ideal) f L)) t (64 * j + d) = K j d t)
    (ho : o = ![s, 0]) (hn : n ≤ 128)
    (hw : ∀ (u : Fin 128) (j : Fin 2) (d : Fin 64), (u : ℕ) < n → w (ix2 u ⟨64 * j + d, by omega⟩) = K j d (s + u)) :
    GoodK K (v10.read (Elt Ideal) (v10.writes (Elt Ideal) f ((⟨Rect.unit (s := S1920x128) o S128x128.size i, w⟩ : View.Piece (Elt Ideal) S1920x128 .fp8e4m3) :: L))) lo (s + n) := by
  intro t h1 h2 j d
  have hi := i 0
  have hi' : s + 128 ≤ 1920 := by subst ho; exact hi
  rw [cell2, dif_pos ⟨by omega, by omega⟩]
  by_cases h : t < s
  · rw [View.read_writes_cons_unit_of_not_mem (Val := Elt Ideal) v10 f i w L _ ho 0 (Or.inl (by simpa using h))]
    have := hs t h1 h j d
    rwa [cell2, dif_pos ⟨by omega, by omega⟩] at this
  · rw [View.read_writes_cons_unit_of_mem (Val := Elt Ideal) v10 f i w L _ (ix2 (⟨t - s, by omega⟩ : Fin 128) (⟨64 * j + d, by omega⟩ : Fin 128)) ho
      (fun a => by fin_cases a <;> simp <;> omega)]
    rw [hw _ j d (by simp; omega)]
    congr 1
    simp; omega

theorem GoodV.push {f : v11.ty.Contents (Elt Ideal)} {L : List (View.Piece (Elt Ideal) S2x80x1920 .bf16)} {o : Fin 3 → ℕ} {lo s : ℕ} {j : Fin 2}
    {i : ∀ a, o a + S1x64x128.size a ≤ S2x80x1920.size a} {w : (Rect.unit (s := S2x80x1920) o S1x64x128.size i).shape.Idx → EReal}
    (n : ℕ) (hs : ∀ t, lo ≤ t → t < s → ∀ (d : Fin 64), cell3 (v11.read (Elt Ideal) (v11.writes (Elt Ideal) f L)) j d t = V d t)
    (ho : o = ![j.val, 0, s]) (hn : n ≤ 128)
    (hw : ∀ (z : Fin 1) (u : Fin 128) (d : Fin 64), (u : ℕ) < n → w (ix3 z d u) = V d (s + u)) :
    GoodV V (v11.read (Elt Ideal) (v11.writes (Elt Ideal) f ((⟨Rect.unit (s := S2x80x1920) o S1x64x128.size i, w⟩ : View.Piece (Elt Ideal) S2x80x1920 .bf16) :: L))) j lo (s + n) := by
  intro t h1 h2 d
  have hi := i 2
  have hi' : s + 128 ≤ 1920 := by subst ho; exact hi
  rw [cell3, dif_pos ⟨by omega, by omega, by omega⟩]
  by_cases h : t < s
  · rw [View.read_writes_cons_unit_of_not_mem (Val := Elt Ideal) v11 f i w L _ ho 2 (Or.inl (by simpa using h))]
    have := hs t h1 h d
    rwa [cell3, dif_pos ⟨by omega, by omega, by omega⟩] at this
  · rw [View.read_writes_cons_unit_of_mem (Val := Elt Ideal) v11 f i w L _ (ix3 (0 : Fin 1) (⟨d, by omega⟩ : Fin 64) (⟨t - s, by omega⟩ : Fin 128)) ho
      (fun a => by fin_cases a <;> simp <;> omega)]
    rw [show (⟨(d : ℕ), by omega⟩ : Fin 64) = d from rfl, hw _ _ d (by simp; omega)]
    congr 1
    simp; omega

/-- A tile of the other batch leaves the values alone. -/
theorem GoodV.skip {f : v11.ty.Contents (Elt Ideal)} {L : List (View.Piece (Elt Ideal) S2x80x1920 .bf16)} {o : Fin 3 → ℕ} {lo hi s j' : ℕ} {j : Fin 2}
    {i : ∀ a, o a + S1x64x128.size a ≤ S2x80x1920.size a} {w : (Rect.unit (s := S2x80x1920) o S1x64x128.size i).shape.Idx → EReal}
    (hs : GoodV V (v11.read (Elt Ideal) (v11.writes (Elt Ideal) f L)) j lo hi) (hhi : hi ≤ 1920)
    (ho : o = ![j', 0, s]) (hj : j.val ≠ j') :
    GoodV V (v11.read (Elt Ideal) (v11.writes (Elt Ideal) f ((⟨Rect.unit (s := S2x80x1920) o S1x64x128.size i, w⟩ : View.Piece (Elt Ideal) S2x80x1920 .bf16) :: L))) j lo hi := by
  intro t h1 h2 d
  have := hs t h1 h2 d
  rw [cell3, dif_pos ⟨by omega, by omega, by omega⟩] at this ⊢
  rw [View.read_writes_cons_unit_of_not_mem (Val := Elt Ideal) v11 f i w L _ ho 0 (by simp; omega)]
  exact this

/-- A tile leaves the row of ones alone. -/
theorem Ones.skip {f : v11.ty.Contents (Elt Ideal)} {L : List (View.Piece (Elt Ideal) S2x80x1920 .bf16)} {o : Fin 3 → ℕ} {s j' : ℕ}
    {i : ∀ a, o a + S1x64x128.size a ≤ S2x80x1920.size a} {w : (Rect.unit (s := S2x80x1920) o S1x64x128.size i).shape.Idx → EReal}
    (hs : Ones (v11.read (Elt Ideal) (v11.writes (Elt Ideal) f L)))
    (ho : o = ![j', 0, s]) :
    Ones (v11.read (Elt Ideal) (v11.writes (Elt Ideal) f ((⟨Rect.unit (s := S2x80x1920) o S1x64x128.size i, w⟩ : View.Piece (Elt Ideal) S2x80x1920 .bf16) :: L))) := by
  intro j t ht
  have := hs j t ht
  rw [cell3, dif_pos ⟨by omega, by omega, by omega⟩] at this ⊢
  rw [View.read_writes_cons_unit_of_not_mem (Val := Elt Ideal) v11 f i w L _ ho 1 (by simp)]
  exact this

end

end Cert.Proof.KernelIdeal
-- ==== Proof.KI.Epi.lean ====
/-
  The epilogue: tiles of the output scratch, transposed and packed, stored in the result block.
-/
module

public import proofs.«01_k».proof.Proof.KI.Mem

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pointwise

/-- A tile of the output scratch, tokens down the rows. -/
def turn (w : FVec Ideal S1x128x128 .f32) : FVec Ideal S128x128 .bf16 :=
  truncf .bf16 (transpose S128x128 [1, 0] (shapeCast S128x128 w shapeCasts_S1x128x128_S128x128) transposes_S128x128_p1_0_S128x128) bitsLt_bf16_f32

/-- The tiles of the two batches, their rows interleaved. -/
def woven (lo hi : FVec Ideal S128x128 .bf16) : FVec Ideal S128x2x128 .bf16 :=
  interleaveRows S128x2x128 (shapeCast S128x1x128 lo shapeCasts_S128x128_S128x1x128) (shapeCast S128x1x128 hi shapeCasts_S128x128_S128x1x128) bitcasts_S128x2x128_w16_S128x1x128_w32

theorem turn_read (w : FVec Ideal S1x128x128 .f32) (a l : Fin 128) : turn w (ix2 a l) = w (ix3 0 l a) := by
  pointwise [turn]

theorem woven_read (lo hi : FVec Ideal S128x128 .bf16) (a : Fin 128) (p : Fin 2) (l : Fin 128) :
    woven lo hi (ix3 a p l) = (if p = 0 then lo else hi) (ix2 a l) := by
  match p with
  | 0 => pointwise [woven]
  | 1 => pointwise [woven]

def cellW (X : S2x128x1920.Idx → EReal) (j l t : ℕ) : EReal :=
  if hh : j < 2 ∧ l < 128 ∧ t < 1920 then X (ix3 ⟨j, hh.1⟩ ⟨l, hh.2.1⟩ ⟨t, hh.2.2⟩) else 0

section
variable {σ : RefSig} {κ : Kind} {sp : Space}

theorem readAtW (v : View σ κ sp S2x128x1920 .f32) (f : v.ty.Contents (Elt Ideal)) {o : Fin 3 → ℕ} {j s : ℕ}
    (i : ∀ a, o a + S1x128x128.size a ≤ S2x128x1920.size a) (ho : o = ![j, 0, s]) (z : Fin 1) (l a : Fin 128) :
    v.readAt (Elt Ideal) (Rect.unit (s := S2x128x1920) o S1x128x128.size i).toLoadRect f (ix3 z l a) = cellW (v.read (Elt Ideal) f) j l (s + a) := by
  subst ho
  have i0 := i 0; have i2 := i 2
  simp at i0 i2
  rw [cellW, dif_pos ⟨by omega, by omega, by omega⟩]
  show v.read (Elt Ideal) f _ = _
  congr 1
  funext b
  fin_cases b <;> apply Fin.ext <;> simp [LoadRect.idx, Rect.toLoadRect, Rect.unit]

/-- The result block holds the values of the batches before pair `k`, and of pair `k` for the tokens before `s`. -/
def GoodO (R : ℕ → ℕ → Fin 128 → EReal) (k s : ℕ) (X : S1869x8x128.Idx → EReal) : Prop :=
  ∀ (a : Fin 1869) (b : Fin 8) (l : Fin 128), (b : ℕ) < 2 * k ∨ (b : ℕ) < 2 * k + 2 ∧ (a : ℕ) < s → X (ix3 a b l) = R b a l

theorem GoodO.next {R : ℕ → ℕ → Fin 128 → EReal} {k s : ℕ} {X : S1869x8x128.Idx → EReal} (h : GoodO R k s X) (hs : 1869 ≤ s) : GoodO R (k + 1) 0 X :=
  fun a b l hb => h a b l (by omega)

theorem GoodO.push {v9 : View σ κ sp S1869x8x128 .bf16} {R : ℕ → ℕ → Fin 128 → EReal} {k s n : ℕ} {f : v9.ty.Contents (Elt Ideal)} {L : List (View.Piece (Elt Ideal) S1869x8x128 .bf16)}
    {o : Fin 3 → ℕ} {i : ∀ a, o a + (⟨3, ![n, 2, 128]⟩ : Shape).size a ≤ S1869x8x128.size a}
    {w : (Rect.unit (s := S1869x8x128) o (⟨3, ![n, 2, 128]⟩ : Shape).size i).shape.Idx → EReal}
    (hs : GoodO R k s (v9.read (Elt Ideal) (v9.writes (Elt Ideal) f L))) (ho : o = ![s, 2 * k, 0])
    (hw : ∀ (a : Fin n) (p : Fin 2) (l : Fin 128), w (ix3 a p l) = R (2 * k + p) (s + a) l) :
    GoodO R k (s + n) (v9.read (Elt Ideal) (v9.writes (Elt Ideal) f ((⟨Rect.unit (s := S1869x8x128) o (⟨3, ![n, 2, 128]⟩ : Shape).size i, w⟩ : View.Piece (Elt Ideal) S1869x8x128 .bf16) :: L))) := by
  intro a b l h
  by_cases hb : (b : ℕ) < 2 * k
  · rw [View.read_writes_cons_unit_of_not_mem (Val := Elt Ideal) v9 f i w L _ ho 1 (by simp; omega)]
    exact hs a b l (Or.inl hb)
  · by_cases ha : (a : ℕ) < s
    · rw [View.read_writes_cons_unit_of_not_mem (Val := Elt Ideal) v9 f i w L _ ho 0 (by simp; omega)]
      exact hs a b l (Or.inr ⟨by omega, ha⟩)
    · rw [View.read_writes_cons_unit_of_mem (Val := Elt Ideal) v9 f i w L _ (ix3 (⟨a - s, by omega⟩ : Fin n) (⟨b - 2 * k, by omega⟩ : Fin 2) l) ho
        (fun a => by fin_cases a <;> simp <;> omega)]
      rw [hw]
      congr 1 <;> simp <;> omega

end

end Cert.Proof.KernelIdeal
-- ==== Proof.KI.Scalars.lean ====
/-
  The scalars of a trip: the heads' scales, and the comparisons that tell a spatial head.
-/
module

public import proofs.«01_k».proof.Proof.KI.Fill
public import proofs.«01_k».proof.Proof.KI.Math
public import proofs.«01_k».proof.Proof.KI.Body

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pointwise

section
variable {σ : RefSig} {κ : Kind} {sp : Space}

theorem order_read (v : View σ κ sp S20 .i32) (f : v.ty.Contents (Elt Ideal)) (n : ℕ) (i : ∀ a, ![n] a + S1.size a ≤ S20.size a) (hp) :
    v.readAt (Elt Ideal) (Rect.unit (s := S20) ![n] S1.size i).toLoadRect f (Shape.Idx.first (s := S1) hp)
      = v.read (Elt Ideal) f (ix1 (⟨n, by have := i 0; simp at this; omega⟩ : Fin 20)) := by
  show v.read (Elt Ideal) f _ = _
  congr 1
  funext b
  fin_cases b
  apply Fin.ext
  simp [LoadRect.idx, Rect.toLoadRect, Rect.unit, Shape.Idx.first]

/-- An entry of a table of scales. -/
def at24 (X : S24x20.Idx → EReal) (b h : ℕ) : EReal := if hh : b < 24 ∧ h < 20 then X (ix2 ⟨b, hh.1⟩ ⟨h, hh.2⟩) else 0

theorem scale_read (v : View σ κ sp S24x20 .f32) (f : v.ty.Contents (Elt Ideal)) {o : Fin 2 → ℕ} {b h : ℕ} (i : ∀ a, o a + S1x1.size a ≤ S24x20.size a) (hp) (ho : o = ![b, h]) :
    v.readAt (Elt Ideal) (Rect.unit (s := S24x20) o S1x1.size i).toLoadRect f (Shape.Idx.first (s := S1x1) hp) = at24 (v.read (Elt Ideal) f) b h := by
  subst ho
  have i0 := i 0; have i1 := i 1
  simp at i0 i1
  rw [at24, dif_pos ⟨by omega, by omega⟩]
  show v.read (Elt Ideal) f _ = _
  congr 1
  funext b
  fin_cases b <;> apply Fin.ext <;> simp [LoadRect.idx, Rect.toLoadRect, Rect.unit, Shape.Idx.first]

end

theorem ori_iff {a b : BitVec 1} {P Q : Prop} (ha : a = 1#1 ↔ P) (hb : b = 1#1 ↔ Q) : Scalar.ori a b = 1#1 ↔ P ∨ Q := by
  have h : ∀ a b : BitVec 1, Scalar.ori a b = 1#1 ↔ a = 1#1 ∨ b = 1#1 := by decide
  rw [← ha, ← hb, h]

theorem cmpi_iff {a b w : BitVec 32} (h : a = b) : Scalar.cmpi .eq a w = 1#1 ↔ b = w := by
  subst h
  show (BitVec.ofBool (a == w)) = 1#1 ↔ _
  by_cases hh : a = w
  · simp [hh]
  · simp [hh, beq_eq_false_iff_ne.mpr hh]

/-- The head numbered by the word is one of the first eleven of the order. -/
def Spatial (O : S20.Idx → BitVec 32) (w : BitVec 32) : Prop := ∃ n : Fin 11, O (ix1 (⟨n, by omega⟩ : Fin 20)) = w

theorem spatial_iff {O : S20.Idx → BitVec 32} {w : BitVec 32} :
    ((((((((((O (ix1 (0 : Fin 20)) = w ∨ O (ix1 (1 : Fin 20)) = w) ∨ O (ix1 (2 : Fin 20)) = w) ∨ O (ix1 (3 : Fin 20)) = w) ∨ O (ix1 (4 : Fin 20)) = w) ∨ O (ix1 (5 : Fin 20)) = w)
      ∨ O (ix1 (6 : Fin 20)) = w) ∨ O (ix1 (7 : Fin 20)) = w) ∨ O (ix1 (8 : Fin 20)) = w) ∨ O (ix1 (9 : Fin 20)) = w) ∨ O (ix1 (10 : Fin 20)) = w) ↔ Spatial O w := by
  constructor
  · rintro ((((((((((h | h) | h) | h) | h) | h) | h) | h) | h) | h) | h)
    exacts [⟨0, h⟩, ⟨1, h⟩, ⟨2, h⟩, ⟨3, h⟩, ⟨4, h⟩, ⟨5, h⟩, ⟨6, h⟩, ⟨7, h⟩, ⟨8, h⟩, ⟨9, h⟩, ⟨10, h⟩]
  · rintro ⟨n, h⟩
    have h' : O (ix1 (⟨n, by omega⟩ : Fin 20)) = w := h
    match n, h' with
    | 0, h => exact .inl (.inl (.inl (.inl (.inl (.inl (.inl (.inl (.inl (.inl h)))))))))
    | 1, h => exact .inl (.inl (.inl (.inl (.inl (.inl (.inl (.inl (.inl (.inr h)))))))))
    | 2, h => exact .inl (.inl (.inl (.inl (.inl (.inl (.inl (.inl (.inr h))))))))
    | 3, h => exact .inl (.inl (.inl (.inl (.inl (.inl (.inl (.inr h)))))))
    | 4, h => exact .inl (.inl (.inl (.inl (.inl (.inl (.inr h))))))
    | 5, h => exact .inl (.inl (.inl (.inl (.inl (.inr h)))))
    | 6, h => exact .inl (.inl (.inl (.inl (.inr h))))
    | 7, h => exact .inl (.inl (.inl (.inr h)))
    | 8, h => exact .inl (.inl (.inr h))
    | 9, h => exact .inl (.inr h)
    | 10, h => exact .inr h

/-- The words the first part hands to the second: the number of the second head, and whether the first six of the order are it. -/
structure Words (O : S20.Idx → BitVec 32) (arg1 w : BitVec 32) (b0 b1 b2 b3 b4 b5 : BitVec 1) : Prop where
  head : w = Scalar.addi (Scalar.muli arg1 2#32) 1#32
  h0 : b0 = Scalar.cmpi .eq (O (ix1 (0 : Fin 20))) w
  h1 : b1 = Scalar.cmpi .eq (O (ix1 (1 : Fin 20))) w
  h2 : b2 = Scalar.cmpi .eq (O (ix1 (2 : Fin 20))) w
  h3 : b3 = Scalar.cmpi .eq (O (ix1 (3 : Fin 20))) w
  h4 : b4 = Scalar.cmpi .eq (O (ix1 (4 : Fin 20))) w
  h5 : b5 = Scalar.cmpi .eq (O (ix1 (5 : Fin 20))) w

/-- The factor of a head's scores: the scales of queries and keys, an eighth, and the change of base. -/
def factor (a b : EReal) : EReal := a * b * Ideal.ofBits .f32 0x3E000000#32 * Soft.L2E

theorem pay962_eq (a b : EReal) : k0_pay962 (F := Ideal) a b = factor a b := by
  show a * b * Ideal.ofBits .f32 0x3E000000#32 * Named.named (F := Ideal) _ "log2e" _ = _
  rw [IdealRules.named_const.ideal_named_scalar _ _ _ _ rfl]
  rfl

theorem keep_pay1 (d : Fin 64) (u : Fin 128) (hu : (u : ℕ) < 77) : k0_pay1 (ix2 d u) = 1#1 := by
  have h : ∀ u : Fin 128, (u : ℕ) < 77 → IntOp.cmpi .slt (BitVec.ofNat 32 u.val) 77#32 = 1#1 := by decide
  pointwise [k0_pay1]
  exact h u hu

end Cert.Proof.KernelIdeal
-- ==== Proof.KI.Calls.lean ====
/-
  The two parts that hold the branches, specified: whichever branch is taken, the output scratch holds that attention.
-/
module

public import proofs.«01_k».proof.Proof.KI.Out0
public import proofs.«01_k».proof.Proof.KI.Out1
public import proofs.«01_k».proof.Proof.KI.Fill
public import proofs.«01_k».proof.Proof.KI.Epi
public import proofs.«01_k».proof.Proof.KI.Scalars

@[expose] public section

set_option maxRecDepth 16384
set_option maxHeartbeats 4000000

noncomputable section

namespace Cert.Proof.KernelIdeal

open Cert.KernelIdeal Cert.KernelIdeal.Gen
open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pointwise

/-- A store in the second head's rows leaves the first head's alone. -/
theorem keep_cons {σ : RefSig} {κ : Kind} {sp : Space} {v : View σ κ sp S2x128x1920 .f32} {f : v.ty.Contents (Elt Ideal)} {o sz : Fin 3 → ℕ} {i : ∀ a, o a + sz a ≤ S2x128x1920.size a}
    {w : (Rect.unit (s := S2x128x1920) o sz i).shape.Idx → EReal} {L : List (View.Piece (Elt Ideal) S2x128x1920 .f32)} {y : S2x128x1920.Idx} {x : EReal} {j s : ℕ} (ho : o = ![j, 64, s])
    (hy : (y 1).val < 64) (h : v.read (Elt Ideal) (v.writes (Elt Ideal) f L) y = x) :
    v.read (Elt Ideal) (v.writes (Elt Ideal) f ((⟨Rect.unit (s := S2x128x1920) o sz i, w⟩ : View.Piece (Elt Ideal) S2x128x1920 .f32) :: L)) y = x := by
  rw [View.read_writes_cons_unit_of_not_mem (Val := Elt Ideal) v f i w L y ho 1 (Or.inl (by simpa using hy))]
  exact h

/-- What the scratch arrays hold when the first head's branch starts. -/
structure In0 {c : Dev nD} {arg7 arg8 : Memref sig .tc .vmem S8x2x64x1920 .fp8e4m3} {arg10 : Memref sig .tc .vmem S1920x128 .fp8e4m3} {arg11 : Memref sig .tc .vmem S2x80x1920 .bf16} (k : ℕ) (f7 : Bf Ideal c arg7) (f8 : Bf Ideal c arg8) (f10 : Bf Ideal c arg10) (f11 : Bf Ideal c arg11)
    (v2 : IVec S64x128 1) (v541 v551 : FVec Ideal S64x128 .bf16) : Prop where
  keep : ∀ (d : Fin 64) (u : Fin 128), (u : ℕ) < 77 → v2 (ix2 d u) = 1#1
  t0 : ∀ (d : Fin 64) (u : Fin 128), (u : ℕ) < 77 → v541 (ix2 d u) = codes arg7.view f7 k 0 0 d (1792 + u)
  t1 : ∀ (d : Fin 64) (u : Fin 128), (u : ℕ) < 77 → v551 (ix2 d u) = codes arg7.view f7 k 0 1 d (1792 + u)
  k0 : GoodK (codes arg7.view f7 k 0) (arg10.view.read (Elt Ideal) f10) 0 1792
  w0 : ∀ j, GoodV (codes arg8.view f8 k 0 j) (arg11.view.read (Elt Ideal) f11) j 0 1792
  wT : GoodV (codes arg8.view f8 k 0 0) (arg11.view.read (Elt Ideal) f11) 0 1792 1869
  o0 : Ones (arg11.view.read (Elt Ideal) f11)

/-- What it leaves. -/
structure Post0 {c : Dev nD} {arg6 arg7 arg8 : Memref sig .tc .vmem S8x2x64x1920 .fp8e4m3} {arg11 : Memref sig .tc .vmem S2x80x1920 .bf16} {arg12 : Memref sig .tc .vmem S2x128x1920 .f32} (k : ℕ) (sp : Bool) (cs vs : Fin 2 → EReal) (f6 : Bf Ideal c arg6) (f7 : Bf Ideal c arg7) (f8 : Bf Ideal c arg8) (g11 : Bf Ideal c arg11) (g12 : Bf Ideal c arg12) : Prop where
  ones : Ones (arg11.view.read (Elt Ideal) g11)
  out : ∀ y : S2x128x1920.Idx, (y 1).val < 64 → (y 2).val < 1869 →
    OutP (outs sp cs vs (codes arg6.view f6 k 0) (codes arg7.view f7 k 0) (codes arg8.view f8 k 0)) 0 y (arg12.view.read (Elt Ideal) g12 y)

/-- What the scratch arrays hold when the second head's branch starts. -/
structure In1 {c : Dev nD} {arg7 arg8 : Memref sig .tc .vmem S8x2x64x1920 .fp8e4m3} {arg10 : Memref sig .tc .vmem S1920x128 .fp8e4m3} {arg11 : Memref sig .tc .vmem S2x80x1920 .bf16} (k : ℕ) (f7 : Bf Ideal c arg7) (f8 : Bf Ideal c arg8) (f10 : Bf Ideal c arg10) (f11 : Bf Ideal c arg11)
    (v2 : IVec S64x128 1) (v1128 : FVec Ideal S128x128 .fp8e4m3) : Prop where
  keep : ∀ (d : Fin 64) (u : Fin 128), (u : ℕ) < 77 → v2 (ix2 d u) = 1#1
  t : ∀ (u : Fin 128) (j : Fin 2) (d : Fin 64), (u : ℕ) < 77 → v1128 (ix2 u ⟨64 * j + d, by omega⟩) = codes arg7.view f7 k 1 j d (1792 + u)
  k0 : GoodK (codes arg7.view f7 k 1) (arg10.view.read (Elt Ideal) f10) 0 1792
  w0 : ∀ j, GoodV (codes arg8.view f8 k 1 j) (arg11.view.read (Elt Ideal) f11) j 0 1792
  wT : ∀ j, GoodV (codes arg8.view f8 k 1 j) (arg11.view.read (Elt Ideal) f11) j 1792 1869
  o0 : Ones (arg11.view.read (Elt Ideal) f11)

/-- What it leaves, with the first two tiles of the epilogue. -/
structure Post1 {c : Dev nD} {arg6 arg7 arg8 : Memref sig .tc .vmem S8x2x64x1920 .fp8e4m3} {arg9 : Memref sig .tc .vmem S1869x8x128 .bf16} {arg11 : Memref sig .tc .vmem S2x80x1920 .bf16} {arg12 : Memref sig .tc .vmem S2x128x1920 .f32} (k : Fin k0_t1_loop.trips) (sp : Bool) (cs vs : Fin 2 → EReal) (f6 : Bf Ideal c arg6) (f7 : Bf Ideal c arg7) (f8 : Bf Ideal c arg8) (f9 g9 : Bf Ideal c arg9)
    (g11 : Bf Ideal c arg11) (f12 g12 : Bf Ideal c arg12) (lo hi : FVec Ideal S128x128 .bf16) : Prop where
  ones : Ones (arg11.view.read (Elt Ideal) g11)
  out : ∀ y : S2x128x1920.Idx, 64 ≤ (y 1).val → (y 2).val < 1869 →
    OutP (outs sp cs vs (codes arg6.view f6 k 1) (codes arg7.view f7 k 1) (codes arg8.view f8 k 1)) 1 y (arg12.view.read (Elt Ideal) g12 y)
  same : ∀ y : S2x128x1920.Idx, (y 1).val < 64 → arg12.view.read (Elt Ideal) g12 y = arg12.view.read (Elt Ideal) f12 y
  tile : ∃ w, (∀ (a : Fin 128) (p : Fin 2) (l : Fin 128), w (ix3 a p l) = cellW (arg12.view.read (Elt Ideal) g12) p l (0 + a)) ∧
    g9 = arg9.view.writes (Elt Ideal) f9 [⟨Rect.unit (s := S1869x8x128) (k0_off69 k) S128x2x128.size (k0_off69_inb k), w⟩]
  lo : ∀ a l : Fin 128, lo (ix2 a l) = cellW (arg12.view.read (Elt Ideal) g12) 0 l (128 + a)
  hi : ∀ a l : Fin 128, hi (ix2 a l) = cellW (arg12.view.read (Elt Ideal) g12) 1 l (128 + a)

/-- The part holding the first head's branches. -/
theorem call209 (c : Dev nD) (i : grid0.Coords) (arg2 : Memref sig .tc .smem S24x20 .f32) (harg2 : arg2.IsWhole) (arg3 : Memref sig .tc .smem S24x20 .f32) (harg3 : arg3.IsWhole)
    (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole)
    (arg12 : Memref sig .tc .vmem S2x128x1920 .f32) (harg12 : arg12.IsWhole)
    (k : Fin k0_t1_loop.trips) (f5 : Bf Ideal c arg5) (f6 : Bf Ideal c arg6) (f7 : Bf Ideal c arg7) (f8 : Bf Ideal c arg8) (f10 : Bf Ideal c arg10) (f11 : Bf Ideal c arg11)
    (f12 : Bf Ideal c arg12) (arg1 : BitVec 32) (v2 : IVec S64x128 1) (v50 : BitVec 1) (v51 : BitVec 32) (v63 : EReal) (v66 : EReal) (v78 : EReal) (v81 : EReal) (v541 : FVec Ideal S64x128 .bf16) (v551 : FVec Ideal S64x128 .bf16) :
    iprop(pt c arg5 f5 ∗ pt c arg6 f6 ∗ pt c arg7 f7 ∗ pt c arg8 f8 ∗ pt c arg10 f10 ∗ pt c arg11 f11 ∗ pt c arg12 f12)
    ⊢ wp frame (wpE (defs₀ (F := Ideal)) 𝒱₀ (c : Thread nD τ) none) Set.univ
        (k0_part209 (F := Ideal) i arg2 harg2 arg3 harg3 arg4 harg4 arg5 harg5 arg6 harg6 arg7 harg7 arg8 harg8 arg9 harg9 arg10 harg10 arg11 harg11 arg12 harg12 arg1 v2 k v50 v51 v63 v66 v78 v81 v541 v551)
        (fun r => iprop(∃ (g10 : Bf Ideal c arg10) (g11 : Bf Ideal c arg11) (g12 : Bf Ideal c arg12),
          ⌜(In0 (arg7 := arg7) (arg8 := arg8) (arg10 := arg10) (arg11 := arg11) k f7 f8 f10 f11 v2 v541 v551 →
            Post0 (arg6 := arg6) (arg7 := arg7) (arg8 := arg8) (arg11 := arg11) (arg12 := arg12) k (decide (v50 = 1#1)) ![v63, v78] ![v66, v81] f6 f7 f8 g11 g12) ∧
            Words (arg5.view.read (Elt Ideal) f5) arg1 r.1 r.2.1 r.2.2.1 r.2.2.2.1 r.2.2.2.2.1 r.2.2.2.2.2.1 r.2.2.2.2.2.2⌝ ∗
          pt c arg5 f5 ∗ pt c arg6 f6 ∗ pt c arg7 f7 ∗ pt c arg8 f8 ∗ pt c arg10 g10 ∗ pt c arg11 g11 ∗ pt c arg12 g12)) := by
  obtain rfl | rfl : v50 = 1#1 ∨ v50 = 0#1 := by
    generalize v50 = b; revert b; decide
  · have hp : In0 (c := c) (arg7 := arg7) (arg8 := arg8) (arg10 := arg10) (arg11 := arg11) k f7 f8 f10 f11 v2 v541 v551 →
        Post0 (c := c) (arg6 := arg6) (arg7 := arg7) (arg8 := arg8) (arg11 := arg11) (arg12 := arg12) k true ![v63, v78] ![v66, v81] f6 f7 f8
          (spat0 (F := Ideal) c i arg2 harg2 arg3 harg3 arg4 harg4 arg5 harg5 arg6 harg6 arg7 harg7 arg8 harg8 arg9 harg9 arg10 harg10 arg11 harg11 arg12 harg12 k f5 f6 f7 f8 f10 f11 arg1 v2 v51 v63 v66 v78 v81 v541 v551).2.2.1
          (arg12.view.writes (Elt Ideal) f12 (spat0 (F := Ideal) c i arg2 harg2 arg3 harg3 arg4 harg4 arg5 harg5 arg6 harg6 arg7 harg7 arg8 harg8 arg9 harg9 arg10 harg10 arg11 harg11 arg12 harg12 k f5 f6 f7 f8 f10 f11 arg1 v2 v51 v63 v66 v78 v81 v541 v551).2.2.2.1) := fun h => by
      have o1 : Ones (arg11.view.read (Elt Ideal) (arg11.view.writes (Elt Ideal) f11 (spat0.sl.H11_1 c arg8 k f8 v2))) := Ones.skip (L := []) h.o0 rfl
      refine ⟨o1, fun y h1 h2 => ?_⟩
      refine spat0_out c i arg2 harg2 arg3 harg3 arg4 harg4 arg5 harg5 arg6 harg6 arg7 harg7 arg8 harg8 arg9 harg9 arg10 harg10 arg11 harg11 arg12 harg12 k f5 f6 f7 f8 f10 f11 arg1 v2 v51 ![v63, v78] ![v66, v81] v541 v551 f12 h.keep ?_ h.k0 h.w0 h.wT ?_ h.o0 o1 y h1 h2
      · exact GoodK.push (L := []) 77 (fun t h1 h2 => absurd h2 (by omega)) rfl (by omega) fun u j d hu => (tileK_read _ _ u j d).trans (by
          match j with
          | 0 => exact h.t0 d u hu
          | 1 => exact (select_keep (h.keep d u hu)).trans (h.t1 d u hu))
      · exact GoodV.push (L := []) 77 (fun t h1 h2 => absurd h2 (by omega)) rfl (by omega) fun z u d hu =>
          (sc_tileV _ _ z d u).trans ((select_keep (h.keep d u hu)).trans (tile_read arg8.view f8 _ _ _ (k0_off16_eq k 1) d u))
    refine ((spat0 (F := Ideal) c i arg2 harg2 arg3 harg3 arg4 harg4 arg5 harg5 arg6 harg6 arg7 harg7 arg8 harg8 arg9 harg9 arg10 harg10 arg11 harg11 arg12 harg12 k f5 f6 f7 f8 f10 f11 arg1 v2 v51 v63 v66 v78 v81 v541 v551).2.2.2.2 f12).trans (wp_mono _ _ _ fun r => ?_)
    iintro ⟨%hr, H5, H6, H7, H8, H10, H11, H12⟩
    have hw : Words (arg5.view.read (Elt Ideal) f5) arg1 r.1 r.2.1 r.2.2.1 r.2.2.2.1 r.2.2.2.2.1 r.2.2.2.2.2.1 r.2.2.2.2.2.2 := by
      subst hr
      have e := fun (n : ℕ) ii hp => congrArg (fun x => Scalar.cmpi .eq x (Scalar.addi (Scalar.muli arg1 2#32) 1#32)) (order_read arg5.view f5 n ii hp)
      exact ⟨rfl, e 0 _ _, e 1 _ _, e 2 _ _, e 3 _ _, e 4 _ _, e 5 _ _⟩
    have hq := And.intro hp hw
    sl_close
  · have hp : In0 (c := c) (arg7 := arg7) (arg8 := arg8) (arg10 := arg10) (arg11 := arg11) k f7 f8 f10 f11 v2 v541 v551 →
        Post0 (c := c) (arg6 := arg6) (arg7 := arg7) (arg8 := arg8) (arg11 := arg11) (arg12 := arg12) k false ![v63, v78] ![v66, v81] f6 f7 f8
          (temp0 (F := Ideal) c i arg2 harg2 arg3 harg3 arg4 harg4 arg5 harg5 arg6 harg6 arg7 harg7 arg8 harg8 arg9 harg9 arg10 harg10 arg11 harg11 arg12 harg12 k f5 f6 f7 f8 f10 f11 arg1 v2 v51 v63 v66 v78 v81 v541 v551).2.2.1
          (arg12.view.writes (Elt Ideal) f12 (temp0 (F := Ideal) c i arg2 harg2 arg3 harg3 arg4 harg4 arg5 harg5 arg6 harg6 arg7 harg7 arg8 harg8 arg9 harg9 arg10 harg10 arg11 harg11 arg12 harg12 k f5 f6 f7 f8 f10 f11 arg1 v2 v51 v63 v66 v78 v81 v541 v551).2.2.2.1) := fun h => by
      have o1 : Ones (arg11.view.read (Elt Ideal) (arg11.view.writes (Elt Ideal) f11 (temp0.sl.H11_1 c arg8 k f8 v2))) := Ones.skip (L := []) h.o0 rfl
      refine ⟨o1, fun y h1 h2 => ?_⟩
      refine temp0_out c i arg2 harg2 arg3 harg3 arg4 harg4 arg5 harg5 arg6 harg6 arg7 harg7 arg8 harg8 arg9 harg9 arg10 harg10 arg11 harg11 arg12 harg12 k f5 f6 f7 f8 f10 f11 arg1 v2 v51 ![v63, v78] ![v66, v81] v541 v551 f12 h.keep ?_ h.k0 h.w0 h.wT ?_ h.o0 o1 y h1 h2
      · exact GoodK.push (L := []) 77 (fun t h1 h2 => absurd h2 (by omega)) rfl (by omega) fun u j d hu => (tileK_read _ _ u j d).trans (by
          match j with
          | 0 => exact h.t0 d u hu
          | 1 => exact (select_keep (h.keep d u hu)).trans (h.t1 d u hu))
      · exact GoodV.push (L := []) 77 (fun t h1 h2 => absurd h2 (by omega)) rfl (by omega) fun z u d hu =>
          (sc_tileV _ _ z d u).trans ((select_keep (h.keep d u hu)).trans (tile_read arg8.view f8 _ _ _ (k0_off16_eq k 1) d u))
    refine ((temp0 (F := Ideal) c i arg2 harg2 arg3 harg3 arg4 harg4 arg5 harg5 arg6 harg6 arg7 harg7 arg8 harg8 arg9 harg9 arg10 harg10 arg11 harg11 arg12 harg12 k f5 f6 f7 f8 f10 f11 arg1 v2 v51 v63 v66 v78 v81 v541 v551).2.2.2.2 f12).trans (wp_mono _ _ _ fun r => ?_)
    iintro ⟨%hr, H5, H6, H7, H8, H10, H11, H12⟩
    have hw : Words (arg5.view.read (Elt Ideal) f5) arg1 r.1 r.2.1 r.2.2.1 r.2.2.2.1 r.2.2.2.2.1 r.2.2.2.2.2.1 r.2.2.2.2.2.2 := by
      subst hr
      have e := fun (n : ℕ) ii hp => congrArg (fun x => Scalar.cmpi .eq x (Scalar.addi (Scalar.muli arg1 2#32) 1#32)) (order_read arg5.view f5 n ii hp)
      exact ⟨rfl, e 0 _ _, e 1 _ _, e 2 _ _, e 3 _ _, e 4 _ _, e 5 _ _⟩
    have hq := And.intro hp hw
    sl_close
/-- The part holding the second head's branches. -/
theorem call226 (c : Dev nD) (i : grid0.Coords) (arg2 : Memref sig .tc .smem S24x20 .f32) (harg2 : arg2.IsWhole) (arg3 : Memref sig .tc .smem S24x20 .f32) (harg3 : arg3.IsWhole)
    (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole)
    (arg12 : Memref sig .tc .vmem S2x128x1920 .f32) (harg12 : arg12.IsWhole)
    (k : Fin k0_t1_loop.trips) (f5 : Bf Ideal c arg5) (f6 : Bf Ideal c arg6) (f7 : Bf Ideal c arg7) (f8 : Bf Ideal c arg8) (f10 : Bf Ideal c arg10) (f11 : Bf Ideal c arg11)
    (f9 : Bf Ideal c arg9) (f12 : Bf Ideal c arg12) (v2 : IVec S64x128 1) (arg13 : BitVec 32) (v609 : BitVec 1) (v610 : BitVec 32) (v622 : EReal) (v625 : EReal) (v637 : EReal) (v640 : EReal) (v1128 : FVec Ideal S128x128 .fp8e4m3) :
    iprop(pt c arg5 f5 ∗ pt c arg6 f6 ∗ pt c arg7 f7 ∗ pt c arg8 f8 ∗ pt c arg9 f9 ∗ pt c arg10 f10 ∗ pt c arg11 f11 ∗ pt c arg12 f12)
    ⊢ wp frame (wpE (defs₀ (F := Ideal)) 𝒱₀ (c : Thread nD τ) none) Set.univ
        (k0_part226 (F := Ideal) i arg2 harg2 arg3 harg3 arg4 harg4 arg5 harg5 arg6 harg6 arg7 harg7 arg8 harg8 arg9 harg9 arg10 harg10 arg11 harg11 arg12 harg12 v2 k arg13 v609 v610 v622 v625 v637 v640 v1128)
        (fun r => iprop(∃ (g9 : Bf Ideal c arg9) (g10 : Bf Ideal c arg10) (g11 : Bf Ideal c arg11) (g12 : Bf Ideal c arg12),
          ⌜In1 (arg7 := arg7) (arg8 := arg8) (arg10 := arg10) (arg11 := arg11) k f7 f8 f10 f11 v2 v1128 →
            Post1 (arg6 := arg6) (arg7 := arg7) (arg8 := arg8) (arg9 := arg9) (arg11 := arg11) (arg12 := arg12) k (decide (v609 = 1#1)) ![v622, v637] ![v625, v640] f6 f7 f8 f9 g9 g11 f12 g12 r.1 r.2.1⌝ ∗
          pt c arg5 f5 ∗ pt c arg6 f6 ∗ pt c arg7 f7 ∗ pt c arg8 f8 ∗ pt c arg9 g9 ∗ pt c arg10 g10 ∗ pt c arg11 g11 ∗ pt c arg12 g12)) := by
  obtain rfl | rfl : v609 = 1#1 ∨ v609 = 0#1 := by
    generalize v609 = b; revert b; decide
  · have hp : In1 (c := c) (arg7 := arg7) (arg8 := arg8) (arg10 := arg10) (arg11 := arg11) k f7 f8 f10 f11 v2 v1128 →
        Post1 (c := c) (arg6 := arg6) (arg7 := arg7) (arg8 := arg8) (arg9 := arg9) (arg11 := arg11) (arg12 := arg12) k true ![v622, v637] ![v625, v640] f6 f7 f8 f9
          (spat1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).2.1 (spat1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).2.2.2.1 f12
          (arg12.view.writes (Elt Ideal) f12 (spat1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).2.2.2.2.1) (spat1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).1.1 (spat1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).1.2.1 := fun h => by
      let tl (j : ℕ) (ii : ∀ a, ![j, 0, 0] a + S1x128x128.size a ≤ S2x128x1920.size a) : FVec Ideal S1x128x128 .f32 :=
        arg12.view.readAt (Elt Ideal) (Rect.unit (s := S2x128x1920) ![j, 0, 0] S1x128x128.size ii).toLoadRect (arg12.view.writes (Elt Ideal) f12 (spat1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).2.2.2.2.1)
      refine ⟨h.o0, fun y h1 h2 => ?_, fun y h1 => ?_, ⟨woven (turn (tl 0 inb_S2x128x1920_S1x128x128_0_0_0)) (turn (tl 1 inb_S2x128x1920_S1x128x128_1_0_0)), fun a p l => ?_, rfl⟩, fun a l => ?_, fun a l => ?_⟩
      · refine spat1_out c i arg2 harg2 arg3 harg3 arg4 harg4 arg5 harg5 arg6 harg6 arg7 harg7 arg8 harg8 arg9 harg9 arg10 harg10 arg11 harg11 arg12 harg12 k f5 f6 f7 f8 f10 f11 f9 v2 arg13 v610 ![v622, v637] ![v625, v640] v1128 f12 h.keep ?_ h.k0 h.w0 h.wT h.o0 y h1 h2
        exact GoodK.push (L := []) 77 (fun t h1 h2 => absurd h2 (by omega)) rfl (by omega) fun u j d hu => h.t u j d hu
      · iterate 16 refine keep_cons rfl h1 ?_
        rfl
      · refine (woven_read (turn _) (turn _) a p l).trans ?_
        match p with
        | 0 => exact (turn_read _ a l).trans (readAtW arg12.view _ _ rfl 0 l a)
        | 1 => exact (turn_read _ a l).trans (readAtW arg12.view _ _ rfl 0 l a)
      · exact (turn_read _ a l).trans (readAtW arg12.view _ _ rfl 0 l a)
      · exact (turn_read _ a l).trans (readAtW arg12.view _ _ rfl 0 l a)
    refine ((spat1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).2.2.2.2.2).trans (wp_mono _ _ _ fun r => ?_)
    iintro ⟨%hr, H5, H6, H7, H8, H9, H10, H11, H12⟩
    subst hr
    sl_close
  · have hp : In1 (c := c) (arg7 := arg7) (arg8 := arg8) (arg10 := arg10) (arg11 := arg11) k f7 f8 f10 f11 v2 v1128 →
        Post1 (c := c) (arg6 := arg6) (arg7 := arg7) (arg8 := arg8) (arg9 := arg9) (arg11 := arg11) (arg12 := arg12) k false ![v622, v637] ![v625, v640] f6 f7 f8 f9
          (temp1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).2.1 (temp1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).2.2.2.1 f12
          (arg12.view.writes (Elt Ideal) f12 (temp1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).2.2.2.2.1) (temp1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).1.1 (temp1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).1.2.1 := fun h => by
      let tl (j : ℕ) (ii : ∀ a, ![j, 0, 0] a + S1x128x128.size a ≤ S2x128x1920.size a) : FVec Ideal S1x128x128 .f32 :=
        arg12.view.readAt (Elt Ideal) (Rect.unit (s := S2x128x1920) ![j, 0, 0] S1x128x128.size ii).toLoadRect (arg12.view.writes (Elt Ideal) f12 (temp1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).2.2.2.2.1)
      refine ⟨h.o0, fun y h1 h2 => ?_, fun y h1 => ?_, ⟨woven (turn (tl 0 inb_S2x128x1920_S1x128x128_0_0_0)) (turn (tl 1 inb_S2x128x1920_S1x128x128_1_0_0)), fun a p l => ?_, rfl⟩, fun a l => ?_, fun a l => ?_⟩
      · refine temp1_out c i arg2 harg2 arg3 harg3 arg4 harg4 arg5 harg5 arg6 harg6 arg7 harg7 arg8 harg8 arg9 harg9 arg10 harg10 arg11 harg11 arg12 harg12 k f5 f6 f7 f8 f10 f11 f9 v2 arg13 v610 ![v622, v637] ![v625, v640] v1128 f12 h.keep ?_ h.k0 h.w0 h.wT h.o0 y h1 h2
        exact GoodK.push (L := []) 77 (fun t h1 h2 => absurd h2 (by omega)) rfl (by omega) fun u j d hu => h.t u j d hu
      · iterate 16 refine keep_cons rfl h1 ?_
        rfl
      · refine (woven_read (turn _) (turn _) a p l).trans ?_
        match p with
        | 0 => exact (turn_read _ a l).trans (readAtW arg12.view _ _ rfl 0 l a)
        | 1 => exact (turn_read _ a l).trans (readAtW arg12.view _ _ rfl 0 l a)
      · exact (turn_read _ a l).trans (readAtW arg12.view _ _ rfl 0 l a)
      · exact (turn_read _ a l).trans (readAtW arg12.view _ _ rfl 0 l a)
    refine ((temp1 (F := Ideal) c i arg2 harg2 arg3 harg3 arg4 harg4 arg5 harg5 arg6 harg6 arg7 harg7 arg8 harg8 arg9 harg9 arg10 harg10 arg11 harg11 arg12 harg12 k f5 f6 f7 f8 f10 f11 f9 f12 v2 arg13 v610 v622 v625 v637 v640 v1128).2.2.2.2.2).trans (wp_mono _ _ _ fun r => ?_)
    iintro ⟨%hr, H5, H6, H7, H8, H9, H10, H11, H12⟩
    subst hr
    sl_close

end Cert.Proof.KernelIdeal
-- ==== Proof.KI.TripLemmas.lean ====
/-
  What one trip of the loop over the pairs of batches has to leave, and how its tiles give it.
-/
module

public import proofs.«01_k».proof.Proof.KI.Calls

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pointwise

open Classical in
/-- Whether the head numbered by the word is spatial. -/
def spat (O : S20.Idx → BitVec 32) (w : BitVec 32) : Bool := decide (Spatial O w)

theorem spat_eq {O : S20.Idx → BitVec 32} {w : BitVec 32} {b : BitVec 1} (h : b = 1#1 ↔ Spatial O w) : decide (b = 1#1) = spat O w :=
  decide_eq_decide.mpr h

/-- The number of a head of the pair. -/
def word (arg1 : BitVec 32) (h : ℕ) : BitVec 32 := Scalar.addi (Scalar.muli arg1 2#32) (BitVec.ofNat 32 h)

/-- The values of one grid point's block: batch group `bg`, head pair `hp`; a lane holds a head of the pair and a coordinate. -/
def heads (bg hp : ℕ) (arg1 : BitVec 32) (X2 X3 X4 : S24x20.Idx → EReal) (X5 : S20.Idx → BitVec 32) (X6 X7 X8 : S8x2x64x1920.Idx → EReal) (b t : ℕ) (l : Fin 128) : EReal :=
  att (score (spat X5 (word arg1 (l / 64))) (factor (at24 X2 (8 * bg + b) (2 * hp + l / 64)) (at24 X3 (8 * bg + b) (2 * hp + l / 64))) (code X6 b (l / 64)) (code X7 b (l / 64)) t)
    (code X8 b (l / 64) ⟨l % 64, by omega⟩) (at24 X4 (8 * bg + b) (2 * hp + l / 64))

/-- A cell of the output scratch, from what the head's branch left. -/
theorem cell_of_out {σ : RefSig} {κ : Kind} {s6 s7 s8 : Space} {v6 : View σ κ s6 S8x2x64x1920 .fp8e4m3} {v7 : View σ κ s7 S8x2x64x1920 .fp8e4m3} {v8 : View σ κ s8 S8x2x64x1920 .fp8e4m3}
    {f6 : v6.ty.Contents (Elt Ideal)} {f7 : v7.ty.Contents (Elt Ideal)} {f8 : v8.ty.Contents (Elt Ideal)} {k h bg hp : ℕ} {sp : Bool} {cs vs : Fin 2 → EReal} {arg1 : BitVec 32}
    {X2 X3 X4 : S24x20.Idx → EReal} {X5 : S20.Idx → BitVec 32} {X : S2x128x1920.Idx → EReal} {p : Fin 2} {l : Fin 128} {t : ℕ} (ht : t < 1869) (hl : (l : ℕ) / 64 = h)
    (hsp : sp = spat X5 (word arg1 h))
    (hcs : ∀ p : Fin 2, cs p = factor (at24 X2 (8 * bg + 2 * k + p) (2 * hp + h)) (at24 X3 (8 * bg + 2 * k + p) (2 * hp + h)))
    (hvs : ∀ p : Fin 2, vs p = at24 X4 (8 * bg + 2 * k + p) (2 * hp + h))
    (hX : OutP (outs sp cs vs (codes v6 f6 k h) (codes v7 f7 k h) (codes v8 f8 k h)) h (ix3 p l (⟨t, by omega⟩ : Fin 1920)) (X (ix3 p l (⟨t, by omega⟩ : Fin 1920)))) :
    cellW X p l t = heads bg hp arg1 X2 X3 X4 X5 (v6.read (Elt Ideal) f6) (v7.read (Elt Ideal) f7) (v8.read (Elt Ideal) f8) (2 * k + p) t l := by
  rw [cellW, dif_pos ⟨by omega, by omega, by omega⟩]
  refine (hX ⟨(l : ℕ) % 64, by omega⟩ ?_ ht).trans ?_
  · show (l : ℕ) = 64 * h + l % 64
    omega
  · subst hsp hl
    have e : 8 * bg + 2 * k + (p : ℕ) = 8 * bg + (2 * k + p) := by omega
    show att (score _ (cs p) _ _ _) _ (vs p) = _
    rw [hcs, hvs, e]
    rfl

section
variable {σ : RefSig} {κ : Kind} {sp : Space}

/-- A tile of keys, the two batches loaded and widened. -/
theorem tileK_load (v : View σ κ sp S8x2x64x1920 .fp8e4m3) (f : v.ty.Contents (Elt Ideal)) {o0 o1 : Fin 4 → ℕ} {k h s : ℕ}
    (i0 : ∀ a, o0 a + S1x1x64x128.size a ≤ S8x2x64x1920.size a) (i1 : ∀ a, o1 a + S1x1x64x128.size a ≤ S8x2x64x1920.size a)
    (hc0 hc1 : Shape.ShapeCasts S1x1x64x128 S64x128) (hb0 hb1) (h0 : o0 = ![2 * k + 0, h, 0, s]) (h1 : o1 = ![2 * k + 1, h, 0, s]) (u : Fin 128) (j : Fin 2) (d : Fin 64) :
    tileK (extf (F := Ideal) .bf16 (ldC 128 v f o0 i0 hc0) hb0) (extf (F := Ideal) .bf16 (ldC 128 v f o1 i1 hc1) hb1) (ix2 u ⟨64 * j + d, by omega⟩) = codes v f k h j d (s + u) := by
  refine (tileK_read _ _ u j d).trans ?_
  match j with
  | 0 => exact tile_read v f i0 hc0 hb0 h0 d u
  | 1 => exact tile_read v f i1 hc1 hb1 h1 d u

/-- A tile of values. -/
theorem tileV_load (v : View σ κ sp S8x2x64x1920 .fp8e4m3) (f : v.ty.Contents (Elt Ideal)) {o : Fin 4 → ℕ} {b h s : ℕ}
    (i : ∀ a, o a + S1x1x64x128.size a ≤ S8x2x64x1920.size a) (hc : Shape.ShapeCasts S1x1x64x128 S64x128) (hb) (hv : Shape.ShapeCasts S64x128 S1x64x128)
    (ho : o = ![b, h, 0, s]) (z : Fin 1) (u : Fin 128) (d : Fin 64) :
    shapeCast S1x64x128 (extf (F := Ideal) .bf16 (ldC 128 v f o i hc) hb) hv (ix3 z d u) = code (v.read (Elt Ideal) f) b h d (s + u) :=
  (sc_tileV _ _ z d u).trans (tile_read v f i hc hb ho d u)

/-- A tile of the result block. -/
theorem tileO_load {R : ℕ → ℕ → Fin 128 → EReal} {k s : ℕ} (v : View σ κ sp S2x128x1920 .f32) (f : v.ty.Contents (Elt Ideal))
    (hR : ∀ (p : Fin 2) (l : Fin 128) (t : ℕ), t < 1869 → cellW (v.read (Elt Ideal) f) p l t = R (2 * k + p) t l) (hs : s + 128 ≤ 1869)
    (i0 : ∀ a, ![0, 0, s] a + S1x128x128.size a ≤ S2x128x1920.size a) (i1 : ∀ a, ![1, 0, s] a + S1x128x128.size a ≤ S2x128x1920.size a) (a : Fin 128) (p : Fin 2) (l : Fin 128) :
    woven (turn (v.readAt (Elt Ideal) (Rect.unit (s := S2x128x1920) ![0, 0, s] S1x128x128.size i0).toLoadRect f))
      (turn (v.readAt (Elt Ideal) (Rect.unit (s := S2x128x1920) ![1, 0, s] S1x128x128.size i1).toLoadRect f)) (ix3 a p l) = R (2 * k + p) (s + a) l := by
  refine (woven_read _ _ a p l).trans (Eq.trans ?_ (hR p l (s + a) (by omega)))
  match p with
  | 0 => exact (turn_read _ a l).trans (readAtW v f i0 rfl 0 l a)
  | 1 => exact (turn_read _ a l).trans (readAtW v f i1 rfl 0 l a)

/-- The last tile holds the seventy-seven tokens that are left. -/
theorem pay5_read (lo hi : Vec Ideal S1x128x128 .f32) (a : Fin 77) (p : Fin 2) (l : Fin 128) :
    k0_pay5 (F := Ideal) lo hi (ix3 a p l) = (if p = 0 then lo else hi) (ix3 0 l (⟨a, by omega⟩ : Fin 128)) := by
  match p with
  | 0 => pointwise [k0_pay5]
  | 1 => pointwise [k0_pay5]

theorem tileO_last {R : ℕ → ℕ → Fin 128 → EReal} {k : ℕ} (v : View σ κ sp S2x128x1920 .f32) (f : v.ty.Contents (Elt Ideal))
    (hR : ∀ (p : Fin 2) (l : Fin 128) (t : ℕ), t < 1869 → cellW (v.read (Elt Ideal) f) p l t = R (2 * k + p) t l)
    (i0 : ∀ a, ![0, 0, 1792] a + S1x128x128.size a ≤ S2x128x1920.size a) (i1 : ∀ a, ![1, 0, 1792] a + S1x128x128.size a ≤ S2x128x1920.size a) (a : Fin 77) (p : Fin 2) (l : Fin 128) :
    k0_pay5 (F := Ideal) (v.readAt (Elt Ideal) (Rect.unit (s := S2x128x1920) ![0, 0, 1792] S1x128x128.size i0).toLoadRect f)
      (v.readAt (Elt Ideal) (Rect.unit (s := S2x128x1920) ![1, 0, 1792] S1x128x128.size i1).toLoadRect f) (ix3 a p l) = R (2 * k + p) (1792 + a) l := by
  refine (pay5_read _ _ a p l).trans (Eq.trans ?_ (hR p l (1792 + a) (by omega)))
  match p with
  | 0 => exact readAtW v f i0 rfl 0 l (⟨a, by omega⟩ : Fin 128)
  | 1 => exact readAtW v f i1 rfl 0 l (⟨a, by omega⟩ : Fin 128)

end

theorem In0.of {c : Dev nD} {arg7 arg8 : Memref sig .tc .vmem S8x2x64x1920 .fp8e4m3} {arg10 : Memref sig .tc .vmem S1920x128 .fp8e4m3} {arg11 : Memref sig .tc .vmem S2x80x1920 .bf16}
    {k : ℕ} {f7 : Bf Ideal c arg7} {f8 : Bf Ideal c arg8} {f10 : Bf Ideal c arg10} {f11 : Bf Ideal c arg11} {v2 : IVec S64x128 1} {v541 v551 : FVec Ideal S64x128 .bf16}
    (keep : ∀ (d : Fin 64) (u : Fin 128), (u : ℕ) < 77 → v2 (ix2 d u) = 1#1)
    (t0 : ∀ (d : Fin 64) (u : Fin 128), (u : ℕ) < 77 → v541 (ix2 d u) = codes arg7.view f7 k 0 0 d (1792 + u))
    (t1 : ∀ (d : Fin 64) (u : Fin 128), (u : ℕ) < 77 → v551 (ix2 d u) = codes arg7.view f7 k 0 1 d (1792 + u))
    (hk : GoodK (codes arg7.view f7 k 0) (arg10.view.read (Elt Ideal) f10) 0 (1664 + 128))
    (V0 : GoodV (codes arg8.view f8 k 0 0) (arg11.view.read (Elt Ideal) f11) 0 0 (1792 + 77))
    (V1 : GoodV (codes arg8.view f8 k 0 1) (arg11.view.read (Elt Ideal) f11) 1 0 (1664 + 128))
    (o0 : Ones (arg11.view.read (Elt Ideal) f11)) :
    In0 (arg7 := arg7) (arg8 := arg8) (arg10 := arg10) (arg11 := arg11) k f7 f8 f10 f11 v2 v541 v551 :=
  ⟨keep, t0, t1, hk, fun j => match j with
    | 0 => fun t a b => V0 t a (by omega)
    | 1 => V1, fun t a b => V0 t (by omega) b, o0⟩

theorem In1.of {c : Dev nD} {arg7 arg8 : Memref sig .tc .vmem S8x2x64x1920 .fp8e4m3} {arg10 : Memref sig .tc .vmem S1920x128 .fp8e4m3} {arg11 : Memref sig .tc .vmem S2x80x1920 .bf16}
    {k : ℕ} {f7 : Bf Ideal c arg7} {f8 : Bf Ideal c arg8} {f10 : Bf Ideal c arg10} {f11 : Bf Ideal c arg11} {v2 : IVec S64x128 1} {v1128 : FVec Ideal S128x128 .fp8e4m3}
    (keep : ∀ (d : Fin 64) (u : Fin 128), (u : ℕ) < 77 → v2 (ix2 d u) = 1#1)
    (t : ∀ (u : Fin 128) (j : Fin 2) (d : Fin 64), (u : ℕ) < 77 → v1128 (ix2 u ⟨64 * j + d, by omega⟩) = codes arg7.view f7 k 1 j d (1792 + u))
    (hk : GoodK (codes arg7.view f7 k 1) (arg10.view.read (Elt Ideal) f10) 0 (1664 + 128))
    (V0 : GoodV (codes arg8.view f8 k 1 0) (arg11.view.read (Elt Ideal) f11) 0 0 (1792 + 77))
    (V1 : GoodV (codes arg8.view f8 k 1 1) (arg11.view.read (Elt Ideal) f11) 1 0 (1792 + 77))
    (o0 : Ones (arg11.view.read (Elt Ideal) f11)) :
    In1 (arg7 := arg7) (arg8 := arg8) (arg10 := arg10) (arg11 := arg11) k f7 f8 f10 f11 v2 v1128 :=
  ⟨keep, t, hk, fun j => match j with
    | 0 => fun t a b => V0 t a (by omega)
    | 1 => fun t a b => V1 t a (by omega), fun j => match j with
    | 0 => fun t a b => V0 t (by omega) b
    | 1 => fun t a b => V1 t (by omega) b, o0⟩

theorem cmpi_iff' {a b w w' : BitVec 32} (h : a = b) (hw : w = w') : Scalar.cmpi .eq a w = 1#1 ↔ b = w' := hw ▸ cmpi_iff h

theorem bit_iff {x w w' : BitVec 32} {a : BitVec 1} (h : a = Scalar.cmpi .eq x w) (hw : w = w') : a = 1#1 ↔ x = w' := by
  subst h; exact cmpi_iff' rfl hw

theorem factor_raw (a b : EReal) : a * b * Ideal.ofBits .f32 0x3E000000#32 * Named.named (F := Ideal) Cert.KernelIdeal.κ (φ := .f32) "log2e" 0x3FB8AA3B#32 = factor a b := by
  rw [IdealRules.named_const.ideal_named_scalar _ _ _ _ rfl]
  rfl

end Cert.Proof.KernelIdeal
-- ==== Proof.KI.Trip.lean ====
/-
  One trip of the loop over the pairs of batches.
-/
module

public import proofs.«01_k».proof.Proof.KI.TripLemmas

@[expose] public section

set_option maxRecDepth 16384
set_option maxHeartbeats 4000000

noncomputable section

namespace Cert.Proof.KernelIdeal

open Cert.KernelIdeal Cert.KernelIdeal.Gen
open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pointwise

/-- The contents of the result block, given a name. -/
theorem own_name (c : Dev nD) (M : Memref sig .tc .vmem S1869x8x128 .bf16) (g : Bf Ideal c M) :
    pt (F := Ideal) c M g ⊢ iprop(∃ g' : Bf Ideal c M, ⌜g' = g⌝ ∗ pt c M g') := by
  iintro H
  have h : g = g := rfl
  sl_close

/-- One trip: the pair's values stored in the result block, the row of ones kept. -/
theorem trip (c : Dev nD) (i : grid0.Coords) (arg2 : Memref sig .tc .smem S24x20 .f32) (harg2 : arg2.IsWhole) (arg3 : Memref sig .tc .smem S24x20 .f32) (harg3 : arg3.IsWhole)
    (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole)
    (arg12 : Memref sig .tc .vmem S2x128x1920 .f32) (harg12 : arg12.IsWhole)

    (k : Fin k0_t1_loop.trips) (f2 : Bf Ideal c arg2) (f3 : Bf Ideal c arg3) (f4 : Bf Ideal c arg4) (f5 : Bf Ideal c arg5) (f6 : Bf Ideal c arg6) (f7 : Bf Ideal c arg7) (f8 : Bf Ideal c arg8)
    (f9 : Bf Ideal c arg9) (f10 : Bf Ideal c arg10) (f11 : Bf Ideal c arg11) (f12 : Bf Ideal c arg12) (R : ℕ → ℕ → Fin 128 → EReal) (arg0 arg1 : BitVec 32)
    (hR : R = heads (i 0).val (i 1).val arg1 (arg2.view.read (Elt Ideal) f2) (arg3.view.read (Elt Ideal) f3) (arg4.view.read (Elt Ideal) f4) (arg5.view.read (Elt Ideal) f5)
      (arg6.view.read (Elt Ideal) f6) (arg7.view.read (Elt Ideal) f7) (arg8.view.read (Elt Ideal) f8))
    (h9 : GoodO R k 0 (arg9.view.read (Elt Ideal) f9)) (h11 : Ones (arg11.view.read (Elt Ideal) f11)) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12)
    ⊢ wp frame (wpE (defs₀ (F := Ideal)) 𝒱₀ (c : Thread nD τ) none) Set.univ
        (k0_t1_body (F := Ideal) i arg2 harg2 arg3 harg3 arg4 harg4 arg5 harg5 arg6 harg6 arg7 harg7 arg8 harg8 arg9 harg9 arg10 harg10 arg11 harg11 arg12 harg12 arg0 arg1 k ())
        (fun _ => iprop(∃ (g9 : Bf Ideal c arg9) (g10 : Bf Ideal c arg10) (g11 : Bf Ideal c arg11) (g12 : Bf Ideal c arg12),
          ⌜GoodO R (k + 1) 0 (arg9.view.read (Elt Ideal) g9) ∧ Ones (arg11.view.read (Elt Ideal) g11)⌝ ∗
          pt c arg2 f2 ∗ pt c arg3 f3 ∗ pt c arg4 f4 ∗ pt c arg5 f5 ∗ pt c arg6 f6 ∗ pt c arg7 f7 ∗ pt c arg8 f8 ∗ pt c arg9 g9 ∗ pt c arg10 g10 ∗ pt c arg11 g11 ∗ pt c arg12 g12)) := by
  have h209 := fun f5 f6 f7 f8 f10 f11 f12 => call209 c i arg2 harg2 arg3 harg3 arg4 harg4 arg5 harg5 arg6 harg6 arg7 harg7 arg8 harg8 arg9 harg9 arg10 harg10 arg11 harg11 arg12 harg12 k f5 f6 f7 f8 f10 f11 f12
  have h226 := fun f5 f6 f7 f8 f10 f11 f9 f12 => call226 c i arg2 harg2 arg3 harg3 arg4 harg4 arg5 harg5 arg6 harg6 arg7 harg7 arg8 harg8 arg9 harg9 arg10 harg10 arg11 harg11 arg12 harg12 k f5 f6 f7 f8 f10 f11 f9 f12
  iintro ⟨H2, H3, H4, H5, H6, H7, H8, H9, H10, H11, H12⟩
  unfold k0_t1_body
  sl_exec_parts
  sl_step
  obtain ⟨hk0_part209_0, W⟩ := hk0_part209_0
  have P0 := hk0_part209_0 (by
    refine In0.of keep_pay1 (fun d u hu => (select_keep (keep_pay1 d u hu)).trans (tile_read arg7.view f7 _ _ _ (k0_off16_eq k 0) d u))
      (fun d u _ => tile_read arg7.view f7 _ _ _ (k0_off16_eq k 1) d u) ?_ ?_ ?_ ?_
    · skip
      refine GoodK.push 128 ?_ rfl (le_refl _) (fun u j d _ => tileK_load arg7.view f7 _ _ _ _ _ _ (k0_off15_eq k 0) (k0_off15_eq k 1) u j d)
      refine GoodK.push 128 ?_ rfl (le_refl _) (fun u j d _ => tileK_load arg7.view f7 _ _ _ _ _ _ (k0_off14_eq k 0) (k0_off14_eq k 1) u j d)
      refine GoodK.push 128 ?_ rfl (le_refl _) (fun u j d _ => tileK_load arg7.view f7 _ _ _ _ _ _ (k0_off13_eq k 0) (k0_off13_eq k 1) u j d)
      refine GoodK.push 128 ?_ rfl (le_refl _) (fun u j d _ => tileK_load arg7.view f7 _ _ _ _ _ _ (k0_off12_eq k 0) (k0_off12_eq k 1) u j d)
      refine GoodK.push 128 ?_ rfl (le_refl _) (fun u j d _ => tileK_load arg7.view f7 _ _ _ _ _ _ (k0_off11_eq k 0) (k0_off11_eq k 1) u j d)
      refine GoodK.push 128 ?_ rfl (le_refl _) (fun u j d _ => tileK_load arg7.view f7 _ _ _ _ _ _ (k0_off10_eq k 0) (k0_off10_eq k 1) u j d)
      refine GoodK.push 128 ?_ rfl (le_refl _) (fun u j d _ => tileK_load arg7.view f7 _ _ _ _ _ _ (k0_off9_eq k 0) (k0_off9_eq k 1) u j d)
      refine GoodK.push 128 ?_ rfl (le_refl _) (fun u j d _ => tileK_load arg7.view f7 _ _ _ _ _ _ (k0_off8_eq k 0) (k0_off8_eq k 1) u j d)
      refine GoodK.push 128 ?_ rfl (le_refl _) (fun u j d _ => tileK_load arg7.view f7 _ _ _ _ _ _ (k0_off7_eq k 0) (k0_off7_eq k 1) u j d)
      refine GoodK.push 128 ?_ rfl (le_refl _) (fun u j d _ => tileK_load arg7.view f7 _ _ _ _ _ _ (k0_off6_eq k 0) (k0_off6_eq k 1) u j d)
      refine GoodK.push 128 ?_ rfl (le_refl _) (fun u j d _ => tileK_load arg7.view f7 _ _ _ _ _ _ (k0_off5_eq k 0) (k0_off5_eq k 1) u j d)
      refine GoodK.push 128 ?_ rfl (le_refl _) (fun u j d _ => tileK_load arg7.view f7 _ _ _ _ _ _ (k0_off4_eq k 0) (k0_off4_eq k 1) u j d)
      refine GoodK.push 128 ?_ rfl (le_refl _) (fun u j d _ => tileK_load arg7.view f7 _ _ _ _ _ _ (k0_off3_eq k 0) (k0_off3_eq k 1) u j d)
      refine GoodK.push 128 ?_ rfl (le_refl _) (fun u j d _ => tileK_load arg7.view f7 _ _ _ _ _ _ (k0_off2_eq k 0) (k0_off2_eq k 1) u j d)
      exact fun t _ h => absurd h (Nat.not_lt_zero t)
    · skip
      refine GoodV.push 77 ?_ rfl (by omega) (fun z u d hu => (sc_tileV _ _ z d u).trans ((select_keep (keep_pay1 d u hu)).trans (tile_read arg8.view f8 _ _ _ (k0_off16_eq k 0) d u)))
      refine GoodV.skip ?_ (by omega) rfl (by decide)
      refine GoodV.push 128 ?_ rfl (le_refl _) (fun z u d _ => tileV_load arg8.view f8 _ _ _ _ (k0_off15_eq k 0) z u d)
      refine GoodV.skip ?_ (by omega) rfl (by decide)
      refine GoodV.push 128 ?_ rfl (le_refl _) (fun z u d _ => tileV_load arg8.view f8 _ _ _ _ (k0_off14_eq k 0) z u d)
      refine GoodV.skip ?_ (by omega) rfl (by decide)
      refine GoodV.push 128 ?_ rfl (le_refl _) (fun z u d _ => tileV_load arg8.view f8 _ _ _ _ (k0_off13_eq k 0) z u d)
      refine GoodV.skip ?_ (by omega) rfl (by decide)
      refine GoodV.push 128 ?_ rfl (le_refl _) (fun z u d _ => tileV_load arg8.view f8 _ _ _ _ (k0_off12_eq k 0) z u d)
      refine GoodV.skip ?_ (by omega) rfl (by decide)
      refine GoodV.push 128 ?_ rfl (le_refl _) (fun z u d _ => tileV_load arg8.view f8 _ _ _ _ (k0_off11_eq k 0) z u d)
      refine GoodV.skip ?_ (by omega) rfl (by decide)
      refine GoodV.push 128 ?_ rfl (le_refl _) (fun z u d _ => tileV_load arg8.view f8 _ _ _ _ (k0_off10_eq k 0) z u d)
      refine GoodV.skip ?_ (by omega) rfl (by decide)
      refine GoodV.push 128 ?_ rfl (le_refl _) (fun z u d _ => tileV_load arg8.view f8 _ _ _ _ (k0_off9_eq k 0) z u d)
      refine GoodV.skip ?_ (by omega) rfl (by decide)
      refine GoodV.push 128 ?_ rfl (le_refl _) (fun z u d _ => tileV_load arg8.view f8 _ _ _ _ (k0_off8_eq k 0) z u d)
      refine GoodV.skip ?_ (by omega) rfl (by decide)
      refine GoodV.push 128 ?_ rfl (le_refl _) (fun z u d _ => tileV_load arg8.view f8 _ _ _ _ (k0_off7_eq k 0) z u d)
      refine GoodV.skip ?_ (by omega) rfl (by decide)
      refine GoodV.push 128 ?_ rfl (le_refl _) (fun z u d _ => tileV_load arg8.view f8 _ _ _ _ (k0_off6_eq k 0) z u d)
      refine GoodV.skip ?_ (by omega) rfl (by decide)
      refine GoodV.push 128 ?_ rfl (le_refl _) (fun z u d _ => tileV_load arg8.view f8 _ _ _ _ (k0_off5_eq k 0) z u d)
      refine GoodV.skip ?_ (by omega) rfl (by decide)
      refine GoodV.push 128 ?_ rfl (le_refl _) (fun z u d _ => tileV_load arg8.view f8 _ _ _ _ (k0_off4_eq k 0) z u d)
      refine GoodV.skip ?_ (by omega) rfl (by decide)
      refine GoodV.push 128 ?_ rfl (le_refl _) (fun z u d _ => tileV_load arg8.view f8 _ _ _ _ (k0_off3_eq k 0) z u d)
      refine GoodV.skip ?_ (by omega) rfl (by decide)
      refine GoodV.push 128 ?_ rfl (le_refl _) (fun z u d _ => tileV_load arg8.view f8 _ _ _ _ (k0_off2_eq k 0) z u d)
      exact fun t _ h => absurd h (Nat.not_lt_zero t)
    · skip
      refine GoodV.skip ?_ (by omega) rfl (by decide)
      refine GoodV.push 128 ?_ rfl (le_refl _) (fun z u d _ => tileV_load arg8.view f8 _ _ _ _ (k0_off15_eq k 1) z u d)
      refine GoodV.skip ?_ (by omega) rfl (by decide)
      refine GoodV.push 128 ?_ rfl (le_refl _) (fun z u d _ => tileV_load arg8.view f8 _ _ _ _ (k0_off14_eq k 1) z u d)
      refine GoodV.skip ?_ (by omega) rfl (by decide)
      refine GoodV.push 128 ?_ rfl (le_refl _) (fun z u d _ => tileV_load arg8.view f8 _ _ _ _ (k0_off13_eq k 1) z u d)
      refine GoodV.skip ?_ (by omega) rfl (by decide)
      refine GoodV.push 128 ?_ rfl (le_refl _) (fun z u d _ => tileV_load arg8.view f8 _ _ _ _ (k0_off12_eq k 1) z u d)
      refine GoodV.skip ?_ (by omega) rfl (by decide)
      refine GoodV.push 128 ?_ rfl (le_refl _) (fun z u d _ => tileV_load arg8.view f8 _ _ _ _ (k0_off11_eq k 1) z u d)
      refine GoodV.skip ?_ (by omega) rfl (by decide)
      refine GoodV.push 128 ?_ rfl (le_refl _) (fun z u d _ => tileV_load arg8.view f8 _ _ _ _ (k0_off10_eq k 1) z u d)
      refine GoodV.skip ?_ (by omega) rfl (by decide)
      refine GoodV.push 128 ?_ rfl (le_refl _) (fun z u d _ => tileV_load arg8.view f8 _ _ _ _ (k0_off9_eq k 1) z u d)
      refine GoodV.skip ?_ (by omega) rfl (by decide)
      refine GoodV.push 128 ?_ rfl (le_refl _) (fun z u d _ => tileV_load arg8.view f8 _ _ _ _ (k0_off8_eq k 1) z u d)
      refine GoodV.skip ?_ (by omega) rfl (by decide)
      refine GoodV.push 128 ?_ rfl (le_refl _) (fun z u d _ => tileV_load arg8.view f8 _ _ _ _ (k0_off7_eq k 1) z u d)
      refine GoodV.skip ?_ (by omega) rfl (by decide)
      refine GoodV.push 128 ?_ rfl (le_refl _) (fun z u d _ => tileV_load arg8.view f8 _ _ _ _ (k0_off6_eq k 1) z u d)
      refine GoodV.skip ?_ (by omega) rfl (by decide)
      refine GoodV.push 128 ?_ rfl (le_refl _) (fun z u d _ => tileV_load arg8.view f8 _ _ _ _ (k0_off5_eq k 1) z u d)
      refine GoodV.skip ?_ (by omega) rfl (by decide)
      refine GoodV.push 128 ?_ rfl (le_refl _) (fun z u d _ => tileV_load arg8.view f8 _ _ _ _ (k0_off4_eq k 1) z u d)
      refine GoodV.skip ?_ (by omega) rfl (by decide)
      refine GoodV.push 128 ?_ rfl (le_refl _) (fun z u d _ => tileV_load arg8.view f8 _ _ _ _ (k0_off3_eq k 1) z u d)
      refine GoodV.skip ?_ (by omega) rfl (by decide)
      refine GoodV.push 128 ?_ rfl (le_refl _) (fun z u d _ => tileV_load arg8.view f8 _ _ _ _ (k0_off2_eq k 1) z u d)
      refine GoodV.skip ?_ (by omega) rfl (by decide)
      exact fun t _ h => absurd h (Nat.not_lt_zero t)
    · iterate 29 refine Ones.skip ?_ rfl
      exact h11)
  have P1 := hk0_part226_0 (by
    refine In1.of keep_pay1 (fun u j d hu => (tileK_read _ _ u j d).trans ?_) ?_ ?_ ?_ ?_
    · match j with
      | 0 => exact (select_keep (keep_pay1 d u hu)).trans (tile_read arg7.view f7 _ _ _ (k0_off50_eq k 0) d u)
      | 1 => exact (select_keep (keep_pay1 d u hu)).trans (tile_read arg7.view f7 _ _ _ (k0_off50_eq k 1) d u)
    · skip
      refine GoodK.push 128 ?_ rfl (le_refl _) (fun u j d _ => tileK_load arg7.view f7 _ _ _ _ _ _ (k0_off49_eq k 0) (k0_off49_eq k 1) u j d)
      refine GoodK.push 128 ?_ rfl (le_refl _) (fun u j d _ => tileK_load arg7.view f7 _ _ _ _ _ _ (k0_off48_eq k 0) (k0_off48_eq k 1) u j d)
      refine GoodK.push 128 ?_ rfl (le_refl _) (fun u j d _ => tileK_load arg7.view f7 _ _ _ _ _ _ (k0_off47_eq k 0) (k0_off47_eq k 1) u j d)
      refine GoodK.push 128 ?_ rfl (le_refl _) (fun u j d _ => tileK_load arg7.view f7 _ _ _ _ _ _ (k0_off46_eq k 0) (k0_off46_eq k 1) u j d)
      refine GoodK.push 128 ?_ rfl (le_refl _) (fun u j d _ => tileK_load arg7.view f7 _ _ _ _ _ _ (k0_off45_eq k 0) (k0_off45_eq k 1) u j d)
      refine GoodK.push 128 ?_ rfl (le_refl _) (fun u j d _ => tileK_load arg7.view f7 _ _ _ _ _ _ (k0_off44_eq k 0) (k0_off44_eq k 1) u j d)
      refine GoodK.push 128 ?_ rfl (le_refl _) (fun u j d _ => tileK_load arg7.view f7 _ _ _ _ _ _ (k0_off43_eq k 0) (k0_off43_eq k 1) u j d)
      refine GoodK.push 128 ?_ rfl (le_refl _) (fun u j d _ => tileK_load arg7.view f7 _ _ _ _ _ _ (k0_off42_eq k 0) (k0_off42_eq k 1) u j d)
      refine GoodK.push 128 ?_ rfl (le_refl _) (fun u j d _ => tileK_load arg7.view f7 _ _ _ _ _ _ (k0_off41_eq k 0) (k0_off41_eq k 1) u j d)
      refine GoodK.push 128 ?_ rfl (le_refl _) (fun u j d _ => tileK_load arg7.view f7 _ _ _ _ _ _ (k0_off40_eq k 0) (k0_off40_eq k 1) u j d)
      refine GoodK.push 128 ?_ rfl (le_refl _) (fun u j d _ => tileK_load arg7.view f7 _ _ _ _ _ _ (k0_off39_eq k 0) (k0_off39_eq k 1) u j d)
      refine GoodK.push 128 ?_ rfl (le_refl _) (fun u j d _ => tileK_load arg7.view f7 _ _ _ _ _ _ (k0_off38_eq k 0) (k0_off38_eq k 1) u j d)
      refine GoodK.push 128 ?_ rfl (le_refl _) (fun u j d _ => tileK_load arg7.view f7 _ _ _ _ _ _ (k0_off37_eq k 0) (k0_off37_eq k 1) u j d)
      refine GoodK.push 128 ?_ rfl (le_refl _) (fun u j d _ => tileK_load arg7.view f7 _ _ _ _ _ _ (k0_off36_eq k 0) (k0_off36_eq k 1) u j d)
      exact fun t _ h => absurd h (Nat.not_lt_zero t)
    · skip
      refine GoodV.skip ?_ (by omega) rfl (by decide)
      refine GoodV.push 77 ?_ rfl (by omega) (fun z u d hu => (sc_tileV _ _ z d u).trans ((select_keep (keep_pay1 d u hu)).trans (tile_read arg8.view f8 _ _ _ (k0_off50_eq k 0) d u)))
      refine GoodV.skip ?_ (by omega) rfl (by decide)
      refine GoodV.push 128 ?_ rfl (le_refl _) (fun z u d _ => tileV_load arg8.view f8 _ _ _ _ (k0_off49_eq k 0) z u d)
      refine GoodV.skip ?_ (by omega) rfl (by decide)
      refine GoodV.push 128 ?_ rfl (le_refl _) (fun z u d _ => tileV_load arg8.view f8 _ _ _ _ (k0_off48_eq k 0) z u d)
      refine GoodV.skip ?_ (by omega) rfl (by decide)
      refine GoodV.push 128 ?_ rfl (le_refl _) (fun z u d _ => tileV_load arg8.view f8 _ _ _ _ (k0_off47_eq k 0) z u d)
      refine GoodV.skip ?_ (by omega) rfl (by decide)
      refine GoodV.push 128 ?_ rfl (le_refl _) (fun z u d _ => tileV_load arg8.view f8 _ _ _ _ (k0_off46_eq k 0) z u d)
      refine GoodV.skip ?_ (by omega) rfl (by decide)
      refine GoodV.push 128 ?_ rfl (le_refl _) (fun z u d _ => tileV_load arg8.view f8 _ _ _ _ (k0_off45_eq k 0) z u d)
      refine GoodV.skip ?_ (by omega) rfl (by decide)
      refine GoodV.push 128 ?_ rfl (le_refl _) (fun z u d _ => tileV_load arg8.view f8 _ _ _ _ (k0_off44_eq k 0) z u d)
      refine GoodV.skip ?_ (by omega) rfl (by decide)
      refine GoodV.push 128 ?_ rfl (le_refl _) (fun z u d _ => tileV_load arg8.view f8 _ _ _ _ (k0_off43_eq k 0) z u d)
      refine GoodV.skip ?_ (by omega) rfl (by decide)
      refine GoodV.push 128 ?_ rfl (le_refl _) (fun z u d _ => tileV_load arg8.view f8 _ _ _ _ (k0_off42_eq k 0) z u d)
      refine GoodV.skip ?_ (by omega) rfl (by decide)
      refine GoodV.push 128 ?_ rfl (le_refl _) (fun z u d _ => tileV_load arg8.view f8 _ _ _ _ (k0_off41_eq k 0) z u d)
      refine GoodV.skip ?_ (by omega) rfl (by decide)
      refine GoodV.push 128 ?_ rfl (le_refl _) (fun z u d _ => tileV_load arg8.view f8 _ _ _ _ (k0_off40_eq k 0) z u d)
      refine GoodV.skip ?_ (by omega) rfl (by decide)
      refine GoodV.push 128 ?_ rfl (le_refl _) (fun z u d _ => tileV_load arg8.view f8 _ _ _ _ (k0_off39_eq k 0) z u d)
      refine GoodV.skip ?_ (by omega) rfl (by decide)
      refine GoodV.push 128 ?_ rfl (le_refl _) (fun z u d _ => tileV_load arg8.view f8 _ _ _ _ (k0_off38_eq k 0) z u d)
      refine GoodV.skip ?_ (by omega) rfl (by decide)
      refine GoodV.push 128 ?_ rfl (le_refl _) (fun z u d _ => tileV_load arg8.view f8 _ _ _ _ (k0_off37_eq k 0) z u d)
      refine GoodV.skip ?_ (by omega) rfl (by decide)
      refine GoodV.push 128 ?_ rfl (le_refl _) (fun z u d _ => tileV_load arg8.view f8 _ _ _ _ (k0_off36_eq k 0) z u d)
      exact fun t _ h => absurd h (Nat.not_lt_zero t)
    · skip
      refine GoodV.push 77 ?_ rfl (by omega) (fun z u d hu => (sc_tileV _ _ z d u).trans ((select_keep (keep_pay1 d u hu)).trans (tile_read arg8.view f8 _ _ _ (k0_off50_eq k 1) d u)))
      refine GoodV.skip ?_ (by omega) rfl (by decide)
      refine GoodV.push 128 ?_ rfl (le_refl _) (fun z u d _ => tileV_load arg8.view f8 _ _ _ _ (k0_off49_eq k 1) z u d)
      refine GoodV.skip ?_ (by omega) rfl (by decide)
      refine GoodV.push 128 ?_ rfl (le_refl _) (fun z u d _ => tileV_load arg8.view f8 _ _ _ _ (k0_off48_eq k 1) z u d)
      refine GoodV.skip ?_ (by omega) rfl (by decide)
      refine GoodV.push 128 ?_ rfl (le_refl _) (fun z u d _ => tileV_load arg8.view f8 _ _ _ _ (k0_off47_eq k 1) z u d)
      refine GoodV.skip ?_ (by omega) rfl (by decide)
      refine GoodV.push 128 ?_ rfl (le_refl _) (fun z u d _ => tileV_load arg8.view f8 _ _ _ _ (k0_off46_eq k 1) z u d)
      refine GoodV.skip ?_ (by omega) rfl (by decide)
      refine GoodV.push 128 ?_ rfl (le_refl _) (fun z u d _ => tileV_load arg8.view f8 _ _ _ _ (k0_off45_eq k 1) z u d)
      refine GoodV.skip ?_ (by omega) rfl (by decide)
      refine GoodV.push 128 ?_ rfl (le_refl _) (fun z u d _ => tileV_load arg8.view f8 _ _ _ _ (k0_off44_eq k 1) z u d)
      refine GoodV.skip ?_ (by omega) rfl (by decide)
      refine GoodV.push 128 ?_ rfl (le_refl _) (fun z u d _ => tileV_load arg8.view f8 _ _ _ _ (k0_off43_eq k 1) z u d)
      refine GoodV.skip ?_ (by omega) rfl (by decide)
      refine GoodV.push 128 ?_ rfl (le_refl _) (fun z u d _ => tileV_load arg8.view f8 _ _ _ _ (k0_off42_eq k 1) z u d)
      refine GoodV.skip ?_ (by omega) rfl (by decide)
      refine GoodV.push 128 ?_ rfl (le_refl _) (fun z u d _ => tileV_load arg8.view f8 _ _ _ _ (k0_off41_eq k 1) z u d)
      refine GoodV.skip ?_ (by omega) rfl (by decide)
      refine GoodV.push 128 ?_ rfl (le_refl _) (fun z u d _ => tileV_load arg8.view f8 _ _ _ _ (k0_off40_eq k 1) z u d)
      refine GoodV.skip ?_ (by omega) rfl (by decide)
      refine GoodV.push 128 ?_ rfl (le_refl _) (fun z u d _ => tileV_load arg8.view f8 _ _ _ _ (k0_off39_eq k 1) z u d)
      refine GoodV.skip ?_ (by omega) rfl (by decide)
      refine GoodV.push 128 ?_ rfl (le_refl _) (fun z u d _ => tileV_load arg8.view f8 _ _ _ _ (k0_off38_eq k 1) z u d)
      refine GoodV.skip ?_ (by omega) rfl (by decide)
      refine GoodV.push 128 ?_ rfl (le_refl _) (fun z u d _ => tileV_load arg8.view f8 _ _ _ _ (k0_off37_eq k 1) z u d)
      refine GoodV.skip ?_ (by omega) rfl (by decide)
      refine GoodV.push 128 ?_ rfl (le_refl _) (fun z u d _ => tileV_load arg8.view f8 _ _ _ _ (k0_off36_eq k 1) z u d)
      refine GoodV.skip ?_ (by omega) rfl (by decide)
      exact fun t _ h => absurd h (Nat.not_lt_zero t)
    · iterate 30 refine Ones.skip ?_ rfl
      exact P0.ones)
  have S0 : trip.sl.v50 c arg5 f5 arg1 = 1#1 ↔ Spatial (arg5.view.read (Elt Ideal) f5) (word arg1 0) := (ori_iff (ori_iff (ori_iff (ori_iff (ori_iff (ori_iff (ori_iff (ori_iff (ori_iff (ori_iff (cmpi_iff (order_read arg5.view f5 0 _ _)) (cmpi_iff (order_read arg5.view f5 1 _ _))) (cmpi_iff (order_read arg5.view f5 2 _ _))) (cmpi_iff (order_read arg5.view f5 3 _ _))) (cmpi_iff (order_read arg5.view f5 4 _ _))) (cmpi_iff (order_read arg5.view f5 5 _ _))) (cmpi_iff (order_read arg5.view f5 6 _ _))) (cmpi_iff (order_read arg5.view f5 7 _ _))) (cmpi_iff (order_read arg5.view f5 8 _ _))) (cmpi_iff (order_read arg5.view f5 9 _ _))) (cmpi_iff (order_read arg5.view f5 10 _ _))).trans spatial_iff
  have S1 : trip.sl.v609 c arg5 f5 _ _ _ _ _ _ _ = 1#1 ↔ Spatial (arg5.view.read (Elt Ideal) f5) (word arg1 1) := (ori_iff (ori_iff (ori_iff (ori_iff (ori_iff (ori_iff (ori_iff (ori_iff (ori_iff (ori_iff (bit_iff W.h0 W.head) (bit_iff W.h1 W.head)) (bit_iff W.h2 W.head)) (bit_iff W.h3 W.head)) (bit_iff W.h4 W.head)) (bit_iff W.h5 W.head)) (cmpi_iff' (order_read arg5.view f5 6 _ _) W.head)) (cmpi_iff' (order_read arg5.view f5 7 _ _) W.head)) (cmpi_iff' (order_read arg5.view f5 8 _ _) W.head)) (cmpi_iff' (order_read arg5.view f5 9 _ _) W.head)) (cmpi_iff' (order_read arg5.view f5 10 _ _) W.head)).trans spatial_iff
  have sc := fun (o : Fin 2 → ℕ) (b h : ℕ) ii hp (ho : o = ![b, h]) => congrArg₂ factor (scale_read arg2.view f2 ii hp ho) (scale_read arg3.view f3 ii hp ho)
  have hcell : ∀ (p : Fin 2) (l : Fin 128) (t : ℕ), t < 1869 → cellW (arg12.view.read (Elt Ideal) g12k0_part226_3) p l t = R (2 * k + p) t l := by
    intro p l t ht
    rw [hR]
    by_cases hl : (l : ℕ) < 64
    · have hX := P0.out (ix3 p l (⟨t, by omega⟩ : Fin 1920)) hl ht
      rw [← P1.same (ix3 p l (⟨t, by omega⟩ : Fin 1920)) hl] at hX
      refine cell_of_out (v6 := arg6.view) (v7 := arg7.view) (v8 := arg8.view) (f6 := f6) (f7 := f7) (f8 := f8) ht (h := 0) (by omega) (spat_eq S0) (fun p => ?_) (fun p => ?_) hX
      · match p with
        | 0 => exact (factor_raw _ _).trans (sc _ _ _ _ _ (k0_off1_eq i k 0))
        | 1 => exact (factor_raw _ _).trans (sc _ _ _ _ _ (k0_off1_eq i k 1))
      · match p with
        | 0 => exact scale_read arg4.view f4 _ _ (k0_off1_eq i k 0)
        | 1 => exact scale_read arg4.view f4 _ _ (k0_off1_eq i k 1)
    · have hX := P1.out (ix3 p l (⟨t, by omega⟩ : Fin 1920)) (by show 64 ≤ (l : ℕ); omega) ht
      refine cell_of_out (v6 := arg6.view) (v7 := arg7.view) (v8 := arg8.view) (f6 := f6) (f7 := f7) (f8 := f8) ht (h := 1) (by omega) (spat_eq S1) (fun p => ?_) (fun p => ?_) hX
      · match p with
        | 0 => exact (factor_raw _ _).trans (sc _ _ _ _ _ (k0_off35_eq i k 0))
        | 1 => exact (factor_raw _ _).trans (sc _ _ _ _ _ (k0_off35_eq i k 1))
      · match p with
        | 0 => exact scale_read arg4.view f4 _ _ (k0_off35_eq i k 0)
        | 1 => exact scale_read arg4.view f4 _ _ (k0_off35_eq i k 1)
  obtain ⟨w, hw, rfl⟩ := P1.tile
  have T0 : GoodO R k (0 + 128) (arg9.view.read (Elt Ideal) (arg9.view.writes (Elt Ideal) f9 [⟨Rect.unit (s := S1869x8x128) (k0_off69 k) S128x2x128.size (k0_off69_inb k), w⟩])) :=
    GoodO.push (L := []) h9 (k0_off69_eq k) fun a p l => (hw a p l).trans (hcell p l _ (by omega))
  ihave H9 := (own_name c arg9 _) $$ Hk0_part226_5
  icases H9 with ⟨%g9, %hg9, H9⟩
  have F : GoodO R k (1792 + 77) (arg9.view.read (Elt Ideal) g9) := by
    rw [hg9]
    refine GoodO.push (n := 77) ?_ (k0_off83_eq k) (fun a p l => tileO_last arg12.view _ hcell _ _ a p l)
    refine GoodO.push (n := 128) ?_ (k0_off82_eq k) (fun a p l => tileO_load arg12.view _ hcell (by omega) _ _ a p l)
    refine GoodO.push (n := 128) ?_ (k0_off81_eq k) (fun a p l => tileO_load arg12.view _ hcell (by omega) _ _ a p l)
    refine GoodO.push (n := 128) ?_ (k0_off80_eq k) (fun a p l => tileO_load arg12.view _ hcell (by omega) _ _ a p l)
    refine GoodO.push (n := 128) ?_ (k0_off79_eq k) (fun a p l => tileO_load arg12.view _ hcell (by omega) _ _ a p l)
    refine GoodO.push (n := 128) ?_ (k0_off78_eq k) (fun a p l => tileO_load arg12.view _ hcell (by omega) _ _ a p l)
    refine GoodO.push (n := 128) ?_ (k0_off77_eq k) (fun a p l => tileO_load arg12.view _ hcell (by omega) _ _ a p l)
    refine GoodO.push (n := 128) ?_ (k0_off76_eq k) (fun a p l => tileO_load arg12.view _ hcell (by omega) _ _ a p l)
    refine GoodO.push (n := 128) ?_ (k0_off75_eq k) (fun a p l => tileO_load arg12.view _ hcell (by omega) _ _ a p l)
    refine GoodO.push (n := 128) ?_ (k0_off74_eq k) (fun a p l => tileO_load arg12.view _ hcell (by omega) _ _ a p l)
    refine GoodO.push (n := 128) ?_ (k0_off73_eq k) (fun a p l => tileO_load arg12.view _ hcell (by omega) _ _ a p l)
    refine GoodO.push (n := 128) ?_ (k0_off72_eq k) (fun a p l => tileO_load arg12.view _ hcell (by omega) _ _ a p l)
    refine GoodO.push (n := 128) ?_ (k0_off71_eq k) (fun a p l => tileO_load arg12.view _ hcell (by omega) _ _ a p l)
    refine GoodO.push (n := 128) (L := []) T0 (k0_off70_eq k) (fun a p l => (woven_read _ _ a p l).trans (Eq.trans ?_ (hcell p l (128 + a) (by omega))))
    match p with
    | 0 => exact P1.lo a l
    | 1 => exact P1.hi a l
  clear hg9
  have fin := And.intro (F.next (le_refl _)) P1.ones
  sl_close

end Cert.Proof.KernelIdeal
-- ==== Proof.KI.Kern.lean ====
/-
  The body of the kernel at one grid point, with what it leaves in the result block.
-/
module

public import proofs.«01_k».proof.Proof.KI.Trip

@[expose] public section

set_option maxRecDepth 16384
set_option maxHeartbeats 4000000

noncomputable section

namespace Cert.Proof.KernelIdeal

open Cert.KernelIdeal Cert.KernelIdeal.Gen
open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pointwise

local notation "𝕄" => MT nD τ sig Unit (Elt Ideal) ℕ (UU nD τ) ℕ

/-- One trip, in the shape of the loop's invariant. -/
theorem trip_step (c : Dev nD) (i : grid0.Coords) (arg2 : Memref sig .tc .smem S24x20 .f32) (harg2 : arg2.IsWhole) (arg3 : Memref sig .tc .smem S24x20 .f32) (harg3 : arg3.IsWhole)
    (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole)
    (arg12 : Memref sig .tc .vmem S2x128x1920 .f32) (harg12 : arg12.IsWhole)

    (k : Fin k0_t1_loop.trips) (f2 : Bf Ideal c arg2) (f3 : Bf Ideal c arg3) (f4 : Bf Ideal c arg4) (f5 : Bf Ideal c arg5) (f6 : Bf Ideal c arg6) (f7 : Bf Ideal c arg7) (f8 : Bf Ideal c arg8) (f9 : Bf Ideal c arg9) (f10 : Bf Ideal c arg10) (f11 : Bf Ideal c arg11) (f12 : Bf Ideal c arg12) (arg0 arg1 : BitVec 32)
    (h9 : GoodO (heads (i 0).val (i 1).val arg1 (arg2.view.read (Elt Ideal) f2) (arg3.view.read (Elt Ideal) f3) (arg4.view.read (Elt Ideal) f4) (arg5.view.read (Elt Ideal) f5)
      (arg6.view.read (Elt Ideal) f6) (arg7.view.read (Elt Ideal) f7) (arg8.view.read (Elt Ideal) f8)) k 0 (arg9.view.read (Elt Ideal) f9)) (h11 : Ones (arg11.view.read (Elt Ideal) f11)) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12)
    ⊢ wp frame (wpE (defs₀ (F := Ideal)) 𝒱₀ (c : Thread nD τ) none) Set.univ
        (k0_t1_body (F := Ideal) i arg2 harg2 arg3 harg3 arg4 harg4 arg5 harg5 arg6 harg6 arg7 harg7 arg8 harg8 arg9 harg9 arg10 harg10 arg11 harg11 arg12 harg12 arg0 arg1 k ())
        (fun _ => iprop(pt c arg2 f2 ∗ pt c arg3 f3 ∗ pt c arg4 f4 ∗ pt c arg5 f5 ∗ pt c arg6 f6 ∗ pt c arg7 f7 ∗ pt c arg8 f8 ∗ (∃ g9 : Bf Ideal c arg9, ⌜GoodO (heads (i 0).val (i 1).val arg1 (arg2.view.read (Elt Ideal) f2) (arg3.view.read (Elt Ideal) f3) (arg4.view.read (Elt Ideal) f4) (arg5.view.read (Elt Ideal) f5)
      (arg6.view.read (Elt Ideal) f6) (arg7.view.read (Elt Ideal) f7) (arg8.view.read (Elt Ideal) f8)) (k + 1) 0 (arg9.view.read (Elt Ideal) g9)⌝ ∗ pt c arg9 g9) ∗ (∃ g10, pt (F := Ideal) c arg10 g10)
    ∗ (∃ g11 : Bf Ideal c arg11, ⌜Ones (arg11.view.read (Elt Ideal) g11)⌝ ∗ pt c arg11 g11) ∗ (∃ g12, pt (F := Ideal) c arg12 g12))) :=
  (trip c i arg2 harg2 arg3 harg3 arg4 harg4 arg5 harg5 arg6 harg6 arg7 harg7 arg8 harg8 arg9 harg9 arg10 harg10 arg11 harg11 arg12 harg12 k f2 f3 f4 f5 f6 f7 f8 f9 f10 f11 f12 _ arg0 arg1 rfl h9 h11).trans
    (wp_mono _ _ _ fun _ => by
        iintro ⟨%g9, %g10, %g11, %g12, %hg, H2, H3, H4, H5, H6, H7, H8, H9, H10, H11, H12⟩
        have hg1 := hg.1
        have hg2 := hg.2
        sl_close)

/-- The loop's invariant: the result block holds the pairs done so far, and the row of ones is there. -/
def valueInv (c : Dev nD) (i : grid0.Coords) (arg2 : Memref sig .tc .smem S24x20 .f32) (harg2 : arg2.IsWhole) (arg3 : Memref sig .tc .smem S24x20 .f32) (harg3 : arg3.IsWhole)
    (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole)
    (arg12 : Memref sig .tc .vmem S2x128x1920 .f32) (harg12 : arg12.IsWhole)

    (arg0 arg1 : BitVec 32) (f2 : Bf Ideal c arg2) (f3 : Bf Ideal c arg3) (f4 : Bf Ideal c arg4) (f5 : Bf Ideal c arg5) (f6 : Bf Ideal c arg6) (f7 : Bf Ideal c arg7) (f8 : Bf Ideal c arg8) :
    Cert.KernelIdeal.Gen.LoopInvTy_k0_t1 (F := Ideal) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg0 arg1 where
  inv := fun k _ => iprop(pt c arg2 f2 ∗ pt c arg3 f3 ∗ pt c arg4 f4 ∗ pt c arg5 f5 ∗ pt c arg6 f6 ∗ pt c arg7 f7 ∗ pt c arg8 f8 ∗ (∃ g9 : Bf Ideal c arg9, ⌜GoodO (heads (i 0).val (i 1).val arg1 (arg2.view.read (Elt Ideal) f2) (arg3.view.read (Elt Ideal) f3) (arg4.view.read (Elt Ideal) f4) (arg5.view.read (Elt Ideal) f5)
      (arg6.view.read (Elt Ideal) f6) (arg7.view.read (Elt Ideal) f7) (arg8.view.read (Elt Ideal) f8)) k 0 (arg9.view.read (Elt Ideal) g9)⌝ ∗ pt c arg9 g9) ∗ (∃ g10, pt (F := Ideal) c arg10 g10)
    ∗ (∃ g11 : Bf Ideal c arg11, ⌜Ones (arg11.view.read (Elt Ideal) g11)⌝ ∗ pt c arg11 g11) ∗ (∃ g12, pt (F := Ideal) c arg12 g12))
  step := fun k _ => by
    iintro ⟨H2, H3, H4, H5, H6, H7, H8, ⟨%f9, %h9, H9⟩, ⟨%f10, H10⟩, ⟨%f11, %h11, H11⟩, ⟨%f12, H12⟩⟩
    iapply (trip_step c i arg2 harg2 arg3 harg3 arg4 harg4 arg5 harg5 arg6 harg6 arg7 harg7 arg8 harg8 arg9 harg9 arg10 harg10 arg11 harg11 arg12 harg12 k f2 f3 f4 f5 f6 f7 f8 f9 f10 f11 f12 arg0 arg1 h9 h11)
    sl_close

theorem ones_start {σ : RefSig} {κ : Kind} {sp : Space} (v : View σ κ sp S2x80x1920 .bf16) (f : v.ty.Contents (Elt Ideal))
    (i1 : ∀ a, ![1, 64, 0] a + S1x16x1920.size a ≤ S2x80x1920.size a) (i0 : ∀ a, ![0, 64, 0] a + S1x16x1920.size a ≤ S2x80x1920.size a) :
    Ones (v.read (Elt Ideal) (v.writes (Elt Ideal) f [⟨Rect.unit (s := S2x80x1920) ![1, 64, 0] S1x16x1920.size i1, k0_pay4 (F := Ideal)⟩, ⟨Rect.unit (s := S2x80x1920) ![0, 64, 0] S1x16x1920.size i0, k0_pay3 (F := Ideal)⟩])) := by
  have e : ∀ t : Fin 1920, k0_pay2 (F := Ideal) (ix2 (0 : Fin 16) t) = 1 := fun t => by
    pointwise [k0_pay2]
  have e3 : ∀ t : Fin 1920, k0_pay3 (F := Ideal) (ix3 (0 : Fin 1) (0 : Fin 16) t) = 1 := fun t => by
    refine Eq.trans ?_ (e t)
    unfold k0_pay3
    pointwise
  have e4 : ∀ t : Fin 1920, k0_pay4 (F := Ideal) (ix3 (0 : Fin 1) (0 : Fin 16) t) = 1 := fun t => by
    refine Eq.trans ?_ (e t)
    unfold k0_pay4
    pointwise
  intro j t ht
  rw [cell3, dif_pos ⟨by omega, by omega, ht⟩]
  match j with
  | 0 =>
    rw [View.read_writes_cons_unit_of_not_mem (Val := Elt Ideal) v f i1 _ _ _ rfl 0 (by simp)]
    rw [View.read_writes_cons_unit_of_mem (Val := Elt Ideal) v f i0 _ _ _ (ix3 (0 : Fin 1) (0 : Fin 16) (⟨t, ht⟩ : Fin 1920)) rfl (fun a => by fin_cases a <;> simp)]
    exact e3 _
  | 1 =>
    rw [View.read_writes_cons_unit_of_mem (Val := Elt Ideal) v f i1 _ _ _ (ix3 (0 : Fin 1) (0 : Fin 16) (⟨t, ht⟩ : Fin 1920)) rfl (fun a => by fin_cases a <;> simp)]
    exact e4 _

/-- The body of the kernel at one grid point. -/
theorem kernelVal (c : Dev nD) (i : grid0.Coords) (arg2 : Memref sig .tc .smem S24x20 .f32) (harg2 : arg2.IsWhole) (arg3 : Memref sig .tc .smem S24x20 .f32) (harg3 : arg3.IsWhole)
    (arg4 : Memref sig .tc .smem S24x20 .f32) (harg4 : arg4.IsWhole) (arg5 : Memref sig .tc .smem S20 .i32) (harg5 : arg5.IsWhole)
    (arg6 : Memref sig .tc .vmem S8x2x64x1920 .fp8e4m3) (harg6 : arg6.IsWhole) (arg7 : Memref sig .tc .vmem S8x2x64x1920 .fp8e4m3) (harg7 : arg7.IsWhole) (arg8 : Memref sig .tc .vmem S8x2x64x1920 .fp8e4m3) (harg8 : arg8.IsWhole)
    (arg9 : Memref sig .tc .vmem S1869x8x128 .bf16) (harg9 : arg9.IsWhole) (arg10 : Memref sig .tc .vmem S1920x128 .fp8e4m3) (harg10 : arg10.IsWhole) (arg11 : Memref sig .tc .vmem S2x80x1920 .bf16) (harg11 : arg11.IsWhole)
    (arg12 : Memref sig .tc .vmem S2x128x1920 .f32) (harg12 : arg12.IsWhole)

    (f2 : Bf Ideal c arg2) (f3 : Bf Ideal c arg3) (f4 : Bf Ideal c arg4) (f5 : Bf Ideal c arg5) (f6 : Bf Ideal c arg6) (f7 : Bf Ideal c arg7) (f8 : Bf Ideal c arg8)
    (f9 : Bf Ideal c arg9) (f10 : Bf Ideal c arg10) (f11 : Bf Ideal c arg11) (f12 : Bf Ideal c arg12) (Q : PUnit → sProp 𝕄) (arg1 : BitVec 32) (harg1 : arg1 = BitVec.ofNat 32 (i 1).val) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ (iprop(pt c arg2 f2 ∗ pt c arg3 f3 ∗ pt c arg4 f4 ∗ pt c arg5 f5 ∗ pt c arg6 f6 ∗ pt c arg7 f7 ∗ pt c arg8 f8 ∗ (∃ g9 : Bf Ideal c arg9, ⌜GoodO (heads (i 0).val (i 1).val arg1 (arg2.view.read (Elt Ideal) f2) (arg3.view.read (Elt Ideal) f3) (arg4.view.read (Elt Ideal) f4) (arg5.view.read (Elt Ideal) f5)
      (arg6.view.read (Elt Ideal) f6) (arg7.view.read (Elt Ideal) f7) (arg8.view.read (Elt Ideal) f8)) 4 0 (arg9.view.read (Elt Ideal) g9)⌝ ∗ pt c arg9 g9) ∗ (∃ f, pt (F := Ideal) c arg10 f) ∗ (∃ f, pt (F := Ideal) c arg11 f) ∗ (∃ f, pt (F := Ideal) c arg12 f)) -∗ Q ⟨⟩))
    ⊢ wp frame (wpE (defs₀ (F := Ideal)) 𝒱₀ (c : Thread nD τ) none) Set.univ
        (cc0_sparse_videogen_attention (F := Ideal) i arg2 harg2 arg3 harg3 arg4 harg4 arg5 harg5 arg6 harg6 arg7 harg7 arg8 harg8 arg9 harg9 arg10 harg10 arg11 harg11 arg12 harg12) Q := by
  subst harg1
  have h9 : GoodO (heads (i 0).val (i 1).val (BitVec.ofNat 32 (i 1).val) (arg2.view.read (Elt Ideal) f2) (arg3.view.read (Elt Ideal) f3) (arg4.view.read (Elt Ideal) f4) (arg5.view.read (Elt Ideal) f5)
      (arg6.view.read (Elt Ideal) f6) (arg7.view.read (Elt Ideal) f7) (arg8.view.read (Elt Ideal) f8)) 0 0 (arg9.view.read (Elt Ideal) f9) := fun a b l h => absurd h (by omega)
  let L := valueInv c i arg2 harg2 arg3 harg3 arg4 harg4 arg5 harg5 arg6 harg6 arg7 harg7 arg8 harg8 arg9 harg9 arg10 harg10 arg11 harg11 arg12 harg12 (BitVec.ofNat 32 (i 0).val) (BitVec.ofNat 32 (i 1).val) f2 f3 f4 f5 f6 f7 f8
  have h11 := ones_start arg11.view f11 inb_S2x80x1920_S1x16x1920_1_64_0 inb_S2x80x1920_S1x16x1920_0_64_0
  iintro ⟨H2, H3, H4, H5, H6, H7, H8, H9, H10, H11, H12, Hk⟩
  sl_exec
  sl_step
  iapply Hk
  sl_close

end Cert.Proof.KernelIdeal
-- ==== Proof.KI.Whole.lean ====
/-
  The whole result array, and that a grid point's block is a part of it.
-/
module

public import proofs.«01_k».proof.Proof.KI.TripLemmas

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pointwise

/-- A code of an operand as @main takes it: batch, head, coordinate, token. -/
def tokc (X : S24x1869x20x64.Idx → EReal) (b h : ℕ) (d : Fin 64) (t : ℕ) : EReal :=
  if hh : b < 24 ∧ t < 1869 ∧ h < 20 then X (ix4 ⟨b, hh.1⟩ ⟨t, hh.2.1⟩ ⟨h, hh.2.2⟩ d) else 0

/-- The result at a batch, a head, a coordinate and a token. -/
def outAt (X2 X3 X4 : S24x20.Idx → EReal) (X5 : S20.Idx → BitVec 32) (A0 A1 A2 : S24x1869x20x64.Idx → EReal) (b h : ℕ) (d : Fin 64) (t : ℕ) : EReal :=
  att (score (spat X5 (BitVec.ofNat 32 h)) (factor (at24 X2 b h) (at24 X3 b h)) (tokc A0 b h) (tokc A1 b h) t) (tokc A2 b h d) (at24 X4 b h)

theorem att_congr {x x' V V' : ℕ → EReal} {vs : EReal} (hx : ∀ u < 1869, x u = x' u) (hV : ∀ u < 1869, V u = V' u) : att x V vs = att x' V' vs := by
  have hS : (Finset.range 1869).sup x = (Finset.range 1869).sup x' := Finset.sup_congr rfl fun u hu => hx u (Finset.mem_range.mp hu)
  unfold att
  rw [hS, Finset.sum_congr rfl fun u hu => by rw [hx u (Finset.mem_range.mp hu), hV u (Finset.mem_range.mp hu)],
    Finset.sum_congr (s₁ := Finset.range 1869) (f := fun u => Ideal.exp2 (x u - _)) rfl fun u hu => by rw [hx u (Finset.mem_range.mp hu)]]

theorem score_congr {sp : Bool} {c : EReal} {Q Q' K K' : Fin 64 → ℕ → EReal} {t u : ℕ} (hQ : ∀ d, Q d t = Q' d t) (hK : ∀ d, K d u = K' d u) :
    score sp c Q K t u = score sp c Q' K' t u := by
  unfold score sdot
  simp only [hQ, hK]

theorem word_eq (hp h : ℕ) : word (BitVec.ofNat 32 hp) h = BitVec.ofNat 32 (2 * hp + h) := by
  show BitVec.ofNat 32 hp * 2#32 + BitVec.ofNat 32 h = _
  apply BitVec.eq_of_toNat_eq
  simp [BitVec.toNat_add, BitVec.toNat_mul]
  omega

/-- A grid point's block, from blocks of the codes that are right at the tokens there are. -/
theorem heads_eq {bg hp : ℕ} {X2 X3 X4 : S24x20.Idx → EReal} {X5 : S20.Idx → BitVec 32} {X6 X7 X8 : S8x2x64x1920.Idx → EReal} {A0 A1 A2 : S24x1869x20x64.Idx → EReal}
    {b t : ℕ} {l : Fin 128} (ht : t < 1869)
    (h6 : ∀ d u, u < 1869 → code X6 b (l / 64) d u = tokc A0 (8 * bg + b) (2 * hp + l / 64) d u)
    (h7 : ∀ d u, u < 1869 → code X7 b (l / 64) d u = tokc A1 (8 * bg + b) (2 * hp + l / 64) d u)
    (h8 : ∀ d u, u < 1869 → code X8 b (l / 64) d u = tokc A2 (8 * bg + b) (2 * hp + l / 64) d u) :
    heads bg hp (BitVec.ofNat 32 hp) X2 X3 X4 X5 X6 X7 X8 b t l
      = outAt X2 X3 X4 X5 A0 A1 A2 (8 * bg + b) (2 * hp + l / 64) ⟨l % 64, by omega⟩ t := by
  unfold heads outAt
  rw [word_eq]
  exact att_congr (fun u hu => score_congr (fun d => h6 d t ht) (fun d => h7 d u hu)) (fun u hu => h8 _ u hu)

/-- The array the kernel leaves. -/
def whole (X2 X3 X4 : S24x20.Idx → EReal) (X5 : S20.Idx → BitVec 32) (A0 A1 A2 : S24x1869x20x64.Idx → EReal) (j : S1869x24x1280.Idx) : EReal :=
  outAt X2 X3 X4 X5 A0 A1 A2 (j 1).val ((j 2).val / 64) ⟨(j 2).val % 64, Nat.mod_lt _ (by decide)⟩ (j 0).val

end Cert.Proof.KernelIdeal

end
-- ==== Proof.KI.RunV.lean ====
/-
  The run of `KernelIdeal` with values: what @main's result holds at the end.
-/
module

public import proofs.«01_k».proof.Proof.KI.Kern
public import proofs.«01_k».proof.Proof.KI.Whole
public import proofs.«01_k».proof.Proof.Gen.KernelIdeal.Frame
public import Idealize.ShloMosaic.Lib.Pipeline.ValueKit
public import Idealize.ShloMosaic.Lib.Claim

@[expose] public section

set_option maxRecDepth 16384
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation BodyObligationLoose cellOf)

local notation "𝕄" => MT nD τ sig Unit (Elt Ideal) ℕ (UU nD τ) ℕ

variable (m : (ℓ : Loc nD τ sig) → Buf (Elt Ideal) ℓ) (ρ : Dev nD → PrngReg)

/-- The array the kernel leaves on core `c`, from the arguments as launched. -/
def result (c : Dev nD) : S1869x24x1280.Idx → EReal :=
  whole (m ((c : Thread nD τ).loc main_arg3)) (m ((c : Thread nD τ).loc main_arg4)) (m ((c : Thread nD τ).loc main_arg5)) (m ((c : Thread nD τ).loc main_arg6))
    (m ((c : Thread nD τ).loc main_arg0)) (m ((c : Thread nD τ).loc main_arg1)) (m ((c : Thread nD τ).loc main_arg2))

/-- Its block at a grid point. -/
def block (c : Dev nD) (t : Fin cfg0.N) (y : S1869x8x128.Idx) : EReal :=
  outAt (m ((c : Thread nD τ).loc main_arg3)) (m ((c : Thread nD τ).loc main_arg4)) (m ((c : Thread nD τ).loc main_arg5)) (m ((c : Thread nD τ).loc main_arg6))
    (m ((c : Thread nD τ).loc main_arg0)) (m ((c : Thread nD τ).loc main_arg1)) (m ((c : Thread nD τ).loc main_arg2))
    (8 * (grid0.coords t 0).val + (y 1).val) (2 * (grid0.coords t 1).val + (y 2).val / 64) ⟨(y 2).val % 64, Nat.mod_lt _ (by decide)⟩ (y 0).val

/-- The pipeline's data: the arrays as the region finds them; the inputs left in place, the result's block computed. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (cfg0.win 4).fill (cfg0.grid.coords t) (fun _ => Classical.arbitrary _) (iblk m c 4 t)
    | ⟨5, _⟩ => (cfg0.win 5).fill (cfg0.grid.coords t) (fun _ => Classical.arbitrary _) (iblk m c 5 t)
    | ⟨6, _⟩ => (cfg0.win 6).fill (cfg0.grid.coords t) (fun _ => Classical.arbitrary _) (iblk m c 6 t)
    | ⟨7, _⟩ => block m c t
  Φ _ := Pipeline.ΦA spec0 c
  q _ := fullShare
  owed _ := 0

theorem A_eq (c : Dev nD) (w : Fin cfg0.W) : (datsV m 0 c).A w = V m c (Pipeline.arrRef spec0 w) := by dsimp only [datsV]

theorem before_0 (c : Dev nD) (t : Fin cfg0.N) (d) : (datsV m 0 c).before 0 t d = iblk m c 0 t := before0_0_of m (datsV m 0 c) (A_eq m c 0) (fun _ => rfl) t d
theorem before_1 (c : Dev nD) (t : Fin cfg0.N) (d) : (datsV m 0 c).before 1 t d = iblk m c 1 t := before0_1_of m (datsV m 0 c) (A_eq m c 1) (fun _ => rfl) t d
theorem before_2 (c : Dev nD) (t : Fin cfg0.N) (d) : (datsV m 0 c).before 2 t d = iblk m c 2 t := before0_2_of m (datsV m 0 c) (A_eq m c 2) (fun _ => rfl) t d
theorem before_3 (c : Dev nD) (t : Fin cfg0.N) (d) : (datsV m 0 c).before 3 t d = iblk m c 3 t := before0_3_of m (datsV m 0 c) (A_eq m c 3) (fun _ => rfl) t d
theorem before_4 (c : Dev nD) (t : Fin cfg0.N) (d) : (datsV m 0 c).before 4 t d = (cfg0.win 4).fill (cfg0.grid.coords t) d (iblk m c 4 t) :=
  (datsV m 0 c).before_fetched 4 t (fetch0_4 t) d
theorem before_5 (c : Dev nD) (t : Fin cfg0.N) (d) : (datsV m 0 c).before 5 t d = (cfg0.win 5).fill (cfg0.grid.coords t) d (iblk m c 5 t) :=
  (datsV m 0 c).before_fetched 5 t (fetch0_5 t) d
theorem before_6 (c : Dev nD) (t : Fin cfg0.N) (d) : (datsV m 0 c).before 6 t d = (cfg0.win 6).fill (cfg0.grid.coords t) d (iblk m c 6 t) :=
  (datsV m 0 c).before_fetched 6 t (fetch0_6 t) d

/-! ### The blocks at coordinates -/

theorem idx_0 (t : Fin cfg0.N) : win0_0.index t 0 = 0 ∧ win0_0.index t 1 = 0 := ⟨rfl, rfl⟩
theorem idx_1 (t : Fin cfg0.N) : win0_1.index t 0 = 0 ∧ win0_1.index t 1 = 0 := ⟨rfl, rfl⟩
theorem idx_2 (t : Fin cfg0.N) : win0_2.index t 0 = 0 ∧ win0_2.index t 1 = 0 := ⟨rfl, rfl⟩
theorem idx_3 (t : Fin cfg0.N) : win0_3.index t 0 = 0 := rfl
theorem idx_4 : ∀ t : Fin cfg0.N, win0_4.index t 0 = (grid0.coords t 0).val ∧ win0_4.index t 1 = (grid0.coords t 1).val ∧ win0_4.index t 2 = 0 ∧ win0_4.index t 3 = 0 := by decide +kernel
theorem idx_5 : ∀ t : Fin cfg0.N, win0_5.index t 0 = (grid0.coords t 0).val ∧ win0_5.index t 1 = (grid0.coords t 1).val ∧ win0_5.index t 2 = 0 ∧ win0_5.index t 3 = 0 := by decide +kernel
theorem idx_6 : ∀ t : Fin cfg0.N, win0_6.index t 0 = (grid0.coords t 0).val ∧ win0_6.index t 1 = (grid0.coords t 1).val ∧ win0_6.index t 2 = 0 ∧ win0_6.index t 3 = 0 := by decide +kernel
theorem idx_7 : ∀ t : Fin cfg0.N, win0_7.index t 0 = 0 ∧ win0_7.index t 1 = (grid0.coords t 0).val ∧ win0_7.index t 2 = (grid0.coords t 1).val := by decide +kernel
theorem size_4 : ∀ t : Fin cfg0.N, ∀ a : Fin 4, (![8, 2, 64, 1869] : Fin 4 → ℕ) a ≤ (cfg0.win 4).xsize (cfg0.grid.coords t) a := by decide +kernel
theorem size_5 : ∀ t : Fin cfg0.N, ∀ a : Fin 4, (![8, 2, 64, 1869] : Fin 4 → ℕ) a ≤ (cfg0.win 5).xsize (cfg0.grid.coords t) a := by decide +kernel
theorem size_6 : ∀ t : Fin cfg0.N, ∀ a : Fin 4, (![8, 2, 64, 1869] : Fin 4 → ℕ) a ≤ (cfg0.win 6).xsize (cfg0.grid.coords t) a := by decide +kernel

theorem iblk_0 (c : Dev nD) (t : Fin cfg0.N) : iblk m c 0 t = m ((c : Thread nD τ).loc main_arg3) := by
  funext y
  blk_ext [iblk, V_main_arg3, idx_0 t]
theorem iblk_1 (c : Dev nD) (t : Fin cfg0.N) : iblk m c 1 t = m ((c : Thread nD τ).loc main_arg4) := by
  funext y
  blk_ext [iblk, V_main_arg4, idx_1 t]
theorem iblk_2 (c : Dev nD) (t : Fin cfg0.N) : iblk m c 2 t = m ((c : Thread nD τ).loc main_arg5) := by
  funext y
  blk_ext [iblk, V_main_arg5, idx_2 t]
theorem iblk_3 (c : Dev nD) (t : Fin cfg0.N) : iblk m c 3 t = m ((c : Thread nD τ).loc main_arg6) := by
  funext y
  blk_ext [iblk, V_main_arg6, idx_3 t]

theorem inside {b h u : ℕ} (hb : b < 8) (hh : h < 2) (d : Fin 64) (hu : u < 1869) :
    ∀ a : Fin 4, (ix4 ⟨b, hb⟩ ⟨h, hh⟩ d ⟨u, by omega⟩ : S8x2x64x1920.Idx) a < (![8, 2, 64, 1869] : Fin 4 → ℕ) a := by
  intro a
  fin_cases a
  · exact hb
  · exact hh
  · exact d.isLt
  · exact hu

theorem V_v0 (c : Dev nD) : V m c main_v0 = (transpose S24x20x64x1869 [0, 2, 3, 1] (m ((c : Thread nD τ).loc main_arg0)) transposes_S24x1869x20x64_S24x20x64x1869_0_2_3_1 : FVec Ideal S24x20x64x1869 .fp8e4m3) := by
  entry_read
  try rfl

theorem code_4 (c : Dev nD) (t : Fin cfg0.N) (d0) (b h : ℕ) (hb : b < 8) (hh : h < 2) (d : Fin 64) (u : ℕ) (hu : u < 1869) :
    code ((cfg0.win 4).fill (cfg0.grid.coords t) d0 (iblk m c 4 t)) b h d u
      = tokc (m ((c : Thread nD τ).loc main_arg0)) (8 * (grid0.coords t 0).val + b) (2 * (grid0.coords t 1).val + h) d u := by
  have g0 : (grid0.coords t 0).val < 3 := (grid0.coords t 0).isLt
  have g1 : (grid0.coords t 1).val < 10 := (grid0.coords t 1).isLt
  unfold code cell4 tokc
  rw [dif_pos ⟨hb, hh, d.isLt, by omega⟩, dif_pos ⟨by omega, hu, by omega⟩]
  unfold Window.fill
  rw [dif_pos (((cfg0.win 4).moved_iff _ _).mpr fun a => (inside hb hh d hu a).trans_le (size_4 t a))]
  show V m c main_v0 (((cfg0.win 4).blk t).view.emb _) = _
  rw [V_v0]
  pointwise
  blk_ext [idx_4 t]

theorem V_v1 (c : Dev nD) : V m c main_v1 = (transpose S24x20x64x1869 [0, 2, 3, 1] (m ((c : Thread nD τ).loc main_arg1)) transposes_S24x1869x20x64_S24x20x64x1869_0_2_3_1 : FVec Ideal S24x20x64x1869 .fp8e4m3) := by
  entry_read
  try rfl

theorem code_5 (c : Dev nD) (t : Fin cfg0.N) (d0) (b h : ℕ) (hb : b < 8) (hh : h < 2) (d : Fin 64) (u : ℕ) (hu : u < 1869) :
    code ((cfg0.win 5).fill (cfg0.grid.coords t) d0 (iblk m c 5 t)) b h d u
      = tokc (m ((c : Thread nD τ).loc main_arg1)) (8 * (grid0.coords t 0).val + b) (2 * (grid0.coords t 1).val + h) d u := by
  have g0 : (grid0.coords t 0).val < 3 := (grid0.coords t 0).isLt
  have g1 : (grid0.coords t 1).val < 10 := (grid0.coords t 1).isLt
  unfold code cell4 tokc
  rw [dif_pos ⟨hb, hh, d.isLt, by omega⟩, dif_pos ⟨by omega, hu, by omega⟩]
  unfold Window.fill
  rw [dif_pos (((cfg0.win 5).moved_iff _ _).mpr fun a => (inside hb hh d hu a).trans_le (size_5 t a))]
  show V m c main_v1 (((cfg0.win 5).blk t).view.emb _) = _
  rw [V_v1]
  pointwise
  blk_ext [idx_5 t]

theorem V_v2 (c : Dev nD) : V m c main_v2 = (transpose S24x20x64x1869 [0, 2, 3, 1] (m ((c : Thread nD τ).loc main_arg2)) transposes_S24x1869x20x64_S24x20x64x1869_0_2_3_1 : FVec Ideal S24x20x64x1869 .fp8e4m3) := by
  entry_read
  try rfl

theorem code_6 (c : Dev nD) (t : Fin cfg0.N) (d0) (b h : ℕ) (hb : b < 8) (hh : h < 2) (d : Fin 64) (u : ℕ) (hu : u < 1869) :
    code ((cfg0.win 6).fill (cfg0.grid.coords t) d0 (iblk m c 6 t)) b h d u
      = tokc (m ((c : Thread nD τ).loc main_arg2)) (8 * (grid0.coords t 0).val + b) (2 * (grid0.coords t 1).val + h) d u := by
  have g0 : (grid0.coords t 0).val < 3 := (grid0.coords t 0).isLt
  have g1 : (grid0.coords t 1).val < 10 := (grid0.coords t 1).isLt
  unfold code cell4 tokc
  rw [dif_pos ⟨hb, hh, d.isLt, by omega⟩, dif_pos ⟨by omega, hu, by omega⟩]
  unfold Window.fill
  rw [dif_pos (((cfg0.win 6).moved_iff _ _).mpr fun a => (inside hb hh d hu a).trans_le (size_6 t a))]
  show V m c main_v2 (((cfg0.win 6).blk t).view.emb _) = _
  rw [V_v2]
  pointwise
  blk_ext [idx_6 t]

/-! ### The body at a point -/

/-- What the body is called with. -/
def pre (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d))
    ∗ (∃ d, owns (c : Thread nD τ) (st0_5 t) fullShare ((datsV m 0 c).before 5 t d))
    ∗ (∃ d, owns (c : Thread nD τ) (st0_6 t) fullShare ((datsV m 0 c).before 6 t d))
    ∗ (∃ d, owns (c : Thread nD τ) (st0_7 t) fullShare ((datsV m 0 c).before 7 t d)))

/-- What it leaves. -/
def post (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t)
    ∗ owns (c : Thread nD τ) (st0_1 t) fullShare ((datsV m 0 c).after 1 t)
    ∗ owns (c : Thread nD τ) (st0_2 t) fullShare ((datsV m 0 c).after 2 t)
    ∗ owns (c : Thread nD τ) (st0_3 t) fullShare ((datsV m 0 c).after 3 t)
    ∗ (∃ d, owns (c : Thread nD τ) (st0_4 t) fullShare ((cfg0.win 4).fill (cfg0.grid.coords t) d ((cfg0.win 4).cut (cfg0.grid.coords t) ((datsV m 0 c).after 4 t))))
    ∗ (∃ d, owns (c : Thread nD τ) (st0_5 t) fullShare ((cfg0.win 5).fill (cfg0.grid.coords t) d ((cfg0.win 5).cut (cfg0.grid.coords t) ((datsV m 0 c).after 5 t))))
    ∗ (∃ d, owns (c : Thread nD τ) (st0_6 t) fullShare ((cfg0.win 6).fill (cfg0.grid.coords t) d ((cfg0.win 6).cut (cfg0.grid.coords t) ((datsV m 0 c).after 6 t))))
    ∗ owns (c : Thread nD τ) (st0_7 t) fullShare ((datsV m 0 c).after 7 t))

theorem block_eq (c : Dev nD) (t : Fin cfg0.N) (d4 d5 d6) {X : S1869x8x128.Idx → EReal}
    (h : GoodO (heads (grid0.coords t 0).val (grid0.coords t 1).val (BitVec.ofNat 32 (grid0.coords t 1).val) (iblk m c 0 t) (iblk m c 1 t) (iblk m c 2 t) (iblk m c 3 t)
      ((cfg0.win 4).fill (cfg0.grid.coords t) d4 (iblk m c 4 t)) ((cfg0.win 5).fill (cfg0.grid.coords t) d5 (iblk m c 5 t)) ((cfg0.win 6).fill (cfg0.grid.coords t) d6 (iblk m c 6 t))) 4 0 X) :
    X = block m c t := by
  funext y
  have hy : y = ix3 (⟨(y 0).val, (y 0).isLt⟩ : Fin 1869) (⟨(y 1).val, (y 1).isLt⟩ : Fin 8) (⟨(y 2).val, (y 2).isLt⟩ : Fin 128) := by
    funext a
    fin_cases a <;> rfl
  have hb : (y 1).val < 8 := (y 1).isLt
  have hl : (y 2).val < 128 := (y 2).isLt
  have hr := h ⟨(y 0).val, (y 0).isLt⟩ ⟨(y 1).val, (y 1).isLt⟩ ⟨(y 2).val, (y 2).isLt⟩ (Or.inl (by simpa using hb))
  rw [hy, hr, heads_eq (A0 := m ((c : Thread nD τ).loc main_arg0)) (A1 := m ((c : Thread nD τ).loc main_arg1)) (A2 := m ((c : Thread nD τ).loc main_arg2)) (y 0).isLt
    (fun d u hu => code_4 m c t d4 _ _ hb (by simp only; omega) d u hu) (fun d u hu => code_5 m c t d5 _ _ hb (by simp only; omega) d u hu)
    (fun d u hu => code_6 m c t d6 _ _ hb (by simp only; omega) d u hu), iblk_0, iblk_1, iblk_2, iblk_3]
  rfl

theorem owns_pt (c : Dev nD) {sp : Space} {sh : Shape} {e : EltTy} (M : Memref sig .tc sp sh e) (hM : M.IsWhole) (X : sh.Idx → Elt Ideal e) :
    owns (c : Thread nD τ) M fullShare X = (iprop(∃ f, ⌜M.view.read (Elt Ideal) f = X⌝ ∗ pt (F := Ideal) c M f) : sProp 𝕄) := by
  unfold owns pt
  rw [hM.set_eq_univ]

theorem outAt_congr {X2 X3 X4 : S24x20.Idx → EReal} {X5 : S20.Idx → BitVec 32} {A0 A1 A2 : S24x1869x20x64.Idx → EReal} {b b' h h' t t' : ℕ} {d d' : Fin 64}
    (hb : b = b') (hh : h = h') (hd : d.val = d'.val) (ht : t = t') : outAt X2 X3 X4 X5 A0 A1 A2 b h d t = outAt X2 X3 X4 X5 A0 A1 A2 b' h' d' t' := by
  rw [hb, hh, Fin.ext hd, ht]

theorem sound_bodyV (c : Dev nD) (t : Fin cfg0.N) :
    pre m c t ⊢ wp frame (wpE (defs₀ (F := Ideal)) 𝒱₀ c none) Set.univ (bodyAt0 t) (fun _ => post m c t) := by
  unfold pre post bodyAt0
  simp only [before_0, before_1, before_2, before_3, before_4, before_5, before_6]
  rw [show (datsV m 0 c).Φ t.castSucc = Pipeline.ΦA spec0 c from rfl, show (datsV m 0 c).Φ t.succ = Pipeline.ΦA spec0 c from rfl,
    show (datsV m 0 c).owesAt () t.succ = (datsV m 0 c).owesAt () t.castSucc from rfl]
  rw [show (datsV m 0 c).after 0 t = iblk m c 0 t from rfl, show (datsV m 0 c).after 1 t = iblk m c 1 t from rfl, show (datsV m 0 c).after 2 t = iblk m c 2 t from rfl,
    show (datsV m 0 c).after 3 t = iblk m c 3 t from rfl, show (datsV m 0 c).after 7 t = block m c t from rfl,
    show (cfg0.win 4).cut (cfg0.grid.coords t) ((datsV m 0 c).after 4 t) = iblk m c 4 t from (cfg0.win 4).cut_fill _ _ _,
    show (cfg0.win 5).cut (cfg0.grid.coords t) ((datsV m 0 c).after 5 t) = iblk m c 5 t from (cfg0.win 5).cut_fill _ _ _,
    show (cfg0.win 6).cut (cfg0.grid.coords t) ((datsV m 0 c).after 6 t) = iblk m c 6 t from (cfg0.win 6).cut_fill _ _ _]
  unfold Pipeline.ΦA
  rw [scopedRest0_eq]
  have e0 := fun X => owns_pt c (st0_0 t) (hstage0_0 ((cfg0.slots t 0).cast nbuf0_0)) X
  have e1 := fun X => owns_pt c (st0_1 t) (hstage0_1 ((cfg0.slots t 1).cast nbuf0_1)) X
  have e2 := fun X => owns_pt c (st0_2 t) (hstage0_2 ((cfg0.slots t 2).cast nbuf0_2)) X
  have e3 := fun X => owns_pt c (st0_3 t) (hstage0_3 ((cfg0.slots t 3).cast nbuf0_3)) X
  have e4 := fun X => owns_pt c (st0_4 t) (hstage0_4 ((cfg0.slots t 4).cast nbuf0_4)) X
  have e5 := fun X => owns_pt c (st0_5 t) (hstage0_5 ((cfg0.slots t 5).cast nbuf0_5)) X
  have e6 := fun X => owns_pt c (st0_6 t) (hstage0_6 ((cfg0.slots t 6).cast nbuf0_6)) X
  have e7 := fun X => owns_pt c (st0_7 t) (hstage0_7 ((cfg0.slots t 7).cast nbuf0_7)) X
  simp only [e0, e1, e2, e3, e4, e5, e6, e7]
  iintro ⟨⟨⟨⟨%g0, G0⟩, ⟨%g1, G1⟩, ⟨%g2, G2⟩⟩, Hp⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  iapply (kernelVal c (grid0.coords t) _ _ _ _ _ _ _ _ _ _ _ _ _ _ _ _ _ _ _ _ _ _ f0 f1 f2 f3 f4 f5 f6 f7 g0 g1 g2 _ _ rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  iintro ⟨H0, H1, H2, H3, H4, H5, H6, ⟨%g7, %h7', H7⟩, G0, G1, G2⟩
  isplitl [Hp G0 G1 G2]
  · isplitl [G0 G1 G2]
    · isplitl [G0]; · iexact G0
      isplitl [G1]; · iexact G1
      iexact G2
    iexact Hp
  isplitl [Ho]; · iexact Ho
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists d4, f4; isplitr; · ipureintro; exact h4
                  iexact H4
  isplitl [H5]; · iexists d5, f5; isplitr; · ipureintro; exact h5
                  iexact H5
  isplitl [H6]; · iexists d6, f6; isplitr; · ipureintro; exact h6
                  iexact H6
  iexists g7
  isplitr
  · ipureintro
    refine block_eq m c t d4 d5 d6 ?_
    rw [← h0, ← h1, ← h2, ← h3, ← h4, ← h5, ← h6]
    exact h7'
  iexact H7

theorem body_obligationV (c : Dev nD) : BodyObligationLoose (datsV m 0 c) (defs₀ (F := Ideal)) 𝒱₀ () Set.univ := fun t => by
  rw [bigSep_W0, bigSep_W0, show defs₀ (F := Ideal) .tc cfg0.body (cfg0.bodyArgs t (cfg0.slots t)) = bodyAt0 t from by unfold defs₀; rw [Defs.onTc_tc]]
  exact triple_restated (sound_bodyV m c t) rfl .rfl fun _ => .rfl

/-! ### The run -/

set_option backward.isDefEq.respectTransparency.types false in
theorem run_mainV : θ_run defs (onTc (τ := τ) (main (F := Ideal))) (s₀ m ρ) (Pipeline.FramePost cfgs (datsV m) 0 (Pipeline.afterTail₀ cfgs (datsV m) 0 (V0 m) [hostOps1])) :=
  Pipeline.θ_run_frame_around (Q' := _) cfgs (datsV m) (0 : Fin 1) launch0 defs₀ 𝒱₀ m ρ main
    (hbody := fun c => body_obligationV m c) (hshare := fun c => (datsV m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

theorem emb_7 (t : Fin cfg0.N) (y : S1869x8x128.Idx) :
    ((win0_7.blk t).view.emb y 0).val = (y 0).val ∧ ((win0_7.blk t).view.emb y 1).val = (grid0.coords t 0).val * 8 + (y 1).val
      ∧ ((win0_7.blk t).view.emb y 2).val = (grid0.coords t 1).val * 128 + (y 2).val := by
  refine ⟨?_, ?_, ?_⟩ <;> blk_simp [idx_7 t] <;> omega

theorem arr_7 (c : Dev nD) : (datsV m 0 c).arrAt 7 cfg0.N = result m c := by
  refine (datsV m 0 c).arrAt_eq_of_covers 7 _ (by decide +kernel) fun t hf y => ?_
  have e := emb_7 t y
  have hl : (y 2).val < 128 := (y 2).isLt
  show block m c t y = result m c ((win0_7.blk t).view.emb y)
  unfold block result whole
  refine outAt_congr ?_ ?_ ?_ ?_
  · omega
  · omega
  · show _ % 64 = _ % 64
    omega
  · exact e.1.symm

set_option backward.isDefEq.respectTransparency.types false in
theorem tail_v4 (c : Dev nD) : Pipeline.afterTail₀ cfgs (datsV m) 0 (V0 m) [hostOps1] c main_v4
    = (transpose S24x1869x1280 [1, 0, 2] (result m c) transposes_S1869x24x1280_S24x1869x1280_1_0_2 : FVec Ideal S24x1869x1280 .bf16) := by
  unfold Pipeline.afterTail₀
  have h : Pipeline.withArrays spec0 c (V0 m c) (fun w => (datsV m 0 c).arrAt w cfg0.N) (Proc.devRef .tc main_v3) = result m c :=
    (Pipeline.withArrays_arr spec0 launch0.win.arr_inj c (V0 m c) _ 7).trans (arr_7 m c)
  rw [← h]
  simp only [List.flatten_cons, List.flatten_nil, List.append_nil]
  rfl

end Cert.Proof.KernelIdeal

end
-- ==== Proof.Ref.Mask.lean ====
/-
  The reference's visibility mask, read at a head and a pair of tokens.
-/
module

public import proofs.«01_k».proof.Proof.Gen.ReferenceIdeal.Run
public import proofs.«01_k».proof.Proof.KI.Whole
public import Idealize.ShloMosaic.Lib.Pointwise
public import Idealize.ShloMosaic.Lib.Tactic.CleanTypes
public import Idealize.ShloMosaic.PureOps.Reduce
public import Idealize.ShloMosaic.Lib.StableHlo.Predicate

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.ShloMosaic.Pointwise
open Cert.Proof.KernelIdeal (sees score att spat Spatial at24 tokc sdot ofBits_ninf)

variable (V0 : Valuation τ sig (Elt Ideal))

theorem tok_at (u : Fin 1869) : (res_main_v1 V0 : IVec S1869 32) (ix1 u) = BitVec.ofNat 32 u := by
  unfold res_main_v1
  pointwise

theorem div_word : ∀ u : Fin 1869, IntOp.divsi ArithUnit.host (BitVec.ofNat 32 u.val) 256#32 = BitVec.ofNat 32 (u.val / 256) := by decide +kernel
theorem rem_word : ∀ u : Fin 1869, IntOp.remsi ArithUnit.host (BitVec.ofNat 32 u.val) 256#32 = BitVec.ofNat 32 (u.val % 256) := by decide +kernel
theorem text_word : ∀ u : Fin 1869, IntOp.cmpi .sge (BitVec.ofNat 32 u.val) 1792#32 = if 1792 ≤ u.val then 1#1 else 0#1 := by decide +kernel
theorem zero_word : ∀ a : Fin 1869, IntOp.cmpi .eq (BitVec.ofNat 32 a.val) 0#32 = if a.val = 0 then 1#1 else 0#1 := by decide +kernel

theorem or_bit (p q : Prop) [Decidable p] [Decidable q] [Decidable (p ∨ q)] : IntOp.ori (if p then 1#1 else 0#1) (if q then 1#1 else 0#1) = if p ∨ q then 1#1 else 0#1 := by
  by_cases hp : p <;> by_cases hq : q <;> simp [hp, hq, IntOp.ori]

theorem eq_word {a b : ℕ} (ha : a < 2 ^ 32) (hb : b < 2 ^ 32) : IntOp.cmpi .eq (BitVec.ofNat 32 a) (BitVec.ofNat 32 b) = if a = b then 1#1 else 0#1 := by
  have h : BitVec.ofNat 32 a = BitVec.ofNat 32 b ↔ a = b := by
    refine ⟨fun e => ?_, fun e => by rw [e]⟩
    have := congrArg BitVec.toNat e
    rwa [BitVec.toNat_ofNat, BitVec.toNat_ofNat, Nat.mod_eq_of_lt ha, Nat.mod_eq_of_lt hb] at this
  show BitVec.ofBool (BitVec.ofNat 32 a == BitVec.ofNat 32 b) = _
  by_cases e : a = b
  · rw [if_pos e, e]; simp
  · rw [if_neg e, beq_eq_false_iff_ne.mpr fun h' => e (h.mp h')]
    rfl

theorem cmpi_bit (a b : BitVec 32) : IntOp.cmpi .eq a b = 1#1 ↔ a = b := by
  show BitVec.ofBool (a == b) = _ ↔ _
  by_cases e : a = b
  · simp [e]
  · rw [beq_eq_false_iff_ne.mpr e]
    simp [e]

theorem fold_or {ι : Type} [DecidableEq ι] (f : ι → BitVec 1) (s : Finset ι) : Finset.fold IntOp.ori (0#1) f s = 1#1 ↔ ∃ x ∈ s, f x = 1#1 := by
  induction s using Finset.induction_on with
  | empty => simp
  | insert a s ha ih =>
    rw [Finset.fold_insert ha]
    have h : ∀ x y : BitVec 1, IntOp.ori x y = 1#1 ↔ x = 1#1 ∨ y = 1#1 := by decide
    rw [h, ih]
    simp

theorem bit_eq_if {b : BitVec 1} {p : Prop} [Decidable p] (h : b = 1#1 ↔ p) : b = if p then 1#1 else 0#1 := by
  have hb : ∀ b : BitVec 1, b = 1#1 ∨ b = 0#1 := by decide
  by_cases hp : p
  · rw [if_pos hp]; exact h.mpr hp
  · rw [if_neg hp]; exact (hb b).resolve_left fun e => hp (h.mp e)

theorem select_bit {α : Type} (p : Prop) [Decidable p] (x y : α) : Scalar.select (if p then 1#1 else 0#1) x y = if p then x else y := by
  by_cases hp : p <;> simp [hp, Scalar.select]

theorem frame_at (u : Fin 1869) : (res_main_v3 V0 : IVec S1869 32) (ix1 u) = BitVec.ofNat 32 (u / 256) := by
  unfold res_main_v3
  pointwise [tok_at]
  exact div_word u

theorem pos_at (u : Fin 1869) : (res_main_v5 V0 : IVec S1869 32) (ix1 u) = BitVec.ofNat 32 (u % 256) := by
  unfold res_main_v5
  pointwise [tok_at]
  exact rem_word u

theorem text_at (u : Fin 1869) : (res_main_v7 V0 : IVec S1869 1) (ix1 u) = if 1792 ≤ (u : ℕ) then 1#1 else 0#1 := by
  unfold res_main_v7
  pointwise [tok_at]
  exact text_word u

theorem either_at (t u : Fin 1869) : (res_main_v12 V0 : IVec S1869x1869 1) (ix2 t u) = if 1792 ≤ (t : ℕ) ∨ 1792 ≤ (u : ℕ) then 1#1 else 0#1 := by
  unfold res_main_v12
  pointwise [text_at]
  exact or_bit _ _

/-- Which heads are spatial, as the reference computes it. -/
theorem spatial_fold (O : S20.Idx → BitVec 32) (w : BitVec 32) :
    Finset.fold IntOp.ori (0#1) (fun x : Fin 11 => IntOp.cmpi .eq (O (ix1 ⟨x.val, by omega⟩)) w) Finset.univ = if spat O w = true then 1#1 else 0#1 := by
  refine bit_eq_if ?_
  rw [fold_or]
  unfold spat
  refine Iff.trans ?_ (@decide_eq_true_iff _ (Classical.propDecidable _)).symm
  unfold Spatial
  simp only [cmpi_bit, Finset.mem_univ, true_and]

/-- A code read at indices in range. -/
theorem tokc_eq (A : S24x1869x20x64.Idx → EReal) (b : Fin 24) (h : Fin 20) (d : Fin 64) (t : Fin 1869) : tokc A b h d t = A (ix4 b t h d) := by
  unfold tokc
  rw [dif_pos ⟨b.isLt, t.isLt, h.isLt⟩]

/-- A scale read at indices in range. -/
theorem at24_eq (X : S24x20.Idx → EReal) (b : Fin 24) (h : Fin 20) : at24 X b h = X (ix2 b h) := by
  unfold at24
  rw [dif_pos ⟨b.isLt, h.isLt⟩]

/-- The masked scaled score. -/
theorem score_at (A0 A1 : S24x1869x20x64.Idx → EReal) (h0 : V0 (Proc.devRef .tc main_v0_0) = A0) (h1 : V0 (Proc.devRef .tc main_v0_1) = A1)
    (b : Fin 24) (h : Fin 20) (t u : Fin 1869) : (res_main_v50 V0 : FVec Ideal S24x20x1869x1869 .f32) (ix4 b h t u)
      = score (spat (V0 (Proc.devRef .tc main_arg6)) (BitVec.ofNat 32 h))
        (at24 (V0 (Proc.devRef .tc main_arg3)) b h * at24 (V0 (Proc.devRef .tc main_arg4)) b h * Ideal.ofBits .f32 0x3E000000#32) (tokc A0 b h) (tokc A1 b h) t u := by
  unfold res_main_v50
  pointwise [either_at, frame_at, pos_at]
  rw [h0, h1, spatial_fold, eq_word (a := (t : ℕ) / 256) (by omega) (by omega), eq_word (a := (t : ℕ) % 256) (by omega) (by omega), eq_word (a := (u : ℕ) / 256) (b := 0) (by omega) (by omega)]
  simp only [or_bit]
  unfold score sees sdot
  simp only [tokc_eq, at24_eq]
  have hc : (id (constant S_ .f32 0xFF800000#32) : FVec Ideal S_ .f32) ix0 = (⊥ : EReal) := ofBits_ninf
  rw [hc]
  cases spat (V0 (Proc.devRef .tc main_arg6)) (BitVec.ofNat 32 h)
  · have h0 : ∀ a b : BitVec 1, Scalar.select (0#1) a b = b := fun _ _ => rfl
    simp only [Bool.false_eq_true, if_false, h0, select_bit, or_assoc]
  · have h1 : ∀ a b : BitVec 1, Scalar.select (1#1) a b = a := fun _ _ => rfl
    simp only [if_true, h1, select_bit, or_assoc]

/-- The exponentials of a row of scores, less the row's largest. -/
theorem exp_at (b : Fin 24) (h : Fin 20) (t u : Fin 1869) (x : ℕ → EReal) (hx : ∀ u : Fin 1869, (res_main_v50 V0 : FVec Ideal S24x20x1869x1869 .f32) (ix4 b h t u) = x u) :
    (res_main_v55 V0 : FVec Ideal S24x20x1869x1869 .f32) (ix4 b h t u) = Ideal.exp (x u - (Finset.range 1869).sup x) := by
  unfold res_main_v55
  clean_types
  pointwise
  simp only [hx]
  have hs : Finset.fold max (⊥ : EReal) (fun w : Fin 1869 => x w) Finset.univ = (Finset.range 1869).sup x := by
    apply le_antisymm
    · refine Finset.fold_max_le _ |>.mpr ⟨bot_le, fun w _ => Finset.le_sup (f := x) (Finset.mem_range.mpr w.isLt)⟩
    · refine Finset.sup_le fun w hw => ?_
      exact Finset.le_fold_max _ |>.mpr (Or.inr ⟨⟨w, Finset.mem_range.mp hw⟩, Finset.mem_univ _, le_rfl⟩)
  rw [ofBits_ninf, hs]

end Cert.Proof.Ref

end
-- ==== Proof.Ref.Widen.lean ====
/-
  The reference's widening region leaves the codes themselves.
-/
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.ShloMosaic.Pointwise
open Idealize.SL.Sem

variable (m : (ℓ : Loc nD τ sig) → Buf (Elt Ideal) ℓ)

theorem widx_0 (t : Fin cfg0.N) : win0_0.index t 0 = 0 ∧ win0_0.index t 1 = 0 ∧ win0_0.index t 2 = 0 ∧ win0_0.index t 3 = 0 := ⟨rfl, rfl, rfl, rfl⟩
theorem widx_1 (t : Fin cfg0.N) : win0_1.index t 0 = 0 ∧ win0_1.index t 1 = 0 ∧ win0_1.index t 2 = 0 ∧ win0_1.index t 3 = 0 := ⟨rfl, rfl, rfl, rfl⟩
theorem widx_2 (t : Fin cfg0.N) : win0_2.index t 0 = 0 ∧ win0_2.index t 1 = 0 ∧ win0_2.index t 2 = 0 ∧ win0_2.index t 3 = 0 := ⟨rfl, rfl, rfl, rfl⟩
theorem widx_3 (t : Fin cfg0.N) : win0_3.index t 0 = 0 ∧ win0_3.index t 1 = 0 ∧ win0_3.index t 2 = 0 ∧ win0_3.index t 3 = 0 := ⟨rfl, rfl, rfl, rfl⟩
theorem widx_4 (t : Fin cfg0.N) : win0_4.index t 0 = 0 ∧ win0_4.index t 1 = 0 ∧ win0_4.index t 2 = 0 ∧ win0_4.index t 3 = 0 := ⟨rfl, rfl, rfl, rfl⟩
theorem widx_5 (t : Fin cfg0.N) : win0_5.index t 0 = 0 ∧ win0_5.index t 1 = 0 ∧ win0_5.index t 2 = 0 ∧ win0_5.index t 3 = 0 := ⟨rfl, rfl, rfl, rfl⟩

theorem reg_0 (c : Dev nD) : reg_main_v0_0 m c = (m ((c.tc : Thread nD τ).loc main_arg0) : S24x1869x20x64.Idx → EReal) := by
  unfold reg_main_v0_0
  refine (dats m 0 c).arrAt_eq_of_covers 3 _ (by decide +kernel) fun t hf y => ?_
  blk_simp
  rw [after0_3]
  frame_out
  show iblk m c 0 t y = _
  blk_ext [iblk, V_main_arg0, widx_0 t, widx_3 t]

theorem reg_1 (c : Dev nD) : reg_main_v0_1 m c = (m ((c.tc : Thread nD τ).loc main_arg1) : S24x1869x20x64.Idx → EReal) := by
  unfold reg_main_v0_1
  refine (dats m 0 c).arrAt_eq_of_covers 4 _ (by decide +kernel) fun t hf y => ?_
  blk_simp
  rw [after0_4]
  frame_out
  show iblk m c 1 t y = _
  blk_ext [iblk, V_main_arg1, widx_1 t, widx_4 t]

theorem reg_2 (c : Dev nD) : reg_main_v0_2 m c = (m ((c.tc : Thread nD τ).loc main_arg2) : S24x1869x20x64.Idx → EReal) := by
  unfold reg_main_v0_2
  refine (dats m 0 c).arrAt_eq_of_covers 5 _ (by decide +kernel) fun t hf y => ?_
  blk_simp
  rw [after0_5]
  frame_out
  show iblk m c 2 t y = _
  blk_ext [iblk, V_main_arg2, widx_2 t, widx_5 t]

end Cert.Proof.Ref

end
-- ==== Proof.Ref.Value.lean ====
/-
  The reference's result, entry by entry, and that it is the kernel's.
-/
module

public import proofs.«01_k».proof.Proof.Ref.Mask
public import proofs.«01_k».proof.Proof.Ref.Widen

@[expose] public section

set_option maxRecDepth 16384

noncomputable section

namespace Cert.Proof.Ref

open Cert.ReferenceIdeal Cert.ReferenceIdeal.Gen Cert.ReferenceIdeal.Value
open Cert.Proof.KernelIdeal (sees score att spat at24 tokc sdot factor outAt)
open Idealize.ShloMosaic Idealize.ShloMosaic.TcCoe Idealize.ShloMosaic.StableHlo
open Idealize.ShloMosaic.Pointwise
open Idealize.SL.Sem

/-- The kernel takes its scores in base two: the factor log₂ e goes into the scale. -/
theorem score_l2e (sp : Bool) (c : EReal) (Q K : Fin 64 → ℕ → EReal) (t u : ℕ) : score sp (c * KernelIdeal.Soft.L2E) Q K t u = score sp c Q K t u * KernelIdeal.Soft.L2E := by
  unfold score
  split
  · rw [mul_assoc]
  · exact KernelIdeal.Soft.bot_mul_l2e.symm

/-- Base-two softmax attention is softmax attention. -/
theorem att_l2e (x V : ℕ → EReal) (vs : EReal) : att (fun u => x u * KernelIdeal.Soft.L2E) V vs
    = (∑ u ∈ Finset.range 1869, V u * (Ideal.exp (x u - (Finset.range 1869).sup x) *
        Ideal.div 1 (∑ w ∈ Finset.range 1869, Ideal.exp (x w - (Finset.range 1869).sup x)))) * vs :=
  KernelIdeal.Soft.soft_eq (Finset.range 1869) ⟨0, by simp⟩ x V vs

variable (V0 : Valuation τ sig (Elt Ideal))

/-- The attention array before the value scale. -/
def attn : FVec Ideal S24x20x64x1869 .f32 := Host.dotGeneral (F := Ideal) (φ₁ := .bf16) (φ₂ := .bf16) dot_S24x1869x20x64_S24x20x1869x1869_S24x20x64x1869_1_3_3_2_02_01 none (truncf .bf16 (V0 (Proc.devRef .tc main_v0_2) : FVec Ideal S24x1869x20x64 .f32) bitsLt_bf16_f32) (truncf .bf16 (mulf (res_main_v55 V0) (broadcastInDim S24x20x1869x1869 ![0, 1, 2, 3] bcast_S24x20x1869x1_S24x20x1869x1869_0_1_2_3 (Host.divf (broadcastInDim S24x20x1869x1 ![] bcast_S_S24x20x1869x1 (constant S_ .f32 0x3F800000#32)) (broadcastInDim S24x20x1869x1 ![0, 1, 2] bcast_S24x20x1869_S24x20x1869x1_0_1_2 (Host.reduceAdd (res_main_v55 V0) (constant S_ .f32 0x00000000#32) reducesTo_S24x20x1869x1869_S24x20x1869_d3 h_S_))))) bitsLt_bf16_f32)

/-- The reference's result. -/
def refOut : FVec Ideal S24x1869x1280 .bf16 := truncf .bf16 (shapeCast _ (mulf (transpose S24x1869x20x64 [0, 3, 1, 2] (attn V0) transposes_S24x20x64x1869_S24x1869x20x64_0_3_1_2) (broadcastInDim S24x1869x20x64 ![0, 1, 2, 3] bcast_S24x1x20x1_S24x1869x20x64_0_1_2_3 (broadcastInDim S24x1x20x1 ![0, 2] bcast_S24x20_S24x1x20x1_0_2 (V0 (Proc.devRef .tc main_arg5))))) shapeCasts_S24x1869x20x64_S24x1869x1280) bitsLt_bf16_f32

variable (A0 A1 A2 : S24x1869x20x64.Idx → EReal)

theorem attn_at (h2 : V0 (Proc.devRef .tc main_v0_2) = A2) (b : Fin 24) (h : Fin 20) (d : Fin 64) (t : Fin 1869) (x : ℕ → EReal)
    (hx : ∀ u : Fin 1869, (res_main_v50 V0 : FVec Ideal S24x20x1869x1869 .f32) (ix4 b h t u) = x u) :
    attn V0 (ix4 b h d t) = ∑ u ∈ Finset.range 1869, tokc A2 b h d u * (Ideal.exp (x u - (Finset.range 1869).sup x) *
        Ideal.div 1 (∑ w ∈ Finset.range 1869, Ideal.exp (x w - (Finset.range 1869).sup x))) := by
  unfold attn
  clean_types
  pointwise
  simp only [fun u => exp_at V0 b h t u x hx, h2, ← tokc_eq, Ideal.ofBits_one_f32, Ideal.ofBits_zero_f32, zero_add]
  rw [Finset.sum_range (fun u => tokc A2 b h d u * (Ideal.exp (x u - (Finset.range 1869).sup x) * Ideal.div 1 (∑ w ∈ Finset.range 1869, Ideal.exp (x w - (Finset.range 1869).sup x)))),
    Finset.sum_range (fun w => Ideal.exp (x w - (Finset.range 1869).sup x))]

theorem refOut_at (h0 : V0 (Proc.devRef .tc main_v0_0) = A0) (h1 : V0 (Proc.devRef .tc main_v0_1) = A1) (h2 : V0 (Proc.devRef .tc main_v0_2) = A2)
    (b : Fin 24) (t : Fin 1869) (l : Fin 1280) : refOut V0 (ix3 b t l)
      = outAt (V0 (Proc.devRef .tc main_arg3)) (V0 (Proc.devRef .tc main_arg4)) (V0 (Proc.devRef .tc main_arg5)) (V0 (Proc.devRef .tc main_arg6)) A0 A1 A2
        b (l / 64) ⟨l % 64, Nat.mod_lt _ (by decide)⟩ t := by
  have hl : (l : ℕ) / 64 < 20 := by omega
  have e := attn_at V0 A2 h2 b ⟨l / 64, hl⟩ ⟨l % 64, Nat.mod_lt _ (by decide)⟩ t _ (fun u => score_at V0 A0 A1 h0 h1 b ⟨l / 64, hl⟩ t u)
  have hr : refOut V0 (ix3 b t l) = attn V0 (ix4 b ⟨l / 64, hl⟩ ⟨l % 64, Nat.mod_lt _ (by decide)⟩ t) * (V0 (Proc.devRef .tc main_arg5) : S24x20.Idx → EReal) (ix2 b ⟨l / 64, hl⟩) := by
    unfold refOut
    pointwise
  rw [hr, e, ← at24_eq (V0 (Proc.devRef .tc main_arg5)) b ⟨l / 64, hl⟩, ← att_l2e]
  unfold outAt factor
  simp only [← score_l2e]

end Cert.Proof.Ref

end
-- ==== Proof.lean ====
module

public import proofs.«01_k».proof.Defs
public import proofs.«01_k».proof.Proof.KB.Run
public import proofs.«01_k».proof.Proof.KI.Run
public import proofs.«01_k».proof.Proof.KI.RunV
public import proofs.«01_k».proof.Proof.Ref.Value
public import proofs.«01_k».proof.Proof.Gen.ReferenceIdeal
public import proofs.«01_k».proof.Proof.Gen.ReferenceIdeal.Frame
public import proofs.«01_k».proof.Proof.Gen.ReferenceIdeal.Run
public import Idealize.ShloMosaic.Lib.Bf16Pair

@[expose] public section

noncomputable section

namespace Cert.Proof

open Idealize.ShloMosaic Idealize.SL.Sem

theorem preserves : Cert.preserves_Kernel_KernelIdeal :=
  ⟨IdealRules.named_const.statement Cert.KernelIdeal.κ "log2e" .f32 0x3FB8AA3B#32 _ rfl,
    IdealRules.bf16_pair.packStatement _, IdealRules.bf16_pair.statement _ _, IdealRules.bf16_pair.statement _ _⟩

/-- The kernel's result array, seen as @main returns it. -/
def out (m : (ℓ : Loc Cert.KernelIdeal.nD Cert.KernelIdeal.τ Cert.KernelIdeal.sig) → Buf (Elt Ideal) ℓ) (c : Dev Cert.KernelIdeal.nD) :
    FVec Ideal Cert.KernelIdeal.S24x1869x1280 .bf16 :=
  transpose Cert.KernelIdeal.S24x1869x1280 [1, 0, 2] (KernelIdeal.result m c) Cert.KernelIdeal.Gen.transposes_S1869x24x1280_S24x1869x1280_1_0_2

theorem out_at (m : (ℓ : Loc Cert.KernelIdeal.nD Cert.KernelIdeal.τ Cert.KernelIdeal.sig) → Buf (Elt Ideal) ℓ) (c : Dev Cert.KernelIdeal.nD)
    (b : Fin 24) (t : Fin 1869) (l : Fin 1280) : out m c (ix3 b t l) = KernelIdeal.result m c (ix3 t b l) := by
  unfold out
  pointwise

set_option backward.isDefEq.respectTransparency.types false in
/-- Over the reals, from arguments that agree, both programs leave one and the same result. -/
theorem algebraic : Cert.algebraic_KernelIdeal_ReferenceIdeal := by
  intro m g m' g' _ hagree
  refine ⟨fun c => out m c, ?_, ?_⟩
  · refine (θ_run Cert.KernelIdeal.defs _ _).mono (fun r h c => ⟨?_, h.2 c⟩)
      (θ_run_and (KernelIdeal.run_mainV m g) (Cert.KernelIdeal.Gen.frame_of m g (KernelIdeal.datsV m) (KernelIdeal.A_eq m) (KernelIdeal.run_mainV m g)))
    exact ((h.1 c).2 Cert.KernelIdeal.main_v4 (Pipeline.mem_restRefs_of Cert.KernelIdeal.main_v4 (by decide) (by decide))).trans (KernelIdeal.tail_v4 m c)
  · refine (θ_run Cert.ReferenceIdeal.defs _ _).mono (fun r h c => ⟨(h c).1.trans ?_, (h c).2⟩) (Cert.ReferenceIdeal.Value.run (F := Ideal) m' g')
    obtain ⟨a0, a1, a2, a3, a4, a5, a6⟩ := hagree c
    show Ref.refOut (Cert.ReferenceIdeal.Value.exitV m' c) = out m c
    funext i
    obtain ⟨b, t, l, rfl⟩ : ∃ (b : Fin 24) (t : Fin 1869) (l : Fin 1280), i = ix3 b t l := ⟨i 0, i 1, i 2, eq_ix3 i⟩
    rw [out_at, Ref.refOut_at _ _ _ _ ((Cert.ReferenceIdeal.Value.exit_main_v0_0 m' c).trans (Ref.reg_0 m' c))
      ((Cert.ReferenceIdeal.Value.exit_main_v0_1 m' c).trans (Ref.reg_1 m' c)) ((Cert.ReferenceIdeal.Value.exit_main_v0_2 m' c).trans (Ref.reg_2 m' c)),
      Cert.ReferenceIdeal.Value.exit_main_arg3, Cert.ReferenceIdeal.Value.exit_main_arg4, Cert.ReferenceIdeal.Value.exit_main_arg5,
      Cert.ReferenceIdeal.Value.exit_main_arg6, a0, a1, a2, a3, a4, a5, a6]
    rfl

theorem claim : Cert.Claim :=
  ⟨Cert.Kernel.Gen.facts, Cert.KernelIdeal.Gen.facts, Cert.ReferenceIdeal.Gen.facts, fun m ρ _ => Kernel.frame_all (F := Bits) m ρ,
    fun m ρ _ => KernelIdeal.frame_all (F := Ideal) m ρ, fun m ρ _ => Cert.ReferenceIdeal.Gen.frame m ρ, preserves, algebraic⟩

end Cert.Proof

end
